-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 128]⟩ ⟨2, ![4096, 256]⟩ (Layout.meshBlock [2, 2, 2] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 4096]⟩ ⟨2, ![256, 4096]⟩ (Layout.meshBlock [2, 2, 2] ![[2], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 4096]⟩ ⟨2, ![256, 4096]⟩ (Layout.meshBlock [2, 2, 2] ![[2], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x4096 : Shape := ⟨3, ![4, 256, 4096]⟩
abbrev S4096x128 : Shape := ⟨2, ![4096, 128]⟩
abbrev S128x4096 : Shape := ⟨2, ![128, 4096]⟩
abbrev S4096x4096 : Shape := ⟨2, ![4096, 4096]⟩
abbrev S4096x2048 : Shape := ⟨2, ![4096, 2048]⟩
abbrev S4096x64 : Shape := ⟨2, ![4096, 64]⟩
abbrev S64x4096 : Shape := ⟨2, ![64, 4096]⟩
abbrev S256x4096 : Shape := ⟨2, ![256, 4096]⟩
abbrev S256x128 : Shape := ⟨2, ![256, 128]⟩
abbrev S128x2048 : Shape := ⟨2, ![128, 2048]⟩
abbrev S256x2048 : Shape := ⟨2, ![256, 2048]⟩
abbrev S256x64 : Shape := ⟨2, ![256, 64]⟩
abbrev S256x1024 : Shape := ⟨2, ![256, 1024]⟩
abbrev S2x4096x256 : Shape := ⟨3, ![2, 4096, 256]⟩
abbrev S2x4096x128 : Shape := ⟨3, ![2, 4096, 128]⟩
abbrev S_ : Shape := ⟨0, ![]⟩
abbrev S2 : Shape := ⟨1, ![2]⟩
abbrev S3 : Shape := ⟨1, ![3]⟩
abbrev S8 : Shape := ⟨1, ![8]⟩
abbrev S4x16 : Shape := ⟨2, ![4, 16]⟩
abbrev S1 : Shape := ⟨1, ![1]⟩
abbrev S1x4096x256 : Shape := ⟨3, ![1, 4096, 256]⟩
abbrev S4096x256 : Shape := ⟨2, ![4096, 256]⟩
abbrev S1x4096x128 : Shape := ⟨3, ![1, 4096, 128]⟩
abbrev S1x256x4096 : Shape := ⟨3, ![1, 256, 4096]⟩
abbrev S256x256 : Shape := ⟨2, ![256, 256]⟩
abbrev S64x256 : Shape := ⟨2, ![64, 256]⟩
abbrev S128x256 : Shape := ⟨2, ![128, 256]⟩
abbrev S256 : Shape := ⟨1, ![256]⟩
abbrev S256x1 : Shape := ⟨2, ![256, 1]⟩
abbrev S1x256x256 : Shape := ⟨3, ![1, 256, 256]⟩
abbrev S1x1 : Shape := ⟨2, ![1, 1]⟩
abbrev S1x128x256 : Shape := ⟨3, ![1, 128, 256]⟩

abbrev nBuf : Space → Nat
  | .hbm => 10
  | .vmem => 22
  | .smem => 0
  | _ => 0

abbrev bufTy : (tb : Table) → Fin (tcTables nBuf tb) → BufTy
  | .hbm, ⟨0, _⟩ => ⟨S4x256x4096, .f32⟩
  | .hbm, ⟨1, _⟩ => ⟨S4096x128, .f32⟩
  | .hbm, ⟨2, _⟩ => ⟨S128x4096, .f32⟩
  | .hbm, ⟨3, _⟩ => ⟨S128x4096, .f32⟩
  | .hbm, ⟨4, _⟩ => ⟨S4096x4096, .f32⟩
  | .hbm, ⟨5, _⟩ => ⟨S4096x2048, .f32⟩
  | .hbm, ⟨6, _⟩ => ⟨S4096x64, .f32⟩
  | .hbm, ⟨7, _⟩ => ⟨S4096x4096, .f32⟩
  | .hbm, ⟨8, _⟩ => ⟨S64x4096, .f32⟩
  | .hbm, ⟨9, _⟩ => ⟨S4x256x4096, .bf16⟩
  | .local _ .vmem, ⟨0, _⟩ => ⟨S4096x128, .f32⟩
  | .local _ .vmem, ⟨1, _⟩ => ⟨S128x4096, .f32⟩
  | .local _ .vmem, ⟨2, _⟩ => ⟨S128x4096, .f32⟩
  | .local _ .vmem, ⟨3, _⟩ => ⟨S64x4096, .f32⟩
  | .local _ .vmem, ⟨4, _⟩ => ⟨S4x256x4096, .bf16⟩
  | .local _ .vmem, ⟨5, _⟩ => ⟨S256x4096, .f32⟩
  | .local _ .vmem, ⟨6, _⟩ => ⟨S256x4096, .bf16⟩
  | .local _ .vmem, ⟨7, _⟩ => ⟨S256x128, .bf16⟩
  | .local _ .vmem, ⟨8, _⟩ => ⟨S256x128, .bf16⟩
  | .local _ .vmem, ⟨9, _⟩ => ⟨S128x2048, .bf16⟩
  | .local _ .vmem, ⟨10, _⟩ => ⟨S128x2048, .bf16⟩
  | .local _ .vmem, ⟨11, _⟩ => ⟨S128x2048, .bf16⟩
  | .local _ .vmem, ⟨12, _⟩ => ⟨S128x2048, .bf16⟩
  | .local _ .vmem, ⟨13, _⟩ => ⟨S256x2048, .bf16⟩
  | .local _ .vmem, ⟨14, _⟩ => ⟨S256x2048, .bf16⟩
  | .local _ .vmem, ⟨15, _⟩ => ⟨S256x64, .bf16⟩
  | .local _ .vmem, ⟨16, _⟩ => ⟨S256x2048, .bf16⟩
  | .local _ .vmem, ⟨17, _⟩ => ⟨S256x1024, .bf16⟩
  | .local _ .vmem, ⟨18, _⟩ => ⟨S256x4096, .bf16⟩
  | .local _ .vmem, ⟨19, _⟩ => ⟨S2x4096x256, .f32⟩
  | .local _ .vmem, ⟨20, _⟩ => ⟨S2x4096x128, .f32⟩
  | .local _ .vmem, ⟨21, _⟩ => ⟨S2x4096x256, .f32⟩
  | _, _ => ⟨S4x256x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 1 → Bool
  | ⟨0, _⟩ => false
  | _ => false

abbrev dmaSemScoped : Fin 162 → Bool
  | ⟨i, _⟩ => dmaSemScopedAt i

abbrev sig : RefSig :=
  (ofTc nBuf bufTy 1 162 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc0_scratch11 : Ref sig .tc := ⟨.vmem, 16, rfl⟩
abbrev cc0_scratch12 : Ref sig .tc := ⟨.vmem, 17, rfl⟩
abbrev cc0_scratch13 : Ref sig .tc := ⟨.vmem, 18, rfl⟩
abbrev cc0_scratch14 : Ref sig .tc := ⟨.vmem, 19, rfl⟩
abbrev cc0_scratch15 : Ref sig .tc := ⟨.vmem, 20, rfl⟩
abbrev cc0_scratch16 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let c0_i32_15 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v20 : BitVec 32 := Scalar.muli v8 c2048_i32
  let v22 : BitVec 32 := Scalar.addi v20 c0_i32
  ![0, v22.toNat]
def k0_off2 (d0 : Dev nD) (c0_i32_16 : BitVec 32) : Fin 2 → Nat :=
  let c0_i32_21 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v21 : BitVec 32 := Scalar.muli v8 c1024_i32
  let v28 : BitVec 32 := Scalar.addi v21 c0_i32_16
  ![0, v28.toNat]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_22 : BitVec 32 := 0#32
  let c0_i32_23 : BitVec 32 := 0#32
  ![v10.toNat, 0, 0]
def k0_off4 (d0 : Dev nD) : Fin 2 → Nat :=
  let c0_36 : Index := 0#32
  let c2048_i32_35 : BitVec 32 := 2048#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v20 : BitVec 32 := Scalar.muli v8 c2048_i32
  let v52 : BitVec 32 := Scalar.subi c2048_i32_35 v20
  let v53 : Index := Scalar.indexCast v52
  ![0, v53.toNat]
def k0_dev1 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v68 : BitVec 32 := Scalar.muli v2 c4_i32_43
  let v69 : BitVec 32 := Scalar.addi c0_i32_44 v68
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v70 : BitVec 32 := Scalar.muli v5 c2_i32_45
  let v71 : BitVec 32 := Scalar.addi v69 v70
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_46 : BitVec 32 := 1#32
  let v72 : BitVec 32 := Scalar.muli v17 c1_i32_46
  let v73 : BitVec 32 := Scalar.addi v71 v72
  v73.toNat
def k0_dev2 (d0 : Dev nD) : Nat :=
  let c0_i32_49 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_48 : BitVec 32 := 4#32
  let v74 : BitVec 32 := Scalar.muli v18 c4_i32_48
  let v75 : BitVec 32 := Scalar.addi c0_i32_49 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v76 : BitVec 32 := Scalar.muli v5 c2_i32_50
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_51 : BitVec 32 := 1#32
  let v78 : BitVec 32 := Scalar.muli v8 c1_i32_51
  let v79 : BitVec 32 := Scalar.addi v77 v78
  v79.toNat
def k0_dev3 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_53 : BitVec 32 := 4#32
  let v80 : BitVec 32 := Scalar.muli v2 c4_i32_53
  let v81 : BitVec 32 := Scalar.addi c0_i32_54 v80
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_55 : BitVec 32 := 2#32
  let v82 : BitVec 32 := Scalar.muli v19 c2_i32_55
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v84 : BitVec 32 := Scalar.muli v8 c1_i32_56
  let v85 : BitVec 32 := Scalar.addi v83 v84
  v85.toNat
def k0_dev4 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v86 : BitVec 32 := Scalar.muli v2 c4_i32_59
  let v87 : BitVec 32 := Scalar.addi c0_i32_60 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v88 : BitVec 32 := Scalar.muli v5 c2_i32_61
  let v89 : BitVec 32 := Scalar.addi v87 v88
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_62 : BitVec 32 := 1#32
  let v90 : BitVec 32 := Scalar.muli v17 c1_i32_62
  let v91 : BitVec 32 := Scalar.addi v89 v90
  v91.toNat
def k0_dev5 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v96 : BitVec 32 := Scalar.muli v2 c4_i32_65
  let v97 : BitVec 32 := Scalar.addi c0_i32_66 v96
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v98 : BitVec 32 := Scalar.muli v5 c2_i32_67
  let v99 : BitVec 32 := Scalar.addi v97 v98
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_68 : BitVec 32 := 1#32
  let v100 : BitVec 32 := Scalar.muli v17 c1_i32_68
  let v101 : BitVec 32 := Scalar.addi v99 v100
  v101.toNat
def k0_dev6 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v106 : BitVec 32 := Scalar.muli v2 c4_i32_71
  let v107 : BitVec 32 := Scalar.addi c0_i32_72 v106
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v108 : BitVec 32 := Scalar.muli v5 c2_i32_73
  let v109 : BitVec 32 := Scalar.addi v107 v108
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_74 : BitVec 32 := 1#32
  let v110 : BitVec 32 := Scalar.muli v17 c1_i32_74
  let v111 : BitVec 32 := Scalar.addi v109 v110
  v111.toNat
def k0_off5 (d0 : Dev nD) : Fin 2 → Nat :=
  let c0_397 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v20 : BitVec 32 := Scalar.muli v8 c2048_i32
  let v481 : Index := Scalar.indexCast v20
  ![0, v481.toNat]
def k0_off6 (d0 : Dev nD) (c0_i32_457 : BitVec 32) : Fin 2 → Nat :=
  let c0_458 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v20 : BitVec 32 := Scalar.muli v8 c2048_i32
  let v565 : BitVec 32 := Scalar.addi v20 c0_i32_457
  let v566 : Index := Scalar.indexCast v565
  ![0, v566.toNat]
def k0_off7 (d0 : Dev nD) (c0_i32_459 : BitVec 32) : Fin 2 → Nat :=
  let c0_i32_466 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v20 : BitVec 32 := Scalar.muli v8 c2048_i32
  let v570 : BitVec 32 := Scalar.addi v20 c0_i32_459
  ![0, v570.toNat]
def k0_dev7 (d0 : Dev nD) : Nat :=
  let c0_i32_463 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_462 : BitVec 32 := 4#32
  let v571 : BitVec 32 := Scalar.muli v2 c4_i32_462
  let v572 : BitVec 32 := Scalar.addi c0_i32_463 v571
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_464 : BitVec 32 := 2#32
  let v573 : BitVec 32 := Scalar.muli v5 c2_i32_464
  let v574 : BitVec 32 := Scalar.addi v572 v573
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_465 : BitVec 32 := 1#32
  let v575 : BitVec 32 := Scalar.muli v17 c1_i32_465
  let v576 : BitVec 32 := Scalar.addi v574 v575
  v576.toNat
def k0_dev8 (d0 : Dev nD) : Nat :=
  let c0_i32_500 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_499 : BitVec 32 := 4#32
  let v634 : BitVec 32 := Scalar.muli v2 c4_i32_499
  let v635 : BitVec 32 := Scalar.addi c0_i32_500 v634
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_501 : BitVec 32 := 2#32
  let v636 : BitVec 32 := Scalar.muli v5 c2_i32_501
  let v637 : BitVec 32 := Scalar.addi v635 v636
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_502 : BitVec 32 := 1#32
  let v638 : BitVec 32 := Scalar.muli v17 c1_i32_502
  let v639 : BitVec 32 := Scalar.addi v637 v638
  v639.toNat
def k0_dev9 (d0 : Dev nD) : Nat :=
  let c0_i32_537 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_536 : BitVec 32 := 4#32
  let v697 : BitVec 32 := Scalar.muli v2 c4_i32_536
  let v698 : BitVec 32 := Scalar.addi c0_i32_537 v697
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_538 : BitVec 32 := 2#32
  let v699 : BitVec 32 := Scalar.muli v5 c2_i32_538
  let v700 : BitVec 32 := Scalar.addi v698 v699
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_539 : BitVec 32 := 1#32
  let v701 : BitVec 32 := Scalar.muli v17 c1_i32_539
  let v702 : BitVec 32 := Scalar.addi v700 v701
  v702.toNat
def k0_dev10 (d0 : Dev nD) : Nat :=
  let c0_i32_574 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_573 : BitVec 32 := 4#32
  let v760 : BitVec 32 := Scalar.muli v2 c4_i32_573
  let v761 : BitVec 32 := Scalar.addi c0_i32_574 v760
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_575 : BitVec 32 := 2#32
  let v762 : BitVec 32 := Scalar.muli v5 c2_i32_575
  let v763 : BitVec 32 := Scalar.addi v761 v762
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_576 : BitVec 32 := 1#32
  let v764 : BitVec 32 := Scalar.muli v17 c1_i32_576
  let v765 : BitVec 32 := Scalar.addi v763 v764
  v765.toNat
def k0_dev11 (d0 : Dev nD) : Nat :=
  let c0_i32_610 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_609 : BitVec 32 := 4#32
  let v823 : BitVec 32 := Scalar.muli v2 c4_i32_609
  let v824 : BitVec 32 := Scalar.addi c0_i32_610 v823
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_611 : BitVec 32 := 2#32
  let v825 : BitVec 32 := Scalar.muli v5 c2_i32_611
  let v826 : BitVec 32 := Scalar.addi v824 v825
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_612 : BitVec 32 := 1#32
  let v827 : BitVec 32 := Scalar.muli v17 c1_i32_612
  let v828 : BitVec 32 := Scalar.addi v826 v827
  v828.toNat
def k0_dev12 (d0 : Dev nD) : Nat :=
  let c0_i32_645 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_644 : BitVec 32 := 4#32
  let v886 : BitVec 32 := Scalar.muli v2 c4_i32_644
  let v887 : BitVec 32 := Scalar.addi c0_i32_645 v886
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_646 : BitVec 32 := 2#32
  let v888 : BitVec 32 := Scalar.muli v5 c2_i32_646
  let v889 : BitVec 32 := Scalar.addi v887 v888
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_647 : BitVec 32 := 1#32
  let v890 : BitVec 32 := Scalar.muli v17 c1_i32_647
  let v891 : BitVec 32 := Scalar.addi v889 v890
  v891.toNat
def k0_dev13 (d0 : Dev nD) : Nat :=
  let c0_i32_680 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_679 : BitVec 32 := 4#32
  let v949 : BitVec 32 := Scalar.muli v2 c4_i32_679
  let v950 : BitVec 32 := Scalar.addi c0_i32_680 v949
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_681 : BitVec 32 := 2#32
  let v951 : BitVec 32 := Scalar.muli v5 c2_i32_681
  let v952 : BitVec 32 := Scalar.addi v950 v951
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_682 : BitVec 32 := 1#32
  let v953 : BitVec 32 := Scalar.muli v17 c1_i32_682
  let v954 : BitVec 32 := Scalar.addi v952 v953
  v954.toNat
def k0_dev14 (d0 : Dev nD) : Nat :=
  let c0_i32_715 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_714 : BitVec 32 := 4#32
  let v1012 : BitVec 32 := Scalar.muli v2 c4_i32_714
  let v1013 : BitVec 32 := Scalar.addi c0_i32_715 v1012
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_716 : BitVec 32 := 2#32
  let v1014 : BitVec 32 := Scalar.muli v5 c2_i32_716
  let v1015 : BitVec 32 := Scalar.addi v1013 v1014
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_717 : BitVec 32 := 1#32
  let v1016 : BitVec 32 := Scalar.muli v17 c1_i32_717
  let v1017 : BitVec 32 := Scalar.addi v1015 v1016
  v1017.toNat
def k0_off8 (d0 : Dev nD) (c0_i32_721 : BitVec 32) : Fin 2 → Nat :=
  let c0_i32_728 : BitVec 32 := 0#32
  let c2048_i32_720 : BitVec 32 := 2048#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v20 : BitVec 32 := Scalar.muli v8 c2048_i32
  let v1024 : BitVec 32 := Scalar.subi c2048_i32_720 v20
  let v1025 : BitVec 32 := Scalar.addi v1024 c0_i32_721
  ![0, v1025.toNat]
def k0_off9 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v1137 : Index := Scalar.indexCast v10
  let c0_818 : Index := 0#32
  let c0_819 : Index := 0#32
  ![v1137.toNat, 0, 0]
def k0_off10 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_828 : BitVec 32 := 0#32
  let c0_i32_829 : BitVec 32 := 0#32
  ![v10.toNat, 0, 0]
def k0_dev15 (d0 : Dev nD) : Nat :=
  let c0_i32_825 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_824 : BitVec 32 := 4#32
  let v1139 : BitVec 32 := Scalar.muli v18 c4_i32_824
  let v1140 : BitVec 32 := Scalar.addi c0_i32_825 v1139
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_826 : BitVec 32 := 2#32
  let v1141 : BitVec 32 := Scalar.muli v5 c2_i32_826
  let v1142 : BitVec 32 := Scalar.addi v1140 v1141
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_827 : BitVec 32 := 1#32
  let v1143 : BitVec 32 := Scalar.muli v8 c1_i32_827
  let v1144 : BitVec 32 := Scalar.addi v1142 v1143
  v1144.toNat
def k0_dev16 (d0 : Dev nD) : Nat :=
  let c0_i32_837 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_836 : BitVec 32 := 4#32
  let v1153 : BitVec 32 := Scalar.muli v2 c4_i32_836
  let v1154 : BitVec 32 := Scalar.addi c0_i32_837 v1153
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_838 : BitVec 32 := 2#32
  let v1155 : BitVec 32 := Scalar.muli v19 c2_i32_838
  let v1156 : BitVec 32 := Scalar.addi v1154 v1155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_839 : BitVec 32 := 1#32
  let v1157 : BitVec 32 := Scalar.muli v8 c1_i32_839
  let v1158 : BitVec 32 := Scalar.addi v1156 v1157
  v1158.toNat
def k0_off11 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v1184 : Index := Scalar.indexCast v10
  let c0_862 : Index := 0#32
  let c256_863 : Index := 256#32
  ![v1184.toNat, 0, 256]
def k0_off12 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_872 : BitVec 32 := 0#32
  let c256_i32_873 : BitVec 32 := 256#32
  ![v10.toNat, 0, 256]
def k0_dev17 (d0 : Dev nD) : Nat :=
  let c0_i32_869 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_868 : BitVec 32 := 4#32
  let v1186 : BitVec 32 := Scalar.muli v18 c4_i32_868
  let v1187 : BitVec 32 := Scalar.addi c0_i32_869 v1186
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_870 : BitVec 32 := 2#32
  let v1188 : BitVec 32 := Scalar.muli v5 c2_i32_870
  let v1189 : BitVec 32 := Scalar.addi v1187 v1188
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_871 : BitVec 32 := 1#32
  let v1190 : BitVec 32 := Scalar.muli v8 c1_i32_871
  let v1191 : BitVec 32 := Scalar.addi v1189 v1190
  v1191.toNat
def k0_dev18 (d0 : Dev nD) : Nat :=
  let c0_i32_881 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_880 : BitVec 32 := 4#32
  let v1200 : BitVec 32 := Scalar.muli v2 c4_i32_880
  let v1201 : BitVec 32 := Scalar.addi c0_i32_881 v1200
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_882 : BitVec 32 := 2#32
  let v1202 : BitVec 32 := Scalar.muli v19 c2_i32_882
  let v1203 : BitVec 32 := Scalar.addi v1201 v1202
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_883 : BitVec 32 := 1#32
  let v1204 : BitVec 32 := Scalar.muli v8 c1_i32_883
  let v1205 : BitVec 32 := Scalar.addi v1203 v1204
  v1205.toNat
def k0_off13 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v1231 : Index := Scalar.indexCast v10
  let c0_906 : Index := 0#32
  let c512_907 : Index := 512#32
  ![v1231.toNat, 0, 512]
def k0_off14 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_916 : BitVec 32 := 0#32
  let c512_i32_917 : BitVec 32 := 512#32
  ![v10.toNat, 0, 512]
def k0_dev19 (d0 : Dev nD) : Nat :=
  let c0_i32_913 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_912 : BitVec 32 := 4#32
  let v1233 : BitVec 32 := Scalar.muli v18 c4_i32_912
  let v1234 : BitVec 32 := Scalar.addi c0_i32_913 v1233
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_914 : BitVec 32 := 2#32
  let v1235 : BitVec 32 := Scalar.muli v5 c2_i32_914
  let v1236 : BitVec 32 := Scalar.addi v1234 v1235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_915 : BitVec 32 := 1#32
  let v1237 : BitVec 32 := Scalar.muli v8 c1_i32_915
  let v1238 : BitVec 32 := Scalar.addi v1236 v1237
  v1238.toNat
def k0_dev20 (d0 : Dev nD) : Nat :=
  let c0_i32_925 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_924 : BitVec 32 := 4#32
  let v1247 : BitVec 32 := Scalar.muli v2 c4_i32_924
  let v1248 : BitVec 32 := Scalar.addi c0_i32_925 v1247
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_926 : BitVec 32 := 2#32
  let v1249 : BitVec 32 := Scalar.muli v19 c2_i32_926
  let v1250 : BitVec 32 := Scalar.addi v1248 v1249
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_927 : BitVec 32 := 1#32
  let v1251 : BitVec 32 := Scalar.muli v8 c1_i32_927
  let v1252 : BitVec 32 := Scalar.addi v1250 v1251
  v1252.toNat
def k0_off15 (d0 : Dev nD) : Fin 3 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c0_i32_964 : BitVec 32 := 0#32
  let c0_i32_965 : BitVec 32 := 0#32
  ![v13.toNat, 0, 0]
def k0_dev21 (d0 : Dev nD) : Nat :=
  let c0_i32_961 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_960 : BitVec 32 := 4#32
  let v1285 : BitVec 32 := Scalar.muli v2 c4_i32_960
  let v1286 : BitVec 32 := Scalar.addi c0_i32_961 v1285
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_962 : BitVec 32 := 2#32
  let v1287 : BitVec 32 := Scalar.muli v19 c2_i32_962
  let v1288 : BitVec 32 := Scalar.addi v1286 v1287
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_963 : BitVec 32 := 1#32
  let v1289 : BitVec 32 := Scalar.muli v8 c1_i32_963
  let v1290 : BitVec 32 := Scalar.addi v1288 v1289
  v1290.toNat
def k0_off16 (d0 : Dev nD) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c128_i32_976 : BitVec 32 := 128#32
  let c0_i32_977 : BitVec 32 := 0#32
  ![v16.toNat, 128, 0]
def k0_dev22 (d0 : Dev nD) : Nat :=
  let c0_i32_973 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_972 : BitVec 32 := 4#32
  let v1299 : BitVec 32 := Scalar.muli v18 c4_i32_972
  let v1300 : BitVec 32 := Scalar.addi c0_i32_973 v1299
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_974 : BitVec 32 := 2#32
  let v1301 : BitVec 32 := Scalar.muli v5 c2_i32_974
  let v1302 : BitVec 32 := Scalar.addi v1300 v1301
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_975 : BitVec 32 := 1#32
  let v1303 : BitVec 32 := Scalar.muli v8 c1_i32_975
  let v1304 : BitVec 32 := Scalar.addi v1302 v1303
  v1304.toNat
def k0_off17 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v1330 : Index := Scalar.indexCast v10
  let c0_998 : Index := 0#32
  let c768_999 : Index := 768#32
  ![v1330.toNat, 0, 768]
def k0_off18 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_1008 : BitVec 32 := 0#32
  let c768_i32_1009 : BitVec 32 := 768#32
  ![v10.toNat, 0, 768]
def k0_dev23 (d0 : Dev nD) : Nat :=
  let c0_i32_1005 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1004 : BitVec 32 := 4#32
  let v1332 : BitVec 32 := Scalar.muli v18 c4_i32_1004
  let v1333 : BitVec 32 := Scalar.addi c0_i32_1005 v1332
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1006 : BitVec 32 := 2#32
  let v1334 : BitVec 32 := Scalar.muli v5 c2_i32_1006
  let v1335 : BitVec 32 := Scalar.addi v1333 v1334
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1007 : BitVec 32 := 1#32
  let v1336 : BitVec 32 := Scalar.muli v8 c1_i32_1007
  let v1337 : BitVec 32 := Scalar.addi v1335 v1336
  v1337.toNat
def k0_dev24 (d0 : Dev nD) : Nat :=
  let c0_i32_1017 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1016 : BitVec 32 := 4#32
  let v1346 : BitVec 32 := Scalar.muli v2 c4_i32_1016
  let v1347 : BitVec 32 := Scalar.addi c0_i32_1017 v1346
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1018 : BitVec 32 := 2#32
  let v1348 : BitVec 32 := Scalar.muli v19 c2_i32_1018
  let v1349 : BitVec 32 := Scalar.addi v1347 v1348
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1019 : BitVec 32 := 1#32
  let v1350 : BitVec 32 := Scalar.muli v8 c1_i32_1019
  let v1351 : BitVec 32 := Scalar.addi v1349 v1350
  v1351.toNat
def k0_off19 (d0 : Dev nD) : Fin 3 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c0_i32_1056 : BitVec 32 := 0#32
  let c256_i32_1057 : BitVec 32 := 256#32
  ![v13.toNat, 0, 256]
def k0_dev25 (d0 : Dev nD) : Nat :=
  let c0_i32_1053 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1052 : BitVec 32 := 4#32
  let v1384 : BitVec 32 := Scalar.muli v2 c4_i32_1052
  let v1385 : BitVec 32 := Scalar.addi c0_i32_1053 v1384
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1054 : BitVec 32 := 2#32
  let v1386 : BitVec 32 := Scalar.muli v19 c2_i32_1054
  let v1387 : BitVec 32 := Scalar.addi v1385 v1386
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1055 : BitVec 32 := 1#32
  let v1388 : BitVec 32 := Scalar.muli v8 c1_i32_1055
  let v1389 : BitVec 32 := Scalar.addi v1387 v1388
  v1389.toNat
def k0_off20 (d0 : Dev nD) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c128_i32_1068 : BitVec 32 := 128#32
  let c256_i32_1069 : BitVec 32 := 256#32
  ![v16.toNat, 128, 256]
def k0_dev26 (d0 : Dev nD) : Nat :=
  let c0_i32_1065 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1064 : BitVec 32 := 4#32
  let v1398 : BitVec 32 := Scalar.muli v18 c4_i32_1064
  let v1399 : BitVec 32 := Scalar.addi c0_i32_1065 v1398
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1066 : BitVec 32 := 2#32
  let v1400 : BitVec 32 := Scalar.muli v5 c2_i32_1066
  let v1401 : BitVec 32 := Scalar.addi v1399 v1400
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1067 : BitVec 32 := 1#32
  let v1402 : BitVec 32 := Scalar.muli v8 c1_i32_1067
  let v1403 : BitVec 32 := Scalar.addi v1401 v1402
  v1403.toNat
def k0_off21 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v1429 : Index := Scalar.indexCast v10
  let c0_1090 : Index := 0#32
  let c1024_1091 : Index := 1024#32
  ![v1429.toNat, 0, 1024]
def k0_off22 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_1100 : BitVec 32 := 0#32
  let c1024_i32_1101 : BitVec 32 := 1024#32
  ![v10.toNat, 0, 1024]
def k0_dev27 (d0 : Dev nD) : Nat :=
  let c0_i32_1097 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1096 : BitVec 32 := 4#32
  let v1431 : BitVec 32 := Scalar.muli v18 c4_i32_1096
  let v1432 : BitVec 32 := Scalar.addi c0_i32_1097 v1431
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1098 : BitVec 32 := 2#32
  let v1433 : BitVec 32 := Scalar.muli v5 c2_i32_1098
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1099 : BitVec 32 := 1#32
  let v1435 : BitVec 32 := Scalar.muli v8 c1_i32_1099
  let v1436 : BitVec 32 := Scalar.addi v1434 v1435
  v1436.toNat
def k0_dev28 (d0 : Dev nD) : Nat :=
  let c0_i32_1109 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1108 : BitVec 32 := 4#32
  let v1445 : BitVec 32 := Scalar.muli v2 c4_i32_1108
  let v1446 : BitVec 32 := Scalar.addi c0_i32_1109 v1445
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1110 : BitVec 32 := 2#32
  let v1447 : BitVec 32 := Scalar.muli v19 c2_i32_1110
  let v1448 : BitVec 32 := Scalar.addi v1446 v1447
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1111 : BitVec 32 := 1#32
  let v1449 : BitVec 32 := Scalar.muli v8 c1_i32_1111
  let v1450 : BitVec 32 := Scalar.addi v1448 v1449
  v1450.toNat
def k0_off23 (d0 : Dev nD) : Fin 3 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c0_i32_1148 : BitVec 32 := 0#32
  let c512_i32_1149 : BitVec 32 := 512#32
  ![v13.toNat, 0, 512]
def k0_dev29 (d0 : Dev nD) : Nat :=
  let c0_i32_1145 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1144 : BitVec 32 := 4#32
  let v1483 : BitVec 32 := Scalar.muli v2 c4_i32_1144
  let v1484 : BitVec 32 := Scalar.addi c0_i32_1145 v1483
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1146 : BitVec 32 := 2#32
  let v1485 : BitVec 32 := Scalar.muli v19 c2_i32_1146
  let v1486 : BitVec 32 := Scalar.addi v1484 v1485
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1147 : BitVec 32 := 1#32
  let v1487 : BitVec 32 := Scalar.muli v8 c1_i32_1147
  let v1488 : BitVec 32 := Scalar.addi v1486 v1487
  v1488.toNat
def k0_off24 (d0 : Dev nD) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c128_i32_1160 : BitVec 32 := 128#32
  let c512_i32_1161 : BitVec 32 := 512#32
  ![v16.toNat, 128, 512]
def k0_dev30 (d0 : Dev nD) : Nat :=
  let c0_i32_1157 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1156 : BitVec 32 := 4#32
  let v1497 : BitVec 32 := Scalar.muli v18 c4_i32_1156
  let v1498 : BitVec 32 := Scalar.addi c0_i32_1157 v1497
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1158 : BitVec 32 := 2#32
  let v1499 : BitVec 32 := Scalar.muli v5 c2_i32_1158
  let v1500 : BitVec 32 := Scalar.addi v1498 v1499
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1159 : BitVec 32 := 1#32
  let v1501 : BitVec 32 := Scalar.muli v8 c1_i32_1159
  let v1502 : BitVec 32 := Scalar.addi v1500 v1501
  v1502.toNat
def k0_off25 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v1528 : Index := Scalar.indexCast v10
  let c0_1182 : Index := 0#32
  let c1280_1183 : Index := 1280#32
  ![v1528.toNat, 0, 1280]
def k0_off26 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_1192 : BitVec 32 := 0#32
  let c1280_i32_1193 : BitVec 32 := 1280#32
  ![v10.toNat, 0, 1280]
def k0_dev31 (d0 : Dev nD) : Nat :=
  let c0_i32_1189 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1188 : BitVec 32 := 4#32
  let v1530 : BitVec 32 := Scalar.muli v18 c4_i32_1188
  let v1531 : BitVec 32 := Scalar.addi c0_i32_1189 v1530
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1190 : BitVec 32 := 2#32
  let v1532 : BitVec 32 := Scalar.muli v5 c2_i32_1190
  let v1533 : BitVec 32 := Scalar.addi v1531 v1532
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1191 : BitVec 32 := 1#32
  let v1534 : BitVec 32 := Scalar.muli v8 c1_i32_1191
  let v1535 : BitVec 32 := Scalar.addi v1533 v1534
  v1535.toNat
def k0_dev32 (d0 : Dev nD) : Nat :=
  let c0_i32_1201 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1200 : BitVec 32 := 4#32
  let v1544 : BitVec 32 := Scalar.muli v2 c4_i32_1200
  let v1545 : BitVec 32 := Scalar.addi c0_i32_1201 v1544
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1202 : BitVec 32 := 2#32
  let v1546 : BitVec 32 := Scalar.muli v19 c2_i32_1202
  let v1547 : BitVec 32 := Scalar.addi v1545 v1546
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1203 : BitVec 32 := 1#32
  let v1548 : BitVec 32 := Scalar.muli v8 c1_i32_1203
  let v1549 : BitVec 32 := Scalar.addi v1547 v1548
  v1549.toNat
def k0_off27 (d0 : Dev nD) : Fin 3 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c0_i32_1240 : BitVec 32 := 0#32
  let c768_i32_1241 : BitVec 32 := 768#32
  ![v13.toNat, 0, 768]
def k0_dev33 (d0 : Dev nD) : Nat :=
  let c0_i32_1237 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1236 : BitVec 32 := 4#32
  let v1582 : BitVec 32 := Scalar.muli v2 c4_i32_1236
  let v1583 : BitVec 32 := Scalar.addi c0_i32_1237 v1582
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1238 : BitVec 32 := 2#32
  let v1584 : BitVec 32 := Scalar.muli v19 c2_i32_1238
  let v1585 : BitVec 32 := Scalar.addi v1583 v1584
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1239 : BitVec 32 := 1#32
  let v1586 : BitVec 32 := Scalar.muli v8 c1_i32_1239
  let v1587 : BitVec 32 := Scalar.addi v1585 v1586
  v1587.toNat
def k0_off28 (d0 : Dev nD) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c128_i32_1252 : BitVec 32 := 128#32
  let c768_i32_1253 : BitVec 32 := 768#32
  ![v16.toNat, 128, 768]
def k0_dev34 (d0 : Dev nD) : Nat :=
  let c0_i32_1249 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1248 : BitVec 32 := 4#32
  let v1596 : BitVec 32 := Scalar.muli v18 c4_i32_1248
  let v1597 : BitVec 32 := Scalar.addi c0_i32_1249 v1596
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1250 : BitVec 32 := 2#32
  let v1598 : BitVec 32 := Scalar.muli v5 c2_i32_1250
  let v1599 : BitVec 32 := Scalar.addi v1597 v1598
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1251 : BitVec 32 := 1#32
  let v1600 : BitVec 32 := Scalar.muli v8 c1_i32_1251
  let v1601 : BitVec 32 := Scalar.addi v1599 v1600
  v1601.toNat
def k0_off29 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v1627 : Index := Scalar.indexCast v10
  let c0_1274 : Index := 0#32
  let c1536_1275 : Index := 1536#32
  ![v1627.toNat, 0, 1536]
def k0_off30 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_1284 : BitVec 32 := 0#32
  let c1536_i32_1285 : BitVec 32 := 1536#32
  ![v10.toNat, 0, 1536]
def k0_dev35 (d0 : Dev nD) : Nat :=
  let c0_i32_1281 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1280 : BitVec 32 := 4#32
  let v1629 : BitVec 32 := Scalar.muli v18 c4_i32_1280
  let v1630 : BitVec 32 := Scalar.addi c0_i32_1281 v1629
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1282 : BitVec 32 := 2#32
  let v1631 : BitVec 32 := Scalar.muli v5 c2_i32_1282
  let v1632 : BitVec 32 := Scalar.addi v1630 v1631
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1283 : BitVec 32 := 1#32
  let v1633 : BitVec 32 := Scalar.muli v8 c1_i32_1283
  let v1634 : BitVec 32 := Scalar.addi v1632 v1633
  v1634.toNat
def k0_dev36 (d0 : Dev nD) : Nat :=
  let c0_i32_1293 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1292 : BitVec 32 := 4#32
  let v1643 : BitVec 32 := Scalar.muli v2 c4_i32_1292
  let v1644 : BitVec 32 := Scalar.addi c0_i32_1293 v1643
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1294 : BitVec 32 := 2#32
  let v1645 : BitVec 32 := Scalar.muli v19 c2_i32_1294
  let v1646 : BitVec 32 := Scalar.addi v1644 v1645
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1295 : BitVec 32 := 1#32
  let v1647 : BitVec 32 := Scalar.muli v8 c1_i32_1295
  let v1648 : BitVec 32 := Scalar.addi v1646 v1647
  v1648.toNat
def k0_off31 (d0 : Dev nD) : Fin 3 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c0_i32_1332 : BitVec 32 := 0#32
  let c1024_i32_1333 : BitVec 32 := 1024#32
  ![v13.toNat, 0, 1024]
def k0_dev37 (d0 : Dev nD) : Nat :=
  let c0_i32_1329 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1328 : BitVec 32 := 4#32
  let v1681 : BitVec 32 := Scalar.muli v2 c4_i32_1328
  let v1682 : BitVec 32 := Scalar.addi c0_i32_1329 v1681
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1330 : BitVec 32 := 2#32
  let v1683 : BitVec 32 := Scalar.muli v19 c2_i32_1330
  let v1684 : BitVec 32 := Scalar.addi v1682 v1683
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1331 : BitVec 32 := 1#32
  let v1685 : BitVec 32 := Scalar.muli v8 c1_i32_1331
  let v1686 : BitVec 32 := Scalar.addi v1684 v1685
  v1686.toNat
def k0_off32 (d0 : Dev nD) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c128_i32_1344 : BitVec 32 := 128#32
  let c1024_i32_1345 : BitVec 32 := 1024#32
  ![v16.toNat, 128, 1024]
def k0_dev38 (d0 : Dev nD) : Nat :=
  let c0_i32_1341 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1340 : BitVec 32 := 4#32
  let v1695 : BitVec 32 := Scalar.muli v18 c4_i32_1340
  let v1696 : BitVec 32 := Scalar.addi c0_i32_1341 v1695
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1342 : BitVec 32 := 2#32
  let v1697 : BitVec 32 := Scalar.muli v5 c2_i32_1342
  let v1698 : BitVec 32 := Scalar.addi v1696 v1697
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1343 : BitVec 32 := 1#32
  let v1699 : BitVec 32 := Scalar.muli v8 c1_i32_1343
  let v1700 : BitVec 32 := Scalar.addi v1698 v1699
  v1700.toNat
def k0_off33 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v1726 : Index := Scalar.indexCast v10
  let c0_1365 : Index := 0#32
  let c1792_1366 : Index := 1792#32
  ![v1726.toNat, 0, 1792]
def k0_off34 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_1375 : BitVec 32 := 0#32
  let c1792_i32_1376 : BitVec 32 := 1792#32
  ![v10.toNat, 0, 1792]
def k0_dev39 (d0 : Dev nD) : Nat :=
  let c0_i32_1372 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1371 : BitVec 32 := 4#32
  let v1728 : BitVec 32 := Scalar.muli v18 c4_i32_1371
  let v1729 : BitVec 32 := Scalar.addi c0_i32_1372 v1728
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1373 : BitVec 32 := 2#32
  let v1730 : BitVec 32 := Scalar.muli v5 c2_i32_1373
  let v1731 : BitVec 32 := Scalar.addi v1729 v1730
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1374 : BitVec 32 := 1#32
  let v1732 : BitVec 32 := Scalar.muli v8 c1_i32_1374
  let v1733 : BitVec 32 := Scalar.addi v1731 v1732
  v1733.toNat
def k0_dev40 (d0 : Dev nD) : Nat :=
  let c0_i32_1384 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1383 : BitVec 32 := 4#32
  let v1742 : BitVec 32 := Scalar.muli v2 c4_i32_1383
  let v1743 : BitVec 32 := Scalar.addi c0_i32_1384 v1742
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1385 : BitVec 32 := 2#32
  let v1744 : BitVec 32 := Scalar.muli v19 c2_i32_1385
  let v1745 : BitVec 32 := Scalar.addi v1743 v1744
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1386 : BitVec 32 := 1#32
  let v1746 : BitVec 32 := Scalar.muli v8 c1_i32_1386
  let v1747 : BitVec 32 := Scalar.addi v1745 v1746
  v1747.toNat
def k0_off35 (d0 : Dev nD) : Fin 3 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c0_i32_1423 : BitVec 32 := 0#32
  let c1280_i32_1424 : BitVec 32 := 1280#32
  ![v13.toNat, 0, 1280]
def k0_dev41 (d0 : Dev nD) : Nat :=
  let c0_i32_1420 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1419 : BitVec 32 := 4#32
  let v1780 : BitVec 32 := Scalar.muli v2 c4_i32_1419
  let v1781 : BitVec 32 := Scalar.addi c0_i32_1420 v1780
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1421 : BitVec 32 := 2#32
  let v1782 : BitVec 32 := Scalar.muli v19 c2_i32_1421
  let v1783 : BitVec 32 := Scalar.addi v1781 v1782
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1422 : BitVec 32 := 1#32
  let v1784 : BitVec 32 := Scalar.muli v8 c1_i32_1422
  let v1785 : BitVec 32 := Scalar.addi v1783 v1784
  v1785.toNat
def k0_off36 (d0 : Dev nD) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c128_i32_1435 : BitVec 32 := 128#32
  let c1280_i32_1436 : BitVec 32 := 1280#32
  ![v16.toNat, 128, 1280]
def k0_dev42 (d0 : Dev nD) : Nat :=
  let c0_i32_1432 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1431 : BitVec 32 := 4#32
  let v1794 : BitVec 32 := Scalar.muli v18 c4_i32_1431
  let v1795 : BitVec 32 := Scalar.addi c0_i32_1432 v1794
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1433 : BitVec 32 := 2#32
  let v1796 : BitVec 32 := Scalar.muli v5 c2_i32_1433
  let v1797 : BitVec 32 := Scalar.addi v1795 v1796
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1434 : BitVec 32 := 1#32
  let v1798 : BitVec 32 := Scalar.muli v8 c1_i32_1434
  let v1799 : BitVec 32 := Scalar.addi v1797 v1798
  v1799.toNat
def k0_off37 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v1825 : Index := Scalar.indexCast v10
  let c0_1456 : Index := 0#32
  let c2048 : Index := 2048#32
  ![v1825.toNat, 0, 2048]
def k0_off38 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_1464 : BitVec 32 := 0#32
  let c2048_i32_1465 : BitVec 32 := 2048#32
  ![v10.toNat, 0, 2048]
def k0_dev43 (d0 : Dev nD) : Nat :=
  let c0_i32_1461 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1460 : BitVec 32 := 4#32
  let v1827 : BitVec 32 := Scalar.muli v18 c4_i32_1460
  let v1828 : BitVec 32 := Scalar.addi c0_i32_1461 v1827
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1462 : BitVec 32 := 2#32
  let v1829 : BitVec 32 := Scalar.muli v5 c2_i32_1462
  let v1830 : BitVec 32 := Scalar.addi v1828 v1829
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1463 : BitVec 32 := 1#32
  let v1831 : BitVec 32 := Scalar.muli v8 c1_i32_1463
  let v1832 : BitVec 32 := Scalar.addi v1830 v1831
  v1832.toNat
def k0_dev44 (d0 : Dev nD) : Nat :=
  let c0_i32_1473 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1472 : BitVec 32 := 4#32
  let v1841 : BitVec 32 := Scalar.muli v2 c4_i32_1472
  let v1842 : BitVec 32 := Scalar.addi c0_i32_1473 v1841
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1474 : BitVec 32 := 2#32
  let v1843 : BitVec 32 := Scalar.muli v19 c2_i32_1474
  let v1844 : BitVec 32 := Scalar.addi v1842 v1843
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1475 : BitVec 32 := 1#32
  let v1845 : BitVec 32 := Scalar.muli v8 c1_i32_1475
  let v1846 : BitVec 32 := Scalar.addi v1844 v1845
  v1846.toNat
def k0_off39 (d0 : Dev nD) : Fin 3 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c0_i32_1512 : BitVec 32 := 0#32
  let c1536_i32_1513 : BitVec 32 := 1536#32
  ![v13.toNat, 0, 1536]
def k0_dev45 (d0 : Dev nD) : Nat :=
  let c0_i32_1509 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1508 : BitVec 32 := 4#32
  let v1879 : BitVec 32 := Scalar.muli v2 c4_i32_1508
  let v1880 : BitVec 32 := Scalar.addi c0_i32_1509 v1879
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1510 : BitVec 32 := 2#32
  let v1881 : BitVec 32 := Scalar.muli v19 c2_i32_1510
  let v1882 : BitVec 32 := Scalar.addi v1880 v1881
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1511 : BitVec 32 := 1#32
  let v1883 : BitVec 32 := Scalar.muli v8 c1_i32_1511
  let v1884 : BitVec 32 := Scalar.addi v1882 v1883
  v1884.toNat
def k0_off40 (d0 : Dev nD) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c128_i32_1524 : BitVec 32 := 128#32
  let c1536_i32_1525 : BitVec 32 := 1536#32
  ![v16.toNat, 128, 1536]
def k0_dev46 (d0 : Dev nD) : Nat :=
  let c0_i32_1521 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1520 : BitVec 32 := 4#32
  let v1893 : BitVec 32 := Scalar.muli v18 c4_i32_1520
  let v1894 : BitVec 32 := Scalar.addi c0_i32_1521 v1893
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1522 : BitVec 32 := 2#32
  let v1895 : BitVec 32 := Scalar.muli v5 c2_i32_1522
  let v1896 : BitVec 32 := Scalar.addi v1894 v1895
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1523 : BitVec 32 := 1#32
  let v1897 : BitVec 32 := Scalar.muli v8 c1_i32_1523
  let v1898 : BitVec 32 := Scalar.addi v1896 v1897
  v1898.toNat
def k0_off41 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v1924 : Index := Scalar.indexCast v10
  let c0_1545 : Index := 0#32
  let c2304 : Index := 2304#32
  ![v1924.toNat, 0, 2304]
def k0_off42 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_1553 : BitVec 32 := 0#32
  let c2304_i32_1554 : BitVec 32 := 2304#32
  ![v10.toNat, 0, 2304]
def k0_dev47 (d0 : Dev nD) : Nat :=
  let c0_i32_1550 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1549 : BitVec 32 := 4#32
  let v1926 : BitVec 32 := Scalar.muli v18 c4_i32_1549
  let v1927 : BitVec 32 := Scalar.addi c0_i32_1550 v1926
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1551 : BitVec 32 := 2#32
  let v1928 : BitVec 32 := Scalar.muli v5 c2_i32_1551
  let v1929 : BitVec 32 := Scalar.addi v1927 v1928
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1552 : BitVec 32 := 1#32
  let v1930 : BitVec 32 := Scalar.muli v8 c1_i32_1552
  let v1931 : BitVec 32 := Scalar.addi v1929 v1930
  v1931.toNat
def k0_dev48 (d0 : Dev nD) : Nat :=
  let c0_i32_1562 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1561 : BitVec 32 := 4#32
  let v1940 : BitVec 32 := Scalar.muli v2 c4_i32_1561
  let v1941 : BitVec 32 := Scalar.addi c0_i32_1562 v1940
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1563 : BitVec 32 := 2#32
  let v1942 : BitVec 32 := Scalar.muli v19 c2_i32_1563
  let v1943 : BitVec 32 := Scalar.addi v1941 v1942
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1564 : BitVec 32 := 1#32
  let v1944 : BitVec 32 := Scalar.muli v8 c1_i32_1564
  let v1945 : BitVec 32 := Scalar.addi v1943 v1944
  v1945.toNat
def k0_off43 (d0 : Dev nD) : Fin 3 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c0_i32_1601 : BitVec 32 := 0#32
  let c1792_i32_1602 : BitVec 32 := 1792#32
  ![v13.toNat, 0, 1792]
def k0_dev49 (d0 : Dev nD) : Nat :=
  let c0_i32_1598 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1597 : BitVec 32 := 4#32
  let v1978 : BitVec 32 := Scalar.muli v2 c4_i32_1597
  let v1979 : BitVec 32 := Scalar.addi c0_i32_1598 v1978
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1599 : BitVec 32 := 2#32
  let v1980 : BitVec 32 := Scalar.muli v19 c2_i32_1599
  let v1981 : BitVec 32 := Scalar.addi v1979 v1980
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1600 : BitVec 32 := 1#32
  let v1982 : BitVec 32 := Scalar.muli v8 c1_i32_1600
  let v1983 : BitVec 32 := Scalar.addi v1981 v1982
  v1983.toNat
def k0_off44 (d0 : Dev nD) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c128_i32_1613 : BitVec 32 := 128#32
  let c1792_i32_1614 : BitVec 32 := 1792#32
  ![v16.toNat, 128, 1792]
def k0_dev50 (d0 : Dev nD) : Nat :=
  let c0_i32_1610 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1609 : BitVec 32 := 4#32
  let v1992 : BitVec 32 := Scalar.muli v18 c4_i32_1609
  let v1993 : BitVec 32 := Scalar.addi c0_i32_1610 v1992
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1611 : BitVec 32 := 2#32
  let v1994 : BitVec 32 := Scalar.muli v5 c2_i32_1611
  let v1995 : BitVec 32 := Scalar.addi v1993 v1994
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1612 : BitVec 32 := 1#32
  let v1996 : BitVec 32 := Scalar.muli v8 c1_i32_1612
  let v1997 : BitVec 32 := Scalar.addi v1995 v1996
  v1997.toNat
def k0_off45 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v2023 : Index := Scalar.indexCast v10
  let c0_1634 : Index := 0#32
  let c2560 : Index := 2560#32
  ![v2023.toNat, 0, 2560]
def k0_off46 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_1642 : BitVec 32 := 0#32
  let c2560_i32_1643 : BitVec 32 := 2560#32
  ![v10.toNat, 0, 2560]
def k0_dev51 (d0 : Dev nD) : Nat :=
  let c0_i32_1639 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1638 : BitVec 32 := 4#32
  let v2025 : BitVec 32 := Scalar.muli v18 c4_i32_1638
  let v2026 : BitVec 32 := Scalar.addi c0_i32_1639 v2025
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1640 : BitVec 32 := 2#32
  let v2027 : BitVec 32 := Scalar.muli v5 c2_i32_1640
  let v2028 : BitVec 32 := Scalar.addi v2026 v2027
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1641 : BitVec 32 := 1#32
  let v2029 : BitVec 32 := Scalar.muli v8 c1_i32_1641
  let v2030 : BitVec 32 := Scalar.addi v2028 v2029
  v2030.toNat
def k0_dev52 (d0 : Dev nD) : Nat :=
  let c0_i32_1651 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1650 : BitVec 32 := 4#32
  let v2039 : BitVec 32 := Scalar.muli v2 c4_i32_1650
  let v2040 : BitVec 32 := Scalar.addi c0_i32_1651 v2039
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1652 : BitVec 32 := 2#32
  let v2041 : BitVec 32 := Scalar.muli v19 c2_i32_1652
  let v2042 : BitVec 32 := Scalar.addi v2040 v2041
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1653 : BitVec 32 := 1#32
  let v2043 : BitVec 32 := Scalar.muli v8 c1_i32_1653
  let v2044 : BitVec 32 := Scalar.addi v2042 v2043
  v2044.toNat
def k0_off47 (d0 : Dev nD) : Fin 3 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c0_i32_1690 : BitVec 32 := 0#32
  let c2048_i32_1691 : BitVec 32 := 2048#32
  ![v13.toNat, 0, 2048]
def k0_dev53 (d0 : Dev nD) : Nat :=
  let c0_i32_1687 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1686 : BitVec 32 := 4#32
  let v2077 : BitVec 32 := Scalar.muli v2 c4_i32_1686
  let v2078 : BitVec 32 := Scalar.addi c0_i32_1687 v2077
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1688 : BitVec 32 := 2#32
  let v2079 : BitVec 32 := Scalar.muli v19 c2_i32_1688
  let v2080 : BitVec 32 := Scalar.addi v2078 v2079
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1689 : BitVec 32 := 1#32
  let v2081 : BitVec 32 := Scalar.muli v8 c1_i32_1689
  let v2082 : BitVec 32 := Scalar.addi v2080 v2081
  v2082.toNat
def k0_off48 (d0 : Dev nD) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c128_i32_1702 : BitVec 32 := 128#32
  let c2048_i32_1703 : BitVec 32 := 2048#32
  ![v16.toNat, 128, 2048]
def k0_dev54 (d0 : Dev nD) : Nat :=
  let c0_i32_1699 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1698 : BitVec 32 := 4#32
  let v2091 : BitVec 32 := Scalar.muli v18 c4_i32_1698
  let v2092 : BitVec 32 := Scalar.addi c0_i32_1699 v2091
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1700 : BitVec 32 := 2#32
  let v2093 : BitVec 32 := Scalar.muli v5 c2_i32_1700
  let v2094 : BitVec 32 := Scalar.addi v2092 v2093
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1701 : BitVec 32 := 1#32
  let v2095 : BitVec 32 := Scalar.muli v8 c1_i32_1701
  let v2096 : BitVec 32 := Scalar.addi v2094 v2095
  v2096.toNat
def k0_off49 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v2122 : Index := Scalar.indexCast v10
  let c0_1723 : Index := 0#32
  let c2816 : Index := 2816#32
  ![v2122.toNat, 0, 2816]
def k0_off50 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_1731 : BitVec 32 := 0#32
  let c2816_i32_1732 : BitVec 32 := 2816#32
  ![v10.toNat, 0, 2816]
def k0_dev55 (d0 : Dev nD) : Nat :=
  let c0_i32_1728 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1727 : BitVec 32 := 4#32
  let v2124 : BitVec 32 := Scalar.muli v18 c4_i32_1727
  let v2125 : BitVec 32 := Scalar.addi c0_i32_1728 v2124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1729 : BitVec 32 := 2#32
  let v2126 : BitVec 32 := Scalar.muli v5 c2_i32_1729
  let v2127 : BitVec 32 := Scalar.addi v2125 v2126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1730 : BitVec 32 := 1#32
  let v2128 : BitVec 32 := Scalar.muli v8 c1_i32_1730
  let v2129 : BitVec 32 := Scalar.addi v2127 v2128
  v2129.toNat
def k0_dev56 (d0 : Dev nD) : Nat :=
  let c0_i32_1740 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1739 : BitVec 32 := 4#32
  let v2138 : BitVec 32 := Scalar.muli v2 c4_i32_1739
  let v2139 : BitVec 32 := Scalar.addi c0_i32_1740 v2138
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1741 : BitVec 32 := 2#32
  let v2140 : BitVec 32 := Scalar.muli v19 c2_i32_1741
  let v2141 : BitVec 32 := Scalar.addi v2139 v2140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1742 : BitVec 32 := 1#32
  let v2142 : BitVec 32 := Scalar.muli v8 c1_i32_1742
  let v2143 : BitVec 32 := Scalar.addi v2141 v2142
  v2143.toNat
def k0_off51 (d0 : Dev nD) : Fin 3 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c0_i32_1779 : BitVec 32 := 0#32
  let c2304_i32_1780 : BitVec 32 := 2304#32
  ![v13.toNat, 0, 2304]
def k0_dev57 (d0 : Dev nD) : Nat :=
  let c0_i32_1776 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1775 : BitVec 32 := 4#32
  let v2176 : BitVec 32 := Scalar.muli v2 c4_i32_1775
  let v2177 : BitVec 32 := Scalar.addi c0_i32_1776 v2176
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1777 : BitVec 32 := 2#32
  let v2178 : BitVec 32 := Scalar.muli v19 c2_i32_1777
  let v2179 : BitVec 32 := Scalar.addi v2177 v2178
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1778 : BitVec 32 := 1#32
  let v2180 : BitVec 32 := Scalar.muli v8 c1_i32_1778
  let v2181 : BitVec 32 := Scalar.addi v2179 v2180
  v2181.toNat
def k0_off52 (d0 : Dev nD) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c128_i32_1791 : BitVec 32 := 128#32
  let c2304_i32_1792 : BitVec 32 := 2304#32
  ![v16.toNat, 128, 2304]
def k0_dev58 (d0 : Dev nD) : Nat :=
  let c0_i32_1788 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1787 : BitVec 32 := 4#32
  let v2190 : BitVec 32 := Scalar.muli v18 c4_i32_1787
  let v2191 : BitVec 32 := Scalar.addi c0_i32_1788 v2190
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1789 : BitVec 32 := 2#32
  let v2192 : BitVec 32 := Scalar.muli v5 c2_i32_1789
  let v2193 : BitVec 32 := Scalar.addi v2191 v2192
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1790 : BitVec 32 := 1#32
  let v2194 : BitVec 32 := Scalar.muli v8 c1_i32_1790
  let v2195 : BitVec 32 := Scalar.addi v2193 v2194
  v2195.toNat
def k0_off53 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v2221 : Index := Scalar.indexCast v10
  let c0_1812 : Index := 0#32
  let c3072 : Index := 3072#32
  ![v2221.toNat, 0, 3072]
def k0_off54 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_1820 : BitVec 32 := 0#32
  let c3072_i32_1821 : BitVec 32 := 3072#32
  ![v10.toNat, 0, 3072]
def k0_dev59 (d0 : Dev nD) : Nat :=
  let c0_i32_1817 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1816 : BitVec 32 := 4#32
  let v2223 : BitVec 32 := Scalar.muli v18 c4_i32_1816
  let v2224 : BitVec 32 := Scalar.addi c0_i32_1817 v2223
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1818 : BitVec 32 := 2#32
  let v2225 : BitVec 32 := Scalar.muli v5 c2_i32_1818
  let v2226 : BitVec 32 := Scalar.addi v2224 v2225
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1819 : BitVec 32 := 1#32
  let v2227 : BitVec 32 := Scalar.muli v8 c1_i32_1819
  let v2228 : BitVec 32 := Scalar.addi v2226 v2227
  v2228.toNat
def k0_dev60 (d0 : Dev nD) : Nat :=
  let c0_i32_1829 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1828 : BitVec 32 := 4#32
  let v2237 : BitVec 32 := Scalar.muli v2 c4_i32_1828
  let v2238 : BitVec 32 := Scalar.addi c0_i32_1829 v2237
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1830 : BitVec 32 := 2#32
  let v2239 : BitVec 32 := Scalar.muli v19 c2_i32_1830
  let v2240 : BitVec 32 := Scalar.addi v2238 v2239
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1831 : BitVec 32 := 1#32
  let v2241 : BitVec 32 := Scalar.muli v8 c1_i32_1831
  let v2242 : BitVec 32 := Scalar.addi v2240 v2241
  v2242.toNat
def k0_off55 (d0 : Dev nD) : Fin 3 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c0_i32_1868 : BitVec 32 := 0#32
  let c2560_i32_1869 : BitVec 32 := 2560#32
  ![v13.toNat, 0, 2560]
def k0_dev61 (d0 : Dev nD) : Nat :=
  let c0_i32_1865 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1864 : BitVec 32 := 4#32
  let v2275 : BitVec 32 := Scalar.muli v2 c4_i32_1864
  let v2276 : BitVec 32 := Scalar.addi c0_i32_1865 v2275
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1866 : BitVec 32 := 2#32
  let v2277 : BitVec 32 := Scalar.muli v19 c2_i32_1866
  let v2278 : BitVec 32 := Scalar.addi v2276 v2277
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1867 : BitVec 32 := 1#32
  let v2279 : BitVec 32 := Scalar.muli v8 c1_i32_1867
  let v2280 : BitVec 32 := Scalar.addi v2278 v2279
  v2280.toNat
def k0_off56 (d0 : Dev nD) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c128_i32_1880 : BitVec 32 := 128#32
  let c2560_i32_1881 : BitVec 32 := 2560#32
  ![v16.toNat, 128, 2560]
def k0_dev62 (d0 : Dev nD) : Nat :=
  let c0_i32_1877 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1876 : BitVec 32 := 4#32
  let v2289 : BitVec 32 := Scalar.muli v18 c4_i32_1876
  let v2290 : BitVec 32 := Scalar.addi c0_i32_1877 v2289
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1878 : BitVec 32 := 2#32
  let v2291 : BitVec 32 := Scalar.muli v5 c2_i32_1878
  let v2292 : BitVec 32 := Scalar.addi v2290 v2291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1879 : BitVec 32 := 1#32
  let v2293 : BitVec 32 := Scalar.muli v8 c1_i32_1879
  let v2294 : BitVec 32 := Scalar.addi v2292 v2293
  v2294.toNat
def k0_off57 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v2320 : Index := Scalar.indexCast v10
  let c0_1901 : Index := 0#32
  let c3328 : Index := 3328#32
  ![v2320.toNat, 0, 3328]
def k0_off58 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_1909 : BitVec 32 := 0#32
  let c3328_i32_1910 : BitVec 32 := 3328#32
  ![v10.toNat, 0, 3328]
def k0_dev63 (d0 : Dev nD) : Nat :=
  let c0_i32_1906 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1905 : BitVec 32 := 4#32
  let v2322 : BitVec 32 := Scalar.muli v18 c4_i32_1905
  let v2323 : BitVec 32 := Scalar.addi c0_i32_1906 v2322
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1907 : BitVec 32 := 2#32
  let v2324 : BitVec 32 := Scalar.muli v5 c2_i32_1907
  let v2325 : BitVec 32 := Scalar.addi v2323 v2324
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1908 : BitVec 32 := 1#32
  let v2326 : BitVec 32 := Scalar.muli v8 c1_i32_1908
  let v2327 : BitVec 32 := Scalar.addi v2325 v2326
  v2327.toNat
def k0_dev64 (d0 : Dev nD) : Nat :=
  let c0_i32_1918 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1917 : BitVec 32 := 4#32
  let v2336 : BitVec 32 := Scalar.muli v2 c4_i32_1917
  let v2337 : BitVec 32 := Scalar.addi c0_i32_1918 v2336
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1919 : BitVec 32 := 2#32
  let v2338 : BitVec 32 := Scalar.muli v19 c2_i32_1919
  let v2339 : BitVec 32 := Scalar.addi v2337 v2338
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1920 : BitVec 32 := 1#32
  let v2340 : BitVec 32 := Scalar.muli v8 c1_i32_1920
  let v2341 : BitVec 32 := Scalar.addi v2339 v2340
  v2341.toNat
def k0_off59 (d0 : Dev nD) : Fin 3 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c0_i32_1957 : BitVec 32 := 0#32
  let c2816_i32_1958 : BitVec 32 := 2816#32
  ![v13.toNat, 0, 2816]
def k0_dev65 (d0 : Dev nD) : Nat :=
  let c0_i32_1954 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1953 : BitVec 32 := 4#32
  let v2374 : BitVec 32 := Scalar.muli v2 c4_i32_1953
  let v2375 : BitVec 32 := Scalar.addi c0_i32_1954 v2374
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1955 : BitVec 32 := 2#32
  let v2376 : BitVec 32 := Scalar.muli v19 c2_i32_1955
  let v2377 : BitVec 32 := Scalar.addi v2375 v2376
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1956 : BitVec 32 := 1#32
  let v2378 : BitVec 32 := Scalar.muli v8 c1_i32_1956
  let v2379 : BitVec 32 := Scalar.addi v2377 v2378
  v2379.toNat
def k0_off60 (d0 : Dev nD) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c128_i32_1969 : BitVec 32 := 128#32
  let c2816_i32_1970 : BitVec 32 := 2816#32
  ![v16.toNat, 128, 2816]
def k0_dev66 (d0 : Dev nD) : Nat :=
  let c0_i32_1966 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1965 : BitVec 32 := 4#32
  let v2388 : BitVec 32 := Scalar.muli v18 c4_i32_1965
  let v2389 : BitVec 32 := Scalar.addi c0_i32_1966 v2388
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1967 : BitVec 32 := 2#32
  let v2390 : BitVec 32 := Scalar.muli v5 c2_i32_1967
  let v2391 : BitVec 32 := Scalar.addi v2389 v2390
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1968 : BitVec 32 := 1#32
  let v2392 : BitVec 32 := Scalar.muli v8 c1_i32_1968
  let v2393 : BitVec 32 := Scalar.addi v2391 v2392
  v2393.toNat
def k0_off61 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v2414 : Index := Scalar.indexCast v10
  let c0_1985 : Index := 0#32
  let c3584 : Index := 3584#32
  ![v2414.toNat, 0, 3584]
def k0_off62 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_1993 : BitVec 32 := 0#32
  let c3584_i32_1994 : BitVec 32 := 3584#32
  ![v10.toNat, 0, 3584]
def k0_dev67 (d0 : Dev nD) : Nat :=
  let c0_i32_1990 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_1989 : BitVec 32 := 4#32
  let v2416 : BitVec 32 := Scalar.muli v18 c4_i32_1989
  let v2417 : BitVec 32 := Scalar.addi c0_i32_1990 v2416
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1991 : BitVec 32 := 2#32
  let v2418 : BitVec 32 := Scalar.muli v5 c2_i32_1991
  let v2419 : BitVec 32 := Scalar.addi v2417 v2418
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1992 : BitVec 32 := 1#32
  let v2420 : BitVec 32 := Scalar.muli v8 c1_i32_1992
  let v2421 : BitVec 32 := Scalar.addi v2419 v2420
  v2421.toNat
def k0_dev68 (d0 : Dev nD) : Nat :=
  let c0_i32_2002 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2001 : BitVec 32 := 4#32
  let v2430 : BitVec 32 := Scalar.muli v2 c4_i32_2001
  let v2431 : BitVec 32 := Scalar.addi c0_i32_2002 v2430
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_2003 : BitVec 32 := 2#32
  let v2432 : BitVec 32 := Scalar.muli v19 c2_i32_2003
  let v2433 : BitVec 32 := Scalar.addi v2431 v2432
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2004 : BitVec 32 := 1#32
  let v2434 : BitVec 32 := Scalar.muli v8 c1_i32_2004
  let v2435 : BitVec 32 := Scalar.addi v2433 v2434
  v2435.toNat
def k0_off63 (d0 : Dev nD) : Fin 3 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c0_i32_2041 : BitVec 32 := 0#32
  let c3072_i32_2042 : BitVec 32 := 3072#32
  ![v13.toNat, 0, 3072]
def k0_dev69 (d0 : Dev nD) : Nat :=
  let c0_i32_2038 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2037 : BitVec 32 := 4#32
  let v2468 : BitVec 32 := Scalar.muli v2 c4_i32_2037
  let v2469 : BitVec 32 := Scalar.addi c0_i32_2038 v2468
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_2039 : BitVec 32 := 2#32
  let v2470 : BitVec 32 := Scalar.muli v19 c2_i32_2039
  let v2471 : BitVec 32 := Scalar.addi v2469 v2470
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2040 : BitVec 32 := 1#32
  let v2472 : BitVec 32 := Scalar.muli v8 c1_i32_2040
  let v2473 : BitVec 32 := Scalar.addi v2471 v2472
  v2473.toNat
def k0_off64 (d0 : Dev nD) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c128_i32_2053 : BitVec 32 := 128#32
  let c3072_i32_2054 : BitVec 32 := 3072#32
  ![v16.toNat, 128, 3072]
def k0_dev70 (d0 : Dev nD) : Nat :=
  let c0_i32_2050 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_2049 : BitVec 32 := 4#32
  let v2482 : BitVec 32 := Scalar.muli v18 c4_i32_2049
  let v2483 : BitVec 32 := Scalar.addi c0_i32_2050 v2482
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2051 : BitVec 32 := 2#32
  let v2484 : BitVec 32 := Scalar.muli v5 c2_i32_2051
  let v2485 : BitVec 32 := Scalar.addi v2483 v2484
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2052 : BitVec 32 := 1#32
  let v2486 : BitVec 32 := Scalar.muli v8 c1_i32_2052
  let v2487 : BitVec 32 := Scalar.addi v2485 v2486
  v2487.toNat
def k0_off65 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v2508 : Index := Scalar.indexCast v10
  let c0_2069 : Index := 0#32
  let c3840 : Index := 3840#32
  ![v2508.toNat, 0, 3840]
def k0_off66 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_2077 : BitVec 32 := 0#32
  let c3840_i32_2078 : BitVec 32 := 3840#32
  ![v10.toNat, 0, 3840]
def k0_dev71 (d0 : Dev nD) : Nat :=
  let c0_i32_2074 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_2073 : BitVec 32 := 4#32
  let v2510 : BitVec 32 := Scalar.muli v18 c4_i32_2073
  let v2511 : BitVec 32 := Scalar.addi c0_i32_2074 v2510
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2075 : BitVec 32 := 2#32
  let v2512 : BitVec 32 := Scalar.muli v5 c2_i32_2075
  let v2513 : BitVec 32 := Scalar.addi v2511 v2512
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2076 : BitVec 32 := 1#32
  let v2514 : BitVec 32 := Scalar.muli v8 c1_i32_2076
  let v2515 : BitVec 32 := Scalar.addi v2513 v2514
  v2515.toNat
def k0_dev72 (d0 : Dev nD) : Nat :=
  let c0_i32_2086 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2085 : BitVec 32 := 4#32
  let v2524 : BitVec 32 := Scalar.muli v2 c4_i32_2085
  let v2525 : BitVec 32 := Scalar.addi c0_i32_2086 v2524
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_2087 : BitVec 32 := 2#32
  let v2526 : BitVec 32 := Scalar.muli v19 c2_i32_2087
  let v2527 : BitVec 32 := Scalar.addi v2525 v2526
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2088 : BitVec 32 := 1#32
  let v2528 : BitVec 32 := Scalar.muli v8 c1_i32_2088
  let v2529 : BitVec 32 := Scalar.addi v2527 v2528
  v2529.toNat
def k0_off67 (d0 : Dev nD) : Fin 3 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c0_i32_2125 : BitVec 32 := 0#32
  let c3328_i32_2126 : BitVec 32 := 3328#32
  ![v13.toNat, 0, 3328]
def k0_dev73 (d0 : Dev nD) : Nat :=
  let c0_i32_2122 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2121 : BitVec 32 := 4#32
  let v2562 : BitVec 32 := Scalar.muli v2 c4_i32_2121
  let v2563 : BitVec 32 := Scalar.addi c0_i32_2122 v2562
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_2123 : BitVec 32 := 2#32
  let v2564 : BitVec 32 := Scalar.muli v19 c2_i32_2123
  let v2565 : BitVec 32 := Scalar.addi v2563 v2564
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2124 : BitVec 32 := 1#32
  let v2566 : BitVec 32 := Scalar.muli v8 c1_i32_2124
  let v2567 : BitVec 32 := Scalar.addi v2565 v2566
  v2567.toNat
def k0_off68 (d0 : Dev nD) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c128_i32_2137 : BitVec 32 := 128#32
  let c3328_i32_2138 : BitVec 32 := 3328#32
  ![v16.toNat, 128, 3328]
def k0_dev74 (d0 : Dev nD) : Nat :=
  let c0_i32_2134 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_2133 : BitVec 32 := 4#32
  let v2576 : BitVec 32 := Scalar.muli v18 c4_i32_2133
  let v2577 : BitVec 32 := Scalar.addi c0_i32_2134 v2576
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2135 : BitVec 32 := 2#32
  let v2578 : BitVec 32 := Scalar.muli v5 c2_i32_2135
  let v2579 : BitVec 32 := Scalar.addi v2577 v2578
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2136 : BitVec 32 := 1#32
  let v2580 : BitVec 32 := Scalar.muli v8 c1_i32_2136
  let v2581 : BitVec 32 := Scalar.addi v2579 v2580
  v2581.toNat
def k0_off69 (d0 : Dev nD) : Fin 3 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c0_i32_2173 : BitVec 32 := 0#32
  let c3584_i32_2174 : BitVec 32 := 3584#32
  ![v13.toNat, 0, 3584]
def k0_dev75 (d0 : Dev nD) : Nat :=
  let c0_i32_2170 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2169 : BitVec 32 := 4#32
  let v2614 : BitVec 32 := Scalar.muli v2 c4_i32_2169
  let v2615 : BitVec 32 := Scalar.addi c0_i32_2170 v2614
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_2171 : BitVec 32 := 2#32
  let v2616 : BitVec 32 := Scalar.muli v19 c2_i32_2171
  let v2617 : BitVec 32 := Scalar.addi v2615 v2616
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2172 : BitVec 32 := 1#32
  let v2618 : BitVec 32 := Scalar.muli v8 c1_i32_2172
  let v2619 : BitVec 32 := Scalar.addi v2617 v2618
  v2619.toNat
def k0_off70 (d0 : Dev nD) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c128_i32_2185 : BitVec 32 := 128#32
  let c3584_i32_2186 : BitVec 32 := 3584#32
  ![v16.toNat, 128, 3584]
def k0_dev76 (d0 : Dev nD) : Nat :=
  let c0_i32_2182 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_2181 : BitVec 32 := 4#32
  let v2628 : BitVec 32 := Scalar.muli v18 c4_i32_2181
  let v2629 : BitVec 32 := Scalar.addi c0_i32_2182 v2628
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2183 : BitVec 32 := 2#32
  let v2630 : BitVec 32 := Scalar.muli v5 c2_i32_2183
  let v2631 : BitVec 32 := Scalar.addi v2629 v2630
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2184 : BitVec 32 := 1#32
  let v2632 : BitVec 32 := Scalar.muli v8 c1_i32_2184
  let v2633 : BitVec 32 := Scalar.addi v2631 v2632
  v2633.toNat
def k0_off71 (d0 : Dev nD) : Fin 3 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c0_i32_2221 : BitVec 32 := 0#32
  let c3840_i32_2222 : BitVec 32 := 3840#32
  ![v13.toNat, 0, 3840]
def k0_dev77 (d0 : Dev nD) : Nat :=
  let c0_i32_2218 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2217 : BitVec 32 := 4#32
  let v2666 : BitVec 32 := Scalar.muli v2 c4_i32_2217
  let v2667 : BitVec 32 := Scalar.addi c0_i32_2218 v2666
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_2219 : BitVec 32 := 2#32
  let v2668 : BitVec 32 := Scalar.muli v19 c2_i32_2219
  let v2669 : BitVec 32 := Scalar.addi v2667 v2668
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2220 : BitVec 32 := 1#32
  let v2670 : BitVec 32 := Scalar.muli v8 c1_i32_2220
  let v2671 : BitVec 32 := Scalar.addi v2669 v2670
  v2671.toNat
def k0_off72 (d0 : Dev nD) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c128_i32_2233 : BitVec 32 := 128#32
  let c3840_i32_2234 : BitVec 32 := 3840#32
  ![v16.toNat, 128, 3840]
def k0_dev78 (d0 : Dev nD) : Nat :=
  let c0_i32_2230 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_2229 : BitVec 32 := 4#32
  let v2680 : BitVec 32 := Scalar.muli v18 c4_i32_2229
  let v2681 : BitVec 32 := Scalar.addi c0_i32_2230 v2680
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2231 : BitVec 32 := 2#32
  let v2682 : BitVec 32 := Scalar.muli v5 c2_i32_2231
  let v2683 : BitVec 32 := Scalar.addi v2681 v2682
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2232 : BitVec 32 := 1#32
  let v2684 : BitVec 32 := Scalar.muli v8 c1_i32_2232
  let v2685 : BitVec 32 := Scalar.addi v2683 v2684
  v2685.toNat
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4x256x4096 : Shape := ⟨3, ![4, 256, 4096]⟩
abbrev S4096x256 : Shape := ⟨2, ![4096, 256]⟩
abbrev S256x4096 : Shape := ⟨2, ![256, 4096]⟩
abbrev S4096x4096 : Shape := ⟨2, ![4096, 4096]⟩
abbrev S4096x2048 : Shape := ⟨2, ![4096, 2048]⟩
abbrev S4096x64 : Shape := ⟨2, ![4096, 64]⟩
abbrev S4x256x256 : Shape := ⟨3, ![4, 256, 256]⟩
abbrev S4x256x32x128 : Shape := ⟨4, ![4, 256, 32, 128]⟩
abbrev S4x256x2048 : Shape := ⟨3, ![4, 256, 2048]⟩
abbrev S4x256x32x64 : Shape := ⟨4, ![4, 256, 32, 64]⟩
abbrev S4x256x64 : Shape := ⟨3, ![4, 256, 64]⟩
abbrev S4x256x1x64 : Shape := ⟨4, ![4, 256, 1, 64]⟩
abbrev S4x32x256x256 : Shape := ⟨4, ![4, 32, 256, 256]⟩
abbrev S_ : Shape := ⟨0, ![]⟩
abbrev S4x32x256 : Shape := ⟨3, ![4, 32, 256]⟩
abbrev S4x32x256x1 : Shape := ⟨4, ![4, 32, 256, 1]⟩
abbrev S4x32x128x256 : Shape := ⟨4, ![4, 32, 128, 256]⟩

abbrev nBuf : Space → Nat
  | .hbm => 42
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4096x256, .f32⟩
  | .hbm, ⟨2, _⟩ => ⟨S256x4096, .f32⟩
  | .hbm, ⟨3, _⟩ => ⟨S256x4096, .f32⟩
  | .hbm, ⟨4, _⟩ => ⟨S4096x4096, .f32⟩
  | .hbm, ⟨5, _⟩ => ⟨S4096x2048, .f32⟩
  | .hbm, ⟨6, _⟩ => ⟨S4096x64, .f32⟩
  | .hbm, ⟨7, _⟩ => ⟨S4096x4096, .f32⟩
  | .hbm, ⟨8, _⟩ => ⟨S4x256x256, .f32⟩
  | .hbm, ⟨9, _⟩ => ⟨S4x256x4096, .f32⟩
  | .hbm, ⟨10, _⟩ => ⟨S4x256x32x128, .f32⟩
  | .hbm, ⟨11, _⟩ => ⟨S4x256x4096, .f32⟩
  | .hbm, ⟨12, _⟩ => ⟨S4x256x32x128, .f32⟩
  | .hbm, ⟨13, _⟩ => ⟨S4x256x4096, .f32⟩
  | .hbm, ⟨14, _⟩ => ⟨S4x256x32x128, .f32⟩
  | .hbm, ⟨15, _⟩ => ⟨S4x256x2048, .f32⟩
  | .hbm, ⟨16, _⟩ => ⟨S4x256x32x64, .f32⟩
  | .hbm, ⟨17, _⟩ => ⟨S4x256x64, .f32⟩
  | .hbm, ⟨18, _⟩ => ⟨S4x256x1x64, .f32⟩
  | .hbm, ⟨19, _⟩ => ⟨S4x32x256x256, .f32⟩
  | .hbm, ⟨20, _⟩ => ⟨S4x256x32x64, .f32⟩
  | .hbm, ⟨21, _⟩ => ⟨S4x32x256x256, .f32⟩
  | .hbm, ⟨22, _⟩ => ⟨S4x32x256x256, .f32⟩
  | .hbm, ⟨23, _⟩ => ⟨S_, .f32⟩
  | .hbm, ⟨24, _⟩ => ⟨S4x32x256x256, .f32⟩
  | .hbm, ⟨25, _⟩ => ⟨S4x32x256x256, .f32⟩
  | .hbm, ⟨26, _⟩ => ⟨S_, .f32⟩
  | .hbm, ⟨27, _⟩ => ⟨S4x32x256, .f32⟩
  | .hbm, ⟨28, _⟩ => ⟨S4x32x256x1, .f32⟩
  | .hbm, ⟨29, _⟩ => ⟨S4x32x256x256, .f32⟩
  | .hbm, ⟨30, _⟩ => ⟨S4x32x256x256, .f32⟩
  | .hbm, ⟨31, _⟩ => ⟨S4x32x256x256, .f32⟩
  | .hbm, ⟨32, _⟩ => ⟨S_, .f32⟩
  | .hbm, ⟨33, _⟩ => ⟨S4x32x256, .f32⟩
  | .hbm, ⟨34, _⟩ => ⟨S4x32x256x1, .f32⟩
  | .hbm, ⟨35, _⟩ => ⟨S4x32x256x256, .f32⟩
  | .hbm, ⟨36, _⟩ => ⟨S4x32x256x256, .f32⟩
  | .hbm, ⟨37, _⟩ => ⟨S4x32x128x256, .f32⟩
  | .hbm, ⟨38, _⟩ => ⟨S4x256x32x128, .f32⟩
  | .hbm, ⟨39, _⟩ => ⟨S4x256x4096, .f32⟩
  | .hbm, ⟨40, _⟩ => ⟨S4x256x4096, .f32⟩
  | .hbm, ⟨41, _⟩ => ⟨S4x256x4096, .bf16⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Struct.lean ====
/-
The kernel's text as a short program: each of its loops, which the printed form unrolls, is written once
over the loop's counter. The printed body at the one grid point is this program by unfolding.
-/
module

public import proofs.«01_k».proof.Proof.Gen.KernelIdeal.Frame
public import proofs.«01_k».proof.Proof.Gen.KernelIdeal.Skeleton

@[expose] public section

noncomputable section

namespace Cert.K

open Cert.KernelIdeal Cert.KernelIdeal.Gen
open Idealize.ShloMosaic Idealize.SL.Sem

variable {F : FTy → Type} [FloatOps F]

/-- The programs a core runs. -/
local notation "ℙ" => Prog (TpuEff nD τ sig (Elt F) Λ₀ Proc.tc)

/-! ## The buffers -/

abbrev xH : Memref sig .tc .hbm S4x256x4096 .f32 := Memref.whole main_arg0
abbrev wqH : Memref sig .tc .hbm S4096x4096 .f32 := Memref.whole main_arg4
abbrev wqrH : Memref sig .tc .hbm S4096x2048 .f32 := Memref.whole main_arg5
abbrev woH : Memref sig .tc .hbm S4096x4096 .f32 := Memref.whole main_arg7
abbrev wdM : Memref sig .tc .vmem S4096x128 .f32 := Memref.whole cc0_stg0_0
abbrev wukM : Memref sig .tc .vmem S128x4096 .f32 := Memref.whole cc0_stg1_0
abbrev wuvM : Memref sig .tc .vmem S128x4096 .f32 := Memref.whole cc0_stg2_0
abbrev wkrM : Memref sig .tc .vmem S64x4096 .f32 := Memref.whole cc0_stg3_0
abbrev outM : Memref sig .tc .vmem S4x256x4096 .bf16 := Memref.whole cc0_stg4_0
abbrev x32M : Memref sig .tc .vmem S256x4096 .f32 := Memref.whole cc0_scratch0
abbrev xbM : Memref sig .tc .vmem S256x4096 .bf16 := Memref.whole cc0_scratch1
abbrev clM : Memref sig .tc .vmem S256x128 .bf16 := Memref.whole cc0_scratch2
abbrev crM : Memref sig .tc .vmem S256x128 .bf16 := Memref.whole cc0_scratch3
abbrev uklM : Memref sig .tc .vmem S128x2048 .bf16 := Memref.whole cc0_scratch4
abbrev ukrM : Memref sig .tc .vmem S128x2048 .bf16 := Memref.whole cc0_scratch5
abbrev uvlM : Memref sig .tc .vmem S128x2048 .bf16 := Memref.whole cc0_scratch6
abbrev uvrM : Memref sig .tc .vmem S128x2048 .bf16 := Memref.whole cc0_scratch7
abbrev kM : Memref sig .tc .vmem S256x2048 .bf16 := Memref.whole cc0_scratch8
abbrev vM : Memref sig .tc .vmem S256x2048 .bf16 := Memref.whole cc0_scratch9
abbrev krM : Memref sig .tc .vmem S256x64 .bf16 := Memref.whole cc0_scratch10
abbrev qM : Memref sig .tc .vmem S256x2048 .bf16 := Memref.whole cc0_scratch11
abbrev qrM : Memref sig .tc .vmem S256x1024 .bf16 := Memref.whole cc0_scratch12
abbrev oM : Memref sig .tc .vmem S256x4096 .bf16 := Memref.whole cc0_scratch13
abbrev sqM : Memref sig .tc .vmem S2x4096x256 .f32 := Memref.whole cc0_scratch14
abbrev sqrM : Memref sig .tc .vmem S2x4096x128 .f32 := Memref.whole cc0_scratch15
abbrev swoM : Memref sig .tc .vmem S2x4096x256 .f32 := Memref.whole cc0_scratch16

/-! ## Rectangles -/

theorem st256_inb : ∀ b : Fin 2, ∀ a, (![b.val, 0, 0] : Fin 3 → Nat) a + S1x4096x256.size a ≤ S2x4096x256.size a := by decide
theorem st128_inb : ∀ b : Fin 2, ∀ a, (![b.val, 0, 0] : Fin 3 → Nat) a + S1x4096x128.size a ≤ S2x4096x128.size a := by decide
theorem s2_inb : ∀ b : Fin 2, ∀ a, (![b.val] : Fin 1 → Nat) a + S1.size a ≤ S2.size a := by decide
theorem s3_inb : ∀ b : Fin 3, ∀ a, (![b.val] : Fin 1 → Nat) a + S1.size a ≤ S3.size a := by decide
theorem s8_inb : ∀ b : Fin 8, ∀ a, (![b.val] : Fin 1 → Nat) a + S1.size a ≤ S8.size a := by decide
theorem s64_inb : ∀ (r : Fin 4) (j : Fin 16), ∀ a, (![r.val, j.val] : Fin 2 → Nat) a + S1x1.size a ≤ S4x16.size a := by decide
theorem q_inb : ∀ k : Fin 8, ∀ a, (![0, 256 * k.val] : Fin 2 → Nat) a + S256x256.size a ≤ S256x2048.size a := by decide
theorem qr_inb : ∀ k : Fin 8, ∀ a, (![0, 128 * k.val] : Fin 2 → Nat) a + S256x128.size a ≤ S256x1024.size a := by decide
theorem h_inb : ∀ h : Fin 16, ∀ a, (![0, 128 * h.val] : Fin 2 → Nat) a + S256x128.size a ≤ S256x2048.size a := by decide
theorem wo_inb : ∀ j : Fin 16, ∀ a, (![0, 256 * j.val] : Fin 2 → Nat) a + S4096x256.size a ≤ S4096x4096.size a := by decide
theorem q_packed : ∀ k : Fin 8, (Rect.unit (s := S256x2048) ![0, 256 * k.val] S256x256.size (q_inb k)).PackedRows (EltTy.packing .bf16) := by decide +kernel
theorem qr_packed : ∀ k : Fin 8, (Rect.unit (s := S256x1024) ![0, 128 * k.val] S256x128.size (qr_inb k)).PackedRows (EltTy.packing .bf16) := by decide +kernel

/-- Where a device's own stripe `j` of the result lies; its neighbour's along the first axis of the mesh, upper
    half; its neighbour's along the second, lower half. -/
def offO (d : Dev nD) (j : Fin 16) : Fin 3 → Nat := ![k0_off10 d 0, 0, 256 * j.val]
def offX (d : Dev nD) (j : Fin 16) : Fin 3 → Nat := ![k0_off15 d 0, 0, 256 * j.val]
def offY (d : Dev nD) (j : Fin 16) : Fin 3 → Nat := ![k0_off16 d 0, 128, 256 * j.val]
theorem offO_inb : ∀ (d : Dev nD) (j : Fin 16), ∀ a, offO d j a + S1x256x256.size a ≤ S4x256x4096.size a := by decide +kernel
theorem offX_inb : ∀ (d : Dev nD) (j : Fin 16), ∀ a, offX d j a + S1x128x256.size a ≤ S4x256x4096.size a := by decide +kernel
theorem offY_inb : ∀ (d : Dev nD) (j : Fin 16), ∀ a, offY d j a + S1x128x256.size a ≤ S4x256x4096.size a := by decide +kernel
theorem offO_packed : ∀ (d : Dev nD) (j : Fin 16), (Rect.unit (s := S4x256x4096) (offO d j) S1x256x256.size (offO_inb d j)).PackedRows (EltTy.packing .bf16) := by decide +kernel
theorem offO_words : ∀ (d : Dev nD) (j : Fin 16), (Rect.unit (s := S4x256x4096) (offO d j) S1x256x256.size (offO_inb d j)).WholeWords (EltTy.packing .bf16) := by decide +kernel
theorem offX_words : ∀ (d : Dev nD) (j : Fin 16), (Rect.unit (s := S4x256x4096) (offX d j) S1x128x256.size (offX_inb d j)).WholeWords (EltTy.packing .bf16) := by decide +kernel
theorem offY_words : ∀ (d : Dev nD) (j : Fin 16), (Rect.unit (s := S4x256x4096) (offY d j) S1x128x256.size (offY_inb d j)).WholeWords (EltTy.packing .bf16) := by decide +kernel

/-! ## Parts of buffers -/

abbrev sq (b : Fin 2) : Memref sig .tc .vmem S4096x256 .f32 :=
  (sqM.slice (Rect.unit (s := S2x4096x256) ![b.val, 0, 0] S1x4096x256.size (st256_inb b)) (fun _ => rfl)).squeeze S4096x256 squeezes_S1x4096x256_S4096x256
abbrev sqr (b : Fin 2) : Memref sig .tc .vmem S4096x128 .f32 :=
  (sqrM.slice (Rect.unit (s := S2x4096x128) ![b.val, 0, 0] S1x4096x128.size (st128_inb b)) (fun _ => rfl)).squeeze S4096x128 squeezes_S1x4096x128_S4096x128
abbrev swo (b : Fin 2) : Memref sig .tc .vmem S4096x256 .f32 :=
  (swoM.slice (Rect.unit (s := S2x4096x256) ![b.val, 0, 0] S1x4096x256.size (st256_inb b)) (fun _ => rfl)).squeeze S4096x256 squeezes_S1x4096x256_S4096x256
abbrev wqB (d : Dev nD) (k : Fin 8) : Memref sig .tc .hbm S4096x256 .f32 :=
  wqH.slice (Rect.unit (s := S4096x4096) (k0_off1 d (BitVec.ofNat 32 (256 * k.val))) S4096x256.size (k0_off1_inb d k)) (fun _ => rfl)
abbrev wqrB (d : Dev nD) (k : Fin 8) : Memref sig .tc .hbm S4096x128 .f32 :=
  wqrH.slice (Rect.unit (s := S4096x2048) (k0_off2 d (BitVec.ofNat 32 (128 * k.val))) S4096x128.size (k0_off2_inb d k)) (fun _ => rfl)
abbrev woB (j : Fin 16) : Memref sig .tc .hbm S4096x256 .f32 :=
  woH.slice (Rect.unit (s := S4096x4096) ![0, 256 * j.val] S4096x256.size (wo_inb j)) (fun _ => rfl)
abbrev xB (d : Dev nD) : Memref sig .tc .hbm S256x4096 .f32 :=
  (xH.slice (Rect.unit (s := S4x256x4096) (k0_off3 d) S1x256x4096.size (k0_off3_inb d)) (fun _ => rfl)).squeeze S256x4096 squeezes_S1x256x4096_S256x4096
/-- The device's own column block `k` of the attention output, and its partner's. -/
abbrev oB (d : Dev nD) (k : Fin 8) : Memref sig .tc .vmem S256x256 .bf16 :=
  oM.slice (Rect.unit (s := S256x4096) (k0_off7 d (BitVec.ofNat 32 (256 * k.val))) S256x256.size (k0_off7_inb d k)) (fun _ => rfl)
abbrev oB' (d : Dev nD) (k : Fin 8) : Memref sig .tc .vmem S256x256 .bf16 :=
  oM.slice (Rect.unit (s := S256x4096) (k0_off8 d (BitVec.ofNat 32 (256 * k.val))) S256x256.size (k0_off8_inb d k)) (fun _ => rfl)
abbrev outO (d : Dev nD) (j : Fin 16) : Memref sig .tc .vmem S256x256 .bf16 :=
  (outM.slice (Rect.unit (s := S4x256x4096) (offO d j) S1x256x256.size (offO_inb d j)) (fun _ => rfl)).squeeze S256x256 squeezes_S1x256x256_S256x256
abbrev outX (d : Dev nD) (j : Fin 16) : Memref sig .tc .vmem S128x256 .bf16 :=
  (outM.slice (Rect.unit (s := S4x256x4096) (offX d j) S1x128x256.size (offX_inb d j)) (fun _ => rfl)).squeeze S128x256 squeezes_S1x128x256_S128x256
abbrev outY (d : Dev nD) (j : Fin 16) : Memref sig .tc .vmem S128x256 .bf16 :=
  (outM.slice (Rect.unit (s := S4x256x4096) (offY d j) S1x128x256.size (offY_inb d j)) (fun _ => rfl)).squeeze S128x256 squeezes_S1x128x256_S128x256

theorem oB_words (d : Dev nD) (k : Fin 8) : (oB d k).view.WordExact := (Memref.isWhole_whole cc0_scratch13).wordExact_slice rfl _ (k0_off7_wordsbf16 d k)
theorem oB'_words (d : Dev nD) (k : Fin 8) : (oB' d k).view.WordExact := (Memref.isWhole_whole cc0_scratch13).wordExact_slice rfl _ (k0_off8_wordsbf16 d k)
theorem outO_words (d : Dev nD) (j : Fin 16) : (outO d j).view.WordExact := ((Memref.isWhole_whole cc0_stg4_0).wordExact_slice rfl _ (offO_words d j)).reshape _ _
theorem outX_words (d : Dev nD) (j : Fin 16) : (outX d j).view.WordExact := ((Memref.isWhole_whole cc0_stg4_0).wordExact_slice rfl _ (offX_words d j)).reshape _ _
theorem outY_words (d : Dev nD) (j : Fin 16) : (outY d j).view.WordExact := ((Memref.isWhole_whole cc0_stg4_0).wordExact_slice rfl _ (offY_words d j)).reshape _ _

/-! ## Semaphores -/

abbrev barS : Sem sig := (SemArray.scalar (sig.barrier 0 rfl) : Sems sig S_).sem
abbrev xS : DmaSem sig := cc0_scratch17.sem
abbrev wqS (b : Fin 2) : DmaSem sig := ((cc0_scratch18.slice (Rect.unit (s := S2) ![b.val] S1.size (s2_inb b))).squeeze S_ squeezes_S1_S_).sem
abbrev wqrS (b : Fin 2) : DmaSem sig := ((cc0_scratch19.slice (Rect.unit (s := S2) ![b.val] S1.size (s2_inb b))).squeeze S_ squeezes_S1_S_).sem
abbrev woS (b : Fin 2) : DmaSem sig := ((cc0_scratch20.slice (Rect.unit (s := S2) ![b.val] S1.size (s2_inb b))).squeeze S_ squeezes_S1_S_).sem
abbrev zS (i : Fin 3) : DmaSem sig := ((cc0_scratch21.slice (Rect.unit (s := S3) ![i.val] S1.size (s3_inb i))).squeeze S_ squeezes_S1_S_).sem
abbrev zR (i : Fin 3) : DmaSem sig := ((cc0_scratch22.slice (Rect.unit (s := S3) ![i.val] S1.size (s3_inb i))).squeeze S_ squeezes_S1_S_).sem
abbrev oS (k : Fin 8) : DmaSem sig := ((cc0_scratch23.slice (Rect.unit (s := S8) ![k.val] S1.size (s8_inb k))).squeeze S_ squeezes_S1_S_).sem
abbrev oR (k : Fin 8) : DmaSem sig := ((cc0_scratch24.slice (Rect.unit (s := S8) ![k.val] S1.size (s8_inb k))).squeeze S_ squeezes_S1_S_).sem
abbrev gS (r : Fin 4) (j : Fin 16) : DmaSem sig := ((cc0_scratch25.slice (Rect.unit (s := S4x16) ![r.val, j.val] S1x1.size (s64_inb r j))).squeeze S_ squeezes_S1x1_S_).sem
abbrev gR (r : Fin 4) (j : Fin 16) : DmaSem sig := ((cc0_scratch26.slice (Rect.unit (s := S4x16) ![r.val, j.val] S1x1.size (s64_inb r j))).squeeze S_ squeezes_S1x1_S_).sem

/-! ## Neighbours, as the text computes them -/

abbrev zpD (d : Dev nD) : Dev nD := ⟨k0_dev1 d, k0_dev1_lt d⟩
abbrev xnD (d : Dev nD) : Dev nD := ⟨k0_dev2 d, k0_dev2_lt d⟩
abbrev ynD (d : Dev nD) : Dev nD := ⟨k0_dev3 d, k0_dev3_lt d⟩

/-! ## Steps -/

/-- Load a rectangle; store over a rectangle. -/
abbrev loadR {s : Shape} {e : EltTy} (m : Memref sig .tc .vmem s e) (r : Rect s) (h : 0 < r.shape.numel) : ℙ (r.shape.Idx → Elt F e) :=
  Prog.lift (TpuEff.load m r.toLoadRect (View.loadsAt_vmem h))

/-- Copy `src` here into `dst`, signalling `s`. -/
abbrev copyC {sh : Shape} {e : EltTy} (src : Memref sig .tc .hbm sh e) (dst : Memref sig .tc .vmem sh e) (s : DmaSem sig)
    (h₁ : src.view.WordExact) (h₂ : dst.view.WordExact) : ℙ PUnit :=
  Prog.lift (TpuEff.enqueueDma src (.here dst) (.dma s) h₁ h₂ ⟨Or.inl rfl, trivial⟩)

/-- Wait on `s` for a copy into `dst`. -/
abbrev waitC {sp sp' : Space} {sh sh' : Shape} {e e' : EltTy} (s : DmaSem sig) (src : Memref sig .tc sp sh e) (dst : Memref sig .tc sp' sh' e')
    (h₁ : src.view.WordExact) (h₂ : dst.view.WordExact) : ℙ PUnit :=
  Prog.lift (TpuEff.waitDma2 s src dst h₁ h₂)

/-- Send `src` into `dst` on device `n`, signalling `s` here and `r` there. -/
abbrev sendC {sh : Shape} {e : EltTy} (n : Dev nD) (src dst : Memref sig .tc .vmem sh e) (s r : DmaSem sig)
    (h₁ : src.view.WordExact) (h₂ : dst.view.WordExact) (hd : dst.view.ref.isScScratch = false) : ℙ PUnit :=
  Prog.lift (TpuEff.enqueueDma src (.remote (Dev.tc n) dst (.dma s) hd) (.dma r) h₁ h₂ ⟨⟨rfl, Or.inl rfl⟩, trivial⟩)

/-- A counted loop: `f 0`, then `f 1`, …, then `f (n - 1)`. -/
def loopF (n : ℕ) (f : Fin n → ℙ PUnit) : (k : ℕ) → k ≤ n → ℙ PUnit
  | 0, _ => pure ⟨⟩
  | k + 1, h => f ⟨n - (k + 1), by omega⟩ >>= fun _ => loopF n f k (by omega)

/-! ## What the blocks compute -/

/-- A query block: `x` against a block of the projection. -/
def payQ (x : Vec F S256x4096 .bf16) (w : Vec F S1x4096x256 .f32) : FVec F S256x256 .bf16 := k0_pay10 x w
def payQr (x : Vec F S256x4096 .bf16) (w : Vec F S1x4096x128 .f32) : FVec F S256x128 .bf16 := k0_pay9 x w
def payV (c : Vec F S256x128 .bf16) (w : Vec F S128x2048 .f32) (c' : Vec F S256x128 .bf16) (w' : Vec F S128x2048 .bf16) : FVec F S256x2048 .bf16 := k0_pay24 c w c' w'

/-- The scores of one head. -/
def scores (krt : FVec F S64x256 .bf16) (qr : FVec F S256x64 .bf16) (q k : Vec F S256x128 .bf16) : FVec F S256x256 .f32 :=
  mulf (addf (matmul dot_S256x128_S128x256_S256x256_1_0_0_1_n_n none q (transpose S128x256 [1, 0] k transposes_S256x128_p1_0_S128x256) (constant S256x256 .f32 0x00000000#32))
      (matmul dot_S256x64_S64x256_S256x256_1_0_0_1_n_n none qr krt (constant S256x256 .f32 0x00000000#32)))
    (broadcast S256x256 (Scalar.ofBits .f32 0x3D93CD3A#32 : F .f32))
/-- Each row's exponentials, relative to the row's greatest. -/
def expRows (s : FVec F S256x256 .f32) : FVec F S256x256 .f32 :=
  exp (subf s (broadcastTo S256x256 (shapeCast S256x1 (multiReduction .maximumf [1] S256 s 0xFF800000#32 reduces_S256x256_S256 (.inl rfl) rfl) shapeCasts_S256_S256x1)
    broadcasts_S256x1_S256x256))
/-- Each row over its sum. -/
def normRows (e : FVec F S256x256 .f32) : FVec F S256x256 .f32 :=
  divf e (broadcastTo S256x256 (shapeCast S256x1 (multiReduction .add [1] S256 e 0x00000000#32 reduces_S256x256_S256 (.inl rfl) rfl) shapeCasts_S256_S256x1)
    broadcasts_S256x1_S256x256)
/-- One head's output. -/
def headO (krt : FVec F S64x256 .bf16) (qr : FVec F S256x64 .bf16) (q k v : Vec F S256x128 .bf16) : FVec F S256x128 .f32 :=
  matmul dot_S256x256_S256x128_S256x128_1_0_0_1_n_n none (truncf .bf16 (normRows (expRows (scores krt qr q k))) bitsLt_bf16_f32) v
    (constant S256x128 .f32 0x00000000#32)
/-- Two heads' outputs, side by side. -/
def payO (kr : Vec F S256x64 .bf16) (qr : Vec F S256x128 .bf16) (q₀ k₀ v₀ q₁ k₁ v₁ : Vec F S256x128 .bf16) : FVec F S256x256 .bf16 :=
  shapeCast S256x256 (truncf .bf16 (concatenate S256x256 1
    [⟨S256x128, headO (k0_pay28 kr) (extractStridedSlice S256x64 ![0, 0] qr slices_S256x128_o0_0_S256x64) q₀ k₀ v₀⟩,
     ⟨S256x128, headO (k0_pay28 kr) (extractStridedSlice S256x64 ![0, 64] qr slices_S256x128_o0_64_S256x64) q₁ k₁ v₁⟩]
    concatenates_S256x128_S256x128_S256x256_d1) bitsLt_bf16_f32) shapeCasts_S256x256_S256x256
/-- A stripe of the result. -/
def payW (o : Vec F S256x4096 .bf16) (w : Vec F S1x4096x256 .f32) : FVec F S1x256x256 .bf16 := k0_pay53 o w

/-! ## Access rectangles -/

abbrev rX : Rect S256x4096 := Rect.unit (s := S256x4096) ![0, 0] S256x4096.size inb_S256x4096_S256x4096_0_0
abbrev rC : Rect S256x128 := Rect.unit (s := S256x128) ![0, 0] S256x128.size inb_S256x128_S256x128_0_0
abbrev rU : Rect S128x2048 := Rect.unit (s := S128x2048) ![0, 0] S128x2048.size inb_S128x2048_S128x2048_0_0
abbrev rKV : Rect S256x2048 := Rect.unit (s := S256x2048) ![0, 0] S256x2048.size inb_S256x2048_S256x2048_0_0
abbrev rKr : Rect S256x64 := Rect.unit (s := S256x64) ![0, 0] S256x64.size inb_S256x64_S256x64_0_0
abbrev rWd : Rect S4096x128 := Rect.unit (s := S4096x128) ![0, 0] S4096x128.size inb_S4096x128_S4096x128_0_0
abbrev rWkr : Rect S64x4096 := Rect.unit (s := S64x4096) ![0, 0] S64x4096.size inb_S64x4096_S64x4096_0_0
abbrev rU4 (d : Dev nD) : Rect S128x4096 := Rect.unit (s := S128x4096) (k0_off4 d) S128x2048.size (k0_off4_inb d)
abbrev rU5 (d : Dev nD) : Rect S128x4096 := Rect.unit (s := S128x4096) (k0_off5 d) S128x2048.size (k0_off5_inb d)
abbrev rS256 (b : Fin 2) : Rect S2x4096x256 := Rect.unit (s := S2x4096x256) ![b.val, 0, 0] S1x4096x256.size (st256_inb b)
abbrev rS128 (b : Fin 2) : Rect S2x4096x128 := Rect.unit (s := S2x4096x128) ![b.val, 0, 0] S1x4096x128.size (st128_inb b)
abbrev rQ (k : Fin 8) : Rect S256x2048 := Rect.unit (s := S256x2048) ![0, 256 * k.val] S256x256.size (q_inb k)
abbrev rQr (k : Fin 8) : Rect S256x1024 := Rect.unit (s := S256x1024) ![0, 128 * k.val] S256x128.size (qr_inb k)
abbrev rH (h : Fin 16) : Rect S256x2048 := Rect.unit (s := S256x2048) ![0, 128 * h.val] S256x128.size (h_inb h)
abbrev rOb (d : Dev nD) (k : Fin 8) : Rect S256x4096 := Rect.unit (s := S256x4096) (k0_off6 d (BitVec.ofNat 32 (256 * k.val))) S256x256.size (k0_off6_inb d k)
abbrev rOut (d : Dev nD) (j : Fin 16) : Rect S4x256x4096 := Rect.unit (s := S4x256x4096) (offO d j) S1x256x256.size (offO_inb d j)

/-! ## The phases -/

def sl (k : ℕ) : Fin 2 := ⟨k % 2, Nat.mod_lt _ (by decide)⟩

abbrev cpWq (d : Dev nD) (k : Fin 8) : ℙ PUnit := copyC (wqB d k) (sq (sl k)) (wqS (sl k)) (View.wordExact_bits rfl) ((View.wordExact_bits rfl).reshape _ _)
abbrev cpWqr (d : Dev nD) (k : Fin 8) : ℙ PUnit := copyC (wqrB d k) (sqr (sl k)) (wqrS (sl k)) (View.wordExact_bits rfl) ((View.wordExact_bits rfl).reshape _ _)
abbrev cpWo (j : Fin 16) : ℙ PUnit := copyC (woB j) (swo (sl j)) (woS (sl j)) (View.wordExact_bits rfl) ((View.wordExact_bits rfl).reshape _ _)

/-- The activations, the device's share of the latent and of the two up-projections. -/
def phaseX (d : Dev nD) : ℙ PUnit := do
  cpWq d 0
  cpWqr d 0
  copyC (xB d) x32M xS ((View.wordExact_bits rfl).reshape _ _) (Memref.isWhole_whole _).wordExact
  waitC xS (xB d) x32M ((View.wordExact_bits rfl).reshape _ _) (Memref.isWhole_whole _).wordExact
  let a ← loadR x32M rX h_S256x4096
  let _ ← loadR xbM rX h_S256x4096
  Prog.lift (TpuEff.store xbM rX (k0_pay1 a) Finset.univ (View.stores_vmem h_S256x4096 ((Memref.isWhole_whole _).storeExact_slice rfl _ packedbf16_S256x4096_S256x4096_0_0) (fun _ => rfl)) (.inl rfl))
  let b ← loadR xbM rX h_S256x4096
  let w ← loadR wdM rWd h_S4096x128
  let _ ← loadR clM rC h_S256x128
  Prog.lift (TpuEff.store clM rC (k0_pay2 b w) Finset.univ (View.stores_vmem h_S256x128 ((Memref.isWhole_whole _).storeExact_slice rfl _ packedbf16_S256x128_S256x128_0_0) (fun _ => rfl)) (.inl rfl))
  let u ← loadR wukM (rU4 d) h_S128x2048
  let _ ← loadR uklM rU h_S128x2048
  Prog.lift (TpuEff.store uklM rU (k0_pay3 u) Finset.univ (View.stores_vmem h_S128x2048 ((Memref.isWhole_whole _).storeExact_slice rfl _ packedbf16_S128x2048_S128x2048_0_0) (fun _ => rfl)) (.inl rfl))
  let u' ← loadR wuvM (rU4 d) h_S128x2048
  let _ ← loadR uvlM rU h_S128x2048
  Prog.lift (TpuEff.store uvlM rU (k0_pay3 u') Finset.univ (View.stores_vmem h_S128x2048 ((Memref.isWhole_whole _).storeExact_slice rfl _ packedbf16_S128x2048_S128x2048_0_0) (fun _ => rfl)) (.inl rfl))

/-- The barrier with the three neighbours. -/
def phaseB (d : Dev nD) : ℙ PUnit := do
  semSignalWord (zpD d) barS 1#32
  semSignalWord (xnD d) barS 1#32
  semSignalWord (ynD d) barS 1#32
  semWaitWord barS 3#32

/-- The exchange along the third axis begun; the rotary keys. -/
def phaseZ (d : Dev nD) : ℙ PUnit := do
  sendC (zpD d) clM crM (zS 0) (zR 0) (Memref.isWhole_whole _).wordExact (Memref.isWhole_whole _).wordExact rfl
  sendC (zpD d) uklM ukrM (zS 1) (zR 1) (Memref.isWhole_whole _).wordExact (Memref.isWhole_whole _).wordExact rfl
  sendC (zpD d) uvlM uvrM (zS 2) (zR 2) (Memref.isWhole_whole _).wordExact (Memref.isWhole_whole _).wordExact rfl
  let b ← loadR xbM rX h_S256x4096
  let w ← loadR wkrM rWkr h_S64x4096
  let _ ← loadR krM rKr h_S256x64
  Prog.lift (TpuEff.store krM rKr (k0_pay6 b w) Finset.univ (View.stores_vmem h_S256x64 ((Memref.isWhole_whole _).storeExact_slice rfl _ packedbf16_S256x64_S256x64_0_0) (fun _ => rfl)) (.inl rfl))

/-- The next blocks of the two query projections asked for, where there are more. -/
def startQ (d : Dev nD) (k : Fin 8) : ℙ PUnit :=
  if h : k.val + 1 < 8 then do
    cpWq d ⟨k.val + 1, h⟩
    cpWqr d ⟨k.val + 1, h⟩
  else pure ⟨⟩

/-- Query block `k`. -/
def stepQ (d : Dev nD) (k : Fin 8) : ℙ PUnit := do
  waitC (wqS (sl k)) (wqB d 0) (sq (sl k)) (View.wordExact_bits rfl) ((View.wordExact_bits rfl).reshape _ _)
  waitC (wqrS (sl k)) (wqrB d 0) (sqr (sl k)) (View.wordExact_bits rfl) ((View.wordExact_bits rfl).reshape _ _)
  startQ d k
  let b ← loadR xbM rX h_S256x4096
  let w ← loadR sqM (rS256 (sl k)) h_S1x4096x256
  let _ ← loadR qM (rQ k) h_S256x256
  Prog.lift (TpuEff.store qM (rQ k) (payQ b w) Finset.univ (View.stores_vmem h_S256x256 ((Memref.isWhole_whole _).storeExact_slice rfl _ (q_packed k)) (fun _ => rfl)) (.inl rfl))
  let b' ← loadR xbM rX h_S256x4096
  let w' ← loadR sqrM (rS128 (sl k)) h_S1x4096x128
  let _ ← loadR qrM (rQr k) h_S256x128
  Prog.lift (TpuEff.store qrM (rQr k) (payQr b' w') Finset.univ (View.stores_vmem h_S256x128 ((Memref.isWhole_whole _).storeExact_slice rfl _ (qr_packed k)) (fun _ => rfl)) (.inl rfl))

/-- The exchange along the third axis ended; keys and values; the first two blocks of the last projection asked for. -/
def phaseKV (d : Dev nD) : ℙ PUnit := do
  waitC (zS 0) crM clM (Memref.isWhole_whole _).wordExact (Memref.isWhole_whole _).wordExact
  waitC (zR 0) clM crM (Memref.isWhole_whole _).wordExact (Memref.isWhole_whole _).wordExact
  waitC (zS 1) ukrM uklM (Memref.isWhole_whole _).wordExact (Memref.isWhole_whole _).wordExact
  waitC (zR 1) uklM ukrM (Memref.isWhole_whole _).wordExact (Memref.isWhole_whole _).wordExact
  waitC (zS 2) uvrM uvlM (Memref.isWhole_whole _).wordExact (Memref.isWhole_whole _).wordExact
  waitC (zR 2) uvlM uvrM (Memref.isWhole_whole _).wordExact (Memref.isWhole_whole _).wordExact
  let c ← loadR clM rC h_S256x128
  let u ← loadR wukM (rU5 d) h_S128x2048
  let c' ← loadR crM rC h_S256x128
  let u' ← loadR ukrM rU h_S128x2048
  let _ ← loadR kM rKV h_S256x2048
  Prog.lift (TpuEff.store kM rKV (k0_pay24 c u c' u') Finset.univ (View.stores_vmem h_S256x2048 ((Memref.isWhole_whole _).storeExact_slice rfl _ packedbf16_S256x2048_S256x2048_0_0) (fun _ => rfl)) (.inl rfl))
  let c ← loadR clM rC h_S256x128
  let u ← loadR wuvM (rU5 d) h_S128x2048
  let c' ← loadR crM rC h_S256x128
  let u' ← loadR uvrM rU h_S128x2048
  let _ ← loadR vM rKV h_S256x2048
  Prog.lift (TpuEff.store vM rKV (payV c u c' u') Finset.univ (View.stores_vmem h_S256x2048 ((Memref.isWhole_whole _).storeExact_slice rfl _ packedbf16_S256x2048_S256x2048_0_0) (fun _ => rfl)) (.inl rfl))
  cpWo 0
  cpWo 1

def h₀ (k : Fin 8) : Fin 16 := ⟨2 * k.val, by omega⟩
def h₁ (k : Fin 8) : Fin 16 := ⟨2 * k.val + 1, by omega⟩

/-- Heads `2 k` and `2 k + 1`: their outputs, stored and sent on. -/
def stepA (d : Dev nD) (kr : Vec F S256x64 .bf16) (k : Fin 8) : ℙ PUnit := do
  let qr ← loadR qrM (rQr k) h_S256x128
  let q₀ ← loadR qM (rH (h₀ k)) h_S256x128
  let k₀ ← loadR kM (rH (h₀ k)) h_S256x128
  let v₀ ← loadR vM (rH (h₀ k)) h_S256x128
  let q₁ ← loadR qM (rH (h₁ k)) h_S256x128
  let k₁ ← loadR kM (rH (h₁ k)) h_S256x128
  let v₁ ← loadR vM (rH (h₁ k)) h_S256x128
  let _ ← loadR oM (rOb d k) h_S256x256
  Prog.lift (TpuEff.store oM (rOb d k) (payO kr qr q₀ k₀ v₀ q₁ k₁ v₁) Finset.univ (View.stores_vmem h_S256x256 ((Memref.isWhole_whole _).storeExact_slice rfl _ (k0_off6_packedbf16 d k)) (fun _ => rfl)) (.inl rfl))
  sendC (zpD d) (oB d k) (oB d k) (oS k) (oR k) (oB_words d k) (oB_words d k) rfl

def waitO (d : Dev nD) (k : Fin 8) : ℙ PUnit := waitC (oR k) (oB' d k) (oB' d k) (oB'_words d k) (oB'_words d k)

/-- Stripe `j` arrived from both neighbours, and half of each sent on. -/
def fwd (d : Dev nD) (j : Fin 16) : ℙ PUnit := do
  waitC (gR 0 j) (outO d j) (outO d j) (outO_words d j) (outO_words d j)
  waitC (gR 1 j) (outO d j) (outO d j) (outO_words d j) (outO_words d j)
  sendC (ynD d) (outX d j) (outX d j) (gS 2 j) (gR 2 j) (outX_words d j) (outX_words d j) rfl
  sendC (xnD d) (outY d j) (outY d j) (gS 3 j) (gR 3 j) (outY_words d j) (outY_words d j) rfl

/-- The next block of the last projection for the same slot asked for, where there are more. -/
def startW (j : Fin 16) : ℙ PUnit :=
  if h : j.val + 2 < 16 then copyC (woB ⟨j.val + 2, h⟩) (swo (sl j)) (woS (sl j)) (View.wordExact_bits rfl) ((View.wordExact_bits rfl).reshape _ _) else pure ⟨⟩
/-- The stripe two before passed on, where there is one. -/
def passW (d : Dev nD) (j : Fin 16) : ℙ PUnit := if h : 2 ≤ j.val then fwd d ⟨j.val - 2, by omega⟩ else pure ⟨⟩

/-- Stripe `j` of the result. -/
def stepW (d : Dev nD) (j : Fin 16) : ℙ PUnit := do
  waitC (woS (sl j)) (woB j) (swo (sl j)) (View.wordExact_bits rfl) ((View.wordExact_bits rfl).reshape _ _)
  let o ← loadR oM rX h_S256x4096
  let w ← loadR swoM (rS256 (sl j)) h_S1x4096x256
  startW j
  let _ ← loadR outM (rOut d j) h_S1x256x256
  Prog.lift (TpuEff.store outM (rOut d j) (payW o w) Finset.univ (View.stores_vmem h_S1x256x256 ((Memref.isWhole_whole _).storeExact_slice rfl _ (offO_packed d j)) (fun _ => rfl)) (.inl rfl))
  sendC (xnD d) (outO d j) (outO d j) (gS 0 j) (gR 0 j) (outO_words d j) (outO_words d j) rfl
  sendC (ynD d) (outO d j) (outO d j) (gS 1 j) (gR 1 j) (outO_words d j) (outO_words d j) rfl
  passW d j

def drainR (d : Dev nD) (j : Fin 16) : ℙ PUnit := do
  waitC (gR 2 j) (outX d j) (outX d j) (outX_words d j) (outX_words d j)
  waitC (gR 3 j) (outY d j) (outY d j) (outY_words d j) (outY_words d j)

def drainS (d : Dev nD) (j : Fin 16) : ℙ PUnit := do
  waitC (gS 0 j) (outO d j) (outO d j) (outO_words d j) (outO_words d j)
  waitC (gS 1 j) (outO d j) (outO d j) (outO_words d j) (outO_words d j)
  waitC (gS 2 j) (outX d j) (outX d j) (outX_words d j) (outX_words d j)
  waitC (gS 3 j) (outY d j) (outY d j) (outY_words d j) (outY_words d j)

def drainO (d : Dev nD) (k : Fin 8) : ℙ PUnit := waitC (oS k) (oB d k) (oB d k) (oB_words d k) (oB_words d k)

/-- The body from the heads on; the whole body. -/
def bodyBack (d : Dev nD) : ℙ PUnit := do
  let kr ← loadR krM rKr h_S256x64
  loopF 8 (stepA d kr) 8 le_rfl
  loopF 8 (waitO d) 8 le_rfl
  loopF 16 (stepW d) 16 le_rfl
  fwd d 14
  fwd d 15
  loopF 16 (drainR d) 16 le_rfl
  loopF 16 (drainS d) 16 le_rfl
  loopF 8 (drainO d) 8 le_rfl
def bodyFront (d : Dev nD) : ℙ PUnit := do
  phaseX d
  phaseB d
  phaseZ d
  loopF 8 (stepQ d) 8 le_rfl
  phaseKV d
  bodyBack d
def body : ℙ PUnit := Prog.lift TpuEff.deviceId >>= bodyFront

set_option maxRecDepth 100000 in
/-- The printed body at the grid's one point is `body`. -/
theorem bodyAt_eq : bodyAt0 (F := F) t0_0 = body := by chain_rfl

end Cert.K

end
-- ==== Proof.Contents.lean ====
/-
What every buffer holds, as a function of the arrays the devices are given: the activations and projections of one
device, the attention output shared by the two devices of a pair, and the result shared by the four devices of a layer.
-/
module

public import proofs.«01_k».proof.Proof.Struct
public import Idealize.ShloMosaic.Lib.ViewIndex
public import Idealize.ShloMosaic.Lib.ValueIdxCore

@[expose] public section

noncomputable section

namespace Cert.K

open Cert.KernelIdeal Cert.KernelIdeal.Gen
open Idealize.ShloMosaic Idealize.SL.Sem
open Idealize.ShloMosaic.TcCoe
open Idealize.ShloMosaic.ValueIdx (ix2 ix3)

variable {F : FTy → Type} [FloatOps F]

/-- The arrays each device is given. -/
structure Inp (F : FTy → Type) where
  x : Dev nD → Vec F S4x256x4096 .f32
  wq : Dev nD → Vec F S4096x4096 .f32
  wqr : Dev nD → Vec F S4096x2048 .f32
  wo : Dev nD → Vec F S4096x4096 .f32
  wd : Dev nD → Vec F S4096x128 .f32
  wuk : Dev nD → Vec F S128x4096 .f32
  wuv : Dev nD → Vec F S128x4096 .f32
  wkr : Dev nD → Vec F S64x4096 .f32

/-! ## Neighbours -/

theorem zz : ∀ c : Dev nD, zpD (zpD c) = c := by decide +kernel
theorem xx : ∀ c : Dev nD, xnD (xnD c) = c := by decide +kernel
theorem yy : ∀ c : Dev nD, ynD (ynD c) = c := by decide +kernel
theorem zp_mod : ∀ c : Dev nD, (zpD c).val % 2 = 1 - c.val % 2 := by decide +kernel
theorem xn_mod : ∀ c : Dev nD, (xnD c).val % 2 = c.val % 2 := by decide +kernel
theorem yn_mod : ∀ c : Dev nD, (ynD c).val % 2 = c.val % 2 := by decide +kernel
theorem xn_blk : ∀ c : Dev nD, (xnD c).val / 2 = (c.val / 2 + 2) % 4 := by decide +kernel
theorem yn_blk : ∀ c : Dev nD, (ynD c).val / 2 = c.val / 2 + 1 - 2 * (c.val / 2 % 2) := by decide +kernel

/-! ## Offsets in closed form -/

theorem offO_eq : ∀ (d : Dev nD) (j : Fin 16), offO d j = ![d.val / 2, 0, 256 * j.val] := by decide +kernel
theorem offX_eq : ∀ (d : Dev nD) (j : Fin 16), offX d j = ![(d.val / 2 + 2) % 4, 0, 256 * j.val] := by decide +kernel
theorem offY_eq : ∀ (d : Dev nD) (j : Fin 16), offY d j = ![d.val / 2 + 1 - 2 * (d.val / 2 % 2), 128, 256 * j.val] := by decide +kernel
theorem off6_eq : ∀ (d : Dev nD) (k : Fin 8), k0_off6 d (BitVec.ofNat 32 (256 * k.val)) = ![0, 2048 * (d.val % 2) + 256 * k.val] := k0_off6_eq
theorem off7_eq : ∀ (d : Dev nD) (k : Fin 8), k0_off7 d (BitVec.ofNat 32 (256 * k.val)) = ![0, 2048 * (d.val % 2) + 256 * k.val] := k0_off7_eq
theorem off8_eq : ∀ (d : Dev nD) (k : Fin 8), k0_off8 d (BitVec.ofNat 32 (256 * k.val)) = ![0, 2048 * (1 - d.val % 2) + 256 * k.val] := by decide +kernel

/-! ## Elements of the blocks -/

theorem set_oB (d : Dev nD) (k : Fin 8) :
    (oB d k).view.set = (Rect.unit (s := S256x4096) (k0_off7 d (BitVec.ofNat 32 (256 * k.val))) S256x256.size (k0_off7_inb d k)).set :=
  View.set_slice_whole _ _

theorem mem_oB (d : Dev nD) (k : Fin 8) (i : S256x4096.Idx) :
    i ∈ (oB d k).view.set ↔ 2048 * (d.val % 2) + 256 * k.val ≤ (i 1).val ∧ (i 1).val < 2048 * (d.val % 2) + 256 * k.val + 256 := by
  rw [set_oB, Rect.mem_set_unit]
  have h0 : (i 0).val < 256 := (i 0).isLt
  constructor
  · intro h; have h1 := h 1; rw [off7_eq] at h1; exact h1
  · intro h a; rw [off7_eq]
    match a with
    | ⟨0, _⟩ => exact ⟨Nat.zero_le _, (by simpa using h0)⟩
    | ⟨1, _⟩ => exact h

theorem set_oB' (d : Dev nD) (k : Fin 8) :
    (oB' d k).view.set = (Rect.unit (s := S256x4096) (k0_off8 d (BitVec.ofNat 32 (256 * k.val))) S256x256.size (k0_off8_inb d k)).set :=
  View.set_slice_whole _ _

theorem mem_oB' (d : Dev nD) (k : Fin 8) (i : S256x4096.Idx) :
    i ∈ (oB' d k).view.set ↔ 2048 * (1 - d.val % 2) + 256 * k.val ≤ (i 1).val ∧ (i 1).val < 2048 * (1 - d.val % 2) + 256 * k.val + 256 := by
  rw [set_oB', Rect.mem_set_unit]
  have h0 : (i 0).val < 256 := (i 0).isLt
  constructor
  · intro h; have h1 := h 1; rw [off8_eq] at h1; exact h1
  · intro h a; rw [off8_eq]
    match a with
    | ⟨0, _⟩ => exact ⟨Nat.zero_le _, (by simpa using h0)⟩
    | ⟨1, _⟩ => exact h

theorem mem_rect3 (o : Fin 3 → ℕ) (s : Fin 3 → ℕ) (inb : ∀ a, o a + s a ≤ S4x256x4096.size a) (i : S4x256x4096.Idx) :
    i ∈ (Rect.unit (s := S4x256x4096) o s inb).set ↔ (o 0 ≤ (i 0).val ∧ (i 0).val < o 0 + s 0) ∧ (o 1 ≤ (i 1).val ∧ (i 1).val < o 1 + s 1)
      ∧ (o 2 ≤ (i 2).val ∧ (i 2).val < o 2 + s 2) := by
  rw [Rect.mem_set_unit]
  constructor
  · intro h; exact ⟨h 0, h 1, h 2⟩
  · intro h a
    match a with
    | ⟨0, _⟩ => exact h.1
    | ⟨1, _⟩ => exact h.2.1
    | ⟨2, _⟩ => exact h.2.2

theorem set_outO (d : Dev nD) (j : Fin 16) :
    (outO d j).view.set = (Rect.unit (s := S4x256x4096) (offO d j) S1x256x256.size (offO_inb d j)).set :=
  (View.set_reshape _ _).trans (View.set_slice_whole _ _)

theorem mem_outO (d : Dev nD) (j : Fin 16) (i : S4x256x4096.Idx) :
    i ∈ (outO d j).view.set ↔ (i 0).val = d.val / 2 ∧ 256 * j.val ≤ (i 2).val ∧ (i 2).val < 256 * j.val + 256 := by
  rw [set_outO, mem_rect3, offO_eq]
  have h1 : (i 1).val < 256 := (i 1).isLt
  show (d.val / 2 ≤ (i 0).val ∧ (i 0).val < d.val / 2 + 1) ∧ (0 ≤ (i 1).val ∧ (i 1).val < 0 + 256) ∧ (256 * j.val ≤ (i 2).val ∧ (i 2).val < 256 * j.val + 256) ↔ _
  omega

theorem set_outX (d : Dev nD) (j : Fin 16) :
    (outX d j).view.set = (Rect.unit (s := S4x256x4096) (offX d j) S1x128x256.size (offX_inb d j)).set :=
  (View.set_reshape _ _).trans (View.set_slice_whole _ _)

theorem mem_outX (d : Dev nD) (j : Fin 16) (i : S4x256x4096.Idx) :
    i ∈ (outX d j).view.set ↔ (i 0).val = (d.val / 2 + 2) % 4 ∧ (i 1).val < 128 ∧ 256 * j.val ≤ (i 2).val ∧ (i 2).val < 256 * j.val + 256 := by
  rw [set_outX, mem_rect3, offX_eq]
  show ((d.val / 2 + 2) % 4 ≤ (i 0).val ∧ (i 0).val < (d.val / 2 + 2) % 4 + 1) ∧ (0 ≤ (i 1).val ∧ (i 1).val < 0 + 128) ∧ (256 * j.val ≤ (i 2).val ∧ (i 2).val < 256 * j.val + 256) ↔ _
  omega

theorem set_outY (d : Dev nD) (j : Fin 16) :
    (outY d j).view.set = (Rect.unit (s := S4x256x4096) (offY d j) S1x128x256.size (offY_inb d j)).set :=
  (View.set_reshape _ _).trans (View.set_slice_whole _ _)

theorem mem_outY (d : Dev nD) (j : Fin 16) (i : S4x256x4096.Idx) :
    i ∈ (outY d j).view.set ↔ (i 0).val = d.val / 2 + 1 - 2 * (d.val / 2 % 2) ∧ 128 ≤ (i 1).val ∧ 256 * j.val ≤ (i 2).val ∧ (i 2).val < 256 * j.val + 256 := by
  rw [set_outY, mem_rect3, offY_eq]
  have h1 : (i 1).val < 256 := (i 1).isLt
  show (d.val / 2 + 1 - 2 * (d.val / 2 % 2) ≤ (i 0).val ∧ (i 0).val < d.val / 2 + 1 - 2 * (d.val / 2 % 2) + 1) ∧ (128 ≤ (i 1).val ∧ (i 1).val < 128 + 128) ∧ (256 * j.val ≤ (i 2).val ∧ (i 2).val < 256 * j.val + 256) ↔ _
  omega

/-! ## Contents -/

section Cont
variable (I : Inp F)

/-- An array of shape `4096 x n` read back through the slot it was copied into. -/
def unsq256 (w : Vec F S4096x256 .f32) : Vec F S1x4096x256 .f32 := fun x => w ((Shape.reshapeEquiv squeezes_S1x4096x256_S4096x256.numel_eq).symm x)
def unsq128 (w : Vec F S4096x128 .f32) : Vec F S1x4096x128 .f32 := fun x => w ((Shape.reshapeEquiv squeezes_S1x4096x128_S4096x128.numel_eq).symm x)

def XQ (c : Dev nD) : Vec F S256x4096 .f32 := (xB c).view.read (Elt F) (I.x c)
def XB (c : Dev nD) : Vec F S256x4096 .bf16 := k0_pay1 (XQ I c)
def CL (c : Dev nD) : Vec F S256x128 .bf16 := k0_pay2 (XB I c) (I.wd c)
def UKL (c : Dev nD) : Vec F S128x2048 .bf16 := k0_pay3 (wukM.view.readAt (Elt F) (rU4 c).toLoadRect (I.wuk c))
def UVL (c : Dev nD) : Vec F S128x2048 .bf16 := k0_pay3 (wuvM.view.readAt (Elt F) (rU4 c).toLoadRect (I.wuv c))
def KR (c : Dev nD) : Vec F S256x64 .bf16 := k0_pay6 (XB I c) (I.wkr c)
def KK (c : Dev nD) : Vec F S256x2048 .bf16 := k0_pay24 (CL I c) (wukM.view.readAt (Elt F) (rU5 c).toLoadRect (I.wuk c)) (CL I (zpD c)) (UKL I (zpD c))
def VV (c : Dev nD) : Vec F S256x2048 .bf16 := payV (CL I c) (wuvM.view.readAt (Elt F) (rU5 c).toLoadRect (I.wuv c)) (CL I (zpD c)) (UVL I (zpD c))
def WQB (c : Dev nD) (k : Fin 8) : Vec F S1x4096x256 .f32 := unsq256 ((wqB c k).view.read (Elt F) (I.wq c))
def WQRB (c : Dev nD) (k : Fin 8) : Vec F S1x4096x128 .f32 := unsq128 ((wqrB c k).view.read (Elt F) (I.wqr c))
def WOB (c : Dev nD) (j : Fin 16) : Vec F S1x4096x256 .f32 := unsq256 ((woB j).view.read (Elt F) (I.wo c))

def QA (c : Dev nD) : Vec F S256x2048 .bf16 := fun i =>
  payQ (XB I c) (WQB I c ⟨(i 1).val / 256, by have : (i 1).val < 2048 := (i 1).isLt; omega⟩)
    (ix2 (⟨(i 0).val, (i 0).isLt⟩ : Fin 256) (⟨(i 1).val % 256, Nat.mod_lt _ (by decide)⟩ : Fin 256))
def QRA (c : Dev nD) : Vec F S256x1024 .bf16 := fun i =>
  payQr (XB I c) (WQRB I c ⟨(i 1).val / 128, by have : (i 1).val < 1024 := (i 1).isLt; omega⟩)
    (ix2 (⟨(i 0).val, (i 0).isLt⟩ : Fin 256) (⟨(i 1).val % 128, Nat.mod_lt _ (by decide)⟩ : Fin 128))

/-- Two heads' outputs on one device. -/
def OBk (c : Dev nD) (k : Fin 8) : FVec F S256x256 .bf16 :=
  payO (KR I c) (qrM.view.readAt (Elt F) (rQr k).toLoadRect (QRA I c))
    (qM.view.readAt (Elt F) (rH (h₀ k)).toLoadRect (QA I c)) (kM.view.readAt (Elt F) (rH (h₀ k)).toLoadRect (KK I c)) (vM.view.readAt (Elt F) (rH (h₀ k)).toLoadRect (VV I c))
    (qM.view.readAt (Elt F) (rH (h₁ k)).toLoadRect (QA I c)) (kM.view.readAt (Elt F) (rH (h₁ k)).toLoadRect (KK I c)) (vM.view.readAt (Elt F) (rH (h₁ k)).toLoadRect (VV I c))

/-- The device of `c`'s pair which computes column `n` of the attention output. -/
def own (c : Dev nD) (n : ℕ) : Dev nD := if n / 2048 = c.val % 2 then c else zpD c

def OA (c : Dev nD) : Vec F S256x4096 .bf16 := fun i =>
  OBk I (own c (i 1).val) ⟨(i 1).val % 2048 / 256, by omega⟩
    (ix2 (⟨(i 0).val, (i 0).isLt⟩ : Fin 256) (⟨(i 1).val % 256, Nat.mod_lt _ (by decide)⟩ : Fin 256))

/-- The device of `c`'s layer which computes batch `b`. -/
def lay (c : Dev nD) (b : Fin 4) : Dev nD := ⟨2 * b.val + c.val % 2, by have := b.isLt; show _ < 8; omega⟩

def OUT (c : Dev nD) : Vec F S4x256x4096 .bf16 := fun i =>
  payW (OA I (lay c ⟨(i 0).val, (i 0).isLt⟩)) (WOB I (lay c ⟨(i 0).val, (i 0).isLt⟩) ⟨(i 2).val / 256, by have : (i 2).val < 4096 := (i 2).isLt; omega⟩)
    (ix3 (0 : Fin 1) (⟨(i 1).val, (i 1).isLt⟩ : Fin 256) (⟨(i 2).val % 256, Nat.mod_lt _ (by decide)⟩ : Fin 256))

theorem own_zp (c : Dev nD) (n : ℕ) (hn : n < 4096) : own (zpD c) n = own c n := by
  unfold own
  rw [zp_mod, zz]
  have h : n / 2048 < 2 := by omega
  by_cases h1 : n / 2048 = c.val % 2
  · rw [if_pos h1, if_neg (by omega)]
  · rw [if_neg h1, if_pos (by omega)]

theorem OA_zp (c : Dev nD) : OA I (zpD c) = OA I c := by
  funext i; unfold OA; rw [own_zp c _ (i 1).isLt]

theorem lay_xn (c : Dev nD) (b : Fin 4) : lay (xnD c) b = lay c b := by unfold lay; exact Fin.ext (congrArg (2 * b.val + ·) (xn_mod c))
theorem lay_yn (c : Dev nD) (b : Fin 4) : lay (ynD c) b = lay c b := by unfold lay; exact Fin.ext (congrArg (2 * b.val + ·) (yn_mod c))
theorem OUT_xn (c : Dev nD) : OUT I (xnD c) = OUT I c := by funext i; unfold OUT; rw [lay_xn]
theorem OUT_yn (c : Dev nD) : OUT I (ynD c) = OUT I c := by funext i; unfold OUT; rw [lay_yn]

end Cont

/-! ## Writing agrees with the contents -/

section Writes
variable {κ : Kind} {sp sp' : Space} {s : Shape} {e : EltTy}

/-- What is written through a view, where it is what the view reads of `T`, agrees with `T`. -/
theorem write_agree (v : View sig κ sp s e) (f T : v.ty.Contents (Elt F)) (w : s.Idx → Elt F e) (h : w = v.read (Elt F) T) :
    ∀ i ∈ v.set, v.write (Elt F) f w Finset.univ i = T i := by
  intro i hi
  obtain ⟨x, -, rfl⟩ := Finset.mem_map.mp hi
  exact View.eq_of_read_eq ((congrFun (View.read_write_univ f w) x).trans (congrFun h x))

variable (I : Inp F) (c : Dev nD)

theorem QA_read (k : Fin 8) : payQ (XB I c) (WQB I c k) = (qM.access (rQ k)).read (Elt F) (QA I c) := by
  funext x
  rw [View.read_apply, cast_eq]
  show _ = QA I c ((rQ k).idx x)
  have h0 : ((rQ k).idx x 0).val = (x 0).val := by simp
  have h1 : ((rQ k).idx x 1).val = 256 * k.val + (x 1).val := by simp
  have hx : (x 1).val < 256 := (x 1).isLt
  unfold QA
  have e : (⟨((rQ k).idx x 1).val / 256, by omega⟩ : Fin 8) = k := Fin.ext (by show _ / 256 = _; omega)
  rw [e]
  congr 1
  funext a
  match a with
  | ⟨0, _⟩ => exact Fin.ext h0.symm
  | ⟨1, _⟩ => exact Fin.ext (by show (x 1).val = _ % 256; omega)

theorem QRA_read (k : Fin 8) : payQr (XB I c) (WQRB I c k) = (qrM.access (rQr k)).read (Elt F) (QRA I c) := by
  funext x
  rw [View.read_apply, cast_eq]
  show _ = QRA I c ((rQr k).idx x)
  have h0 : ((rQr k).idx x 0).val = (x 0).val := by simp
  have h1 : ((rQr k).idx x 1).val = 128 * k.val + (x 1).val := by simp
  have hx : (x 1).val < 128 := (x 1).isLt
  unfold QRA
  have e : (⟨((rQr k).idx x 1).val / 128, by omega⟩ : Fin 8) = k := Fin.ext (by show _ / 128 = _; omega)
  rw [e]
  congr 1
  funext a
  match a with
  | ⟨0, _⟩ => exact Fin.ext h0.symm
  | ⟨1, _⟩ => exact Fin.ext (by show (x 1).val = _ % 128; omega)

theorem OA_read (k : Fin 8) : OBk I c k = (oM.access (rOb c k)).read (Elt F) (OA I c) := by
  funext x
  rw [View.read_apply, cast_eq]
  show _ = OA I c ((rOb c k).idx x)
  have h0 : ((rOb c k).idx x 0).val = (x 0).val := by
    rw [LoadRect.idx_apply]; show k0_off6 c (BitVec.ofNat 32 (256 * k.val)) 0 + 1 * _ = _; rw [off6_eq]; show 0 + 1 * _ = _; omega
  have h1 : ((rOb c k).idx x 1).val = 2048 * (c.val % 2) + 256 * k.val + (x 1).val := by
    rw [LoadRect.idx_apply]; show k0_off6 c (BitVec.ofNat 32 (256 * k.val)) 1 + 1 * _ = _; rw [off6_eq]; show 2048 * (c.val % 2) + 256 * k.val + 1 * _ = _; omega
  have hx : (x 1).val < 256 := (x 1).isLt
  unfold OA
  have e : (⟨((rOb c k).idx x 1).val % 2048 / 256, by omega⟩ : Fin 8) = k := Fin.ext (by show _ / 256 = _; omega)
  have e' : own c ((rOb c k).idx x 1).val = c := if_pos (by omega)
  rw [e, e']
  congr 1
  funext a
  match a with
  | ⟨0, _⟩ => exact Fin.ext h0.symm
  | ⟨1, _⟩ => exact Fin.ext (by show (x 1).val = _ % 256; omega)

theorem OUT_read (j : Fin 16) : payW (OA I c) (WOB I c j) = (outM.access (rOut c j)).read (Elt F) (OUT I c) := by
  funext x
  rw [View.read_apply, cast_eq]
  show _ = OUT I c ((rOut c j).idx x)
  have h0 : ((rOut c j).idx x 0).val = c.val / 2 + (x 0).val := by
    rw [LoadRect.idx_apply]; show offO c j 0 + 1 * _ = _; rw [offO_eq]; show c.val / 2 + 1 * _ = _; omega
  have h1 : ((rOut c j).idx x 1).val = (x 1).val := by
    rw [LoadRect.idx_apply]; show offO c j 1 + 1 * _ = _; rw [offO_eq]; show 0 + 1 * _ = _; omega
  have h2 : ((rOut c j).idx x 2).val = 256 * j.val + (x 2).val := by
    rw [LoadRect.idx_apply]; show offO c j 2 + 1 * _ = _; rw [offO_eq]; show 256 * j.val + 1 * _ = _; omega
  have hx0 : (x 0).val < 1 := (x 0).isLt
  have hx : (x 2).val < 256 := (x 2).isLt
  unfold OUT
  have e : (⟨((rOut c j).idx x 2).val / 256, by omega⟩ : Fin 16) = j := Fin.ext (by show _ / 256 = _; omega)
  have e' : lay c ⟨((rOut c j).idx x 0).val, ((rOut c j).idx x 0).isLt⟩ = c := Fin.ext (by show 2 * ((rOut c j).idx x 0).val + _ = _; omega)
  rw [e, e']
  congr 1
  funext a
  match a with
  | ⟨0, _⟩ => exact Fin.ext (by show (x 0).val = 0; omega)
  | ⟨1, _⟩ => exact Fin.ext h1.symm
  | ⟨2, _⟩ => exact Fin.ext (by show (x 2).val = _ % 256; omega)

/-- A slot read after a copy into it. -/
theorem sq_read (b : Fin 2) (fd : (sq b).view.ty.Contents (Elt F)) (w : Vec F S4096x256 .f32) :
    sqM.view.readAt (Elt F) (rS256 b).toLoadRect ((sq b).view.write (Elt F) fd w Finset.univ) = unsq256 w := by
  rw [View.readAt_rect]
  funext x
  unfold unsq256
  have := View.read_write_reshape (Val := Elt F) (sqM.view.slice (rS256 b)) squeezes_S1x4096x256_S4096x256.numel_eq fd w ((Shape.reshapeEquiv squeezes_S1x4096x256_S4096x256.numel_eq).symm x)
  rw [Equiv.apply_symm_apply] at this
  exact this
theorem swo_read (b : Fin 2) (fd : (swo b).view.ty.Contents (Elt F)) (w : Vec F S4096x256 .f32) :
    swoM.view.readAt (Elt F) (rS256 b).toLoadRect ((swo b).view.write (Elt F) fd w Finset.univ) = unsq256 w := by
  rw [View.readAt_rect]
  funext x
  unfold unsq256
  have := View.read_write_reshape (Val := Elt F) (swoM.view.slice (rS256 b)) squeezes_S1x4096x256_S4096x256.numel_eq fd w ((Shape.reshapeEquiv squeezes_S1x4096x256_S4096x256.numel_eq).symm x)
  rw [Equiv.apply_symm_apply] at this
  exact this
theorem sqr_read (b : Fin 2) (fd : (sqr b).view.ty.Contents (Elt F)) (w : Vec F S4096x128 .f32) :
    sqrM.view.readAt (Elt F) (rS128 b).toLoadRect ((sqr b).view.write (Elt F) fd w Finset.univ) = unsq128 w := by
  rw [View.readAt_rect]
  funext x
  unfold unsq128
  have := View.read_write_reshape (Val := Elt F) (sqrM.view.slice (rS128 b)) squeezes_S1x4096x128_S4096x128.numel_eq fd w ((Shape.reshapeEquiv squeezes_S1x4096x128_S4096x128.numel_eq).symm x)
  rw [Equiv.apply_symm_apply] at this
  exact this

end Writes

end Cert.K

end
-- ==== Proof.Cells.lean ====
/-
The semaphores the devices meet at: the transfers between devices, the cells each signals, what each hands over, who owes
what to whom, and the levels which order the waits.
-/
module

public import proofs.«01_k».proof.Proof.Contents
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Transfers and cells -/

/-- The transfers a device starts: three along the third axis of the mesh, eight blocks of the attention output, and
    four for each stripe of the result. -/
abbrev Tr := Fin 3 ⊕ Fin 8 ⊕ Fin 4 × Fin 16

instance : DecidableEq Tr := inferInstance
instance : DecidableEq (Tr ⊕ Tr) := inferInstance

def sendSem : Tr → DmaSem sig
  | .inl i => zS i
  | .inr (.inl k) => oS k
  | .inr (.inr p) => gS p.1 p.2
def recvSem : Tr → DmaSem sig
  | .inl i => zR i
  | .inr (.inl k) => oR k
  | .inr (.inr p) => gR p.1 p.2

/-- Semaphores used by one device alone: the copies of the activations and of the blocks of the projections. -/
abbrev Ls := Unit ⊕ Fin 3 × Fin 2
instance : DecidableEq Ls := inferInstance
instance : DecidableEq (Ls ⊕ (Tr ⊕ Tr)) := inferInstance
def lsem : Ls → DmaSem sig
  | .inl _ => xS
  | .inr (⟨0, _⟩, b) => wqS b
  | .inr (⟨1, _⟩, b) => wqrS b
  | .inr (_, b) => woS b

def osem : Ls ⊕ (Tr ⊕ Tr) → SemLoc sig
  | .inl l => .dma (lsem l)
  | .inr (.inl t) => .dma (sendSem t)
  | .inr (.inr t) => .dma (recvSem t)

def semNo : SemLoc sig → ℕ
  | .dma q => q.val
  | .reg _ => 1000
def osemNo : Ls ⊕ (Tr ⊕ Tr) → ℕ
  | .inl (.inl _) => 5
  | .inl (.inr (a, b)) => 6 + 2 * a.val + b.val
  | .inr (.inl (.inl i)) => 12 + i.val
  | .inr (.inr (.inl i)) => 15 + i.val
  | .inr (.inl (.inr (.inl k))) => 18 + k.val
  | .inr (.inr (.inr (.inl k))) => 26 + k.val
  | .inr (.inl (.inr (.inr p))) => 34 + 16 * p.1.val + p.2.val
  | .inr (.inr (.inr (.inr p))) => 98 + 16 * p.1.val + p.2.val

theorem semNo_osem : ∀ k, semNo (osem k) = osemNo k := by decide +kernel
theorem osemNo_inj : ∀ k k', osemNo k = osemNo k' → k = k' := by decide +kernel
theorem osem_inj : Function.Injective osem := fun k k' h => osemNo_inj k k' (by rw [← semNo_osem, ← semNo_osem, h])
theorem osem_scoped : ∀ k, (osem k).isScoped .tc = true := by decide +kernel

/-- The cells shared between devices: the barrier's, and those of the transfers. -/
abbrev Ck := Unit ⊕ (Tr ⊕ Tr)
instance : DecidableEq Ck := inferInstance
def csem : Ck → SemLoc sig
  | .inl _ => .reg barS
  | .inr k => osem (.inr k)

theorem csem_inj : Function.Injective csem := by
  intro k k' h
  match k, k', h with
  | .inl (), .inl (), _ => rfl
  | .inr k, .inr k', h => exact congrArg _ (Sum.inr_injective (osem_inj h))
  | .inl (), .inr k', h => exact absurd (congrArg semNo h) (by
      show ¬ 1000 = semNo (osem (.inr k')); rw [semNo_osem]; revert k'; decide +kernel)
  | .inr k, .inl (), h => exact absurd (congrArg semNo h) (by
      show ¬ semNo (osem (.inr k)) = 1000; rw [semNo_osem]; revert k; decide +kernel)

/-- Which of the shared cells a semaphore is. -/
def cix (s : SemLoc sig) : Option Ck := if h : ∃ k, csem k = s then some h.choose else none
theorem cix_csem (k : Ck) : cix (csem k) = some k := by
  unfold cix
  have h : ∃ k', csem k' = csem k := ⟨k, rfl⟩
  rw [dif_pos h]
  exact congrArg some (csem_inj h.choose_spec)
theorem cix_local (l : Ls) : cix (.dma (lsem l)) = none := by
  unfold cix
  refine dif_neg ?_
  rintro ⟨k, hk⟩
  match k with
  | .inl () => exact nomatch hk
  | .inr k => exact nomatch (osem_inj (show osem (.inr k) = osem (.inl l) from hk))
theorem cix_stage (q : DmaSem sig) (hq : q.val < 5) : cix (.dma q) = none := by
  unfold cix
  refine dif_neg ?_
  rintro ⟨k, hk⟩
  match k with
  | .inl () => exact nomatch hk
  | .inr k =>
    have h := congrArg semNo hk
    have h' : osemNo (.inr k) = q.val := (semNo_osem (.inr k)).symm.trans h
    have : ∀ k : Tr ⊕ Tr, 5 ≤ osemNo (.inr k) := by decide +kernel
    have := this k
    omega

abbrev cell (c : Dev nD) (k : Ck) : GSem nD τ sig := ((c : Thread nD τ), csem k)
abbrev barCell (c : Dev nD) : GSem nD τ sig := cell c (.inl ())
abbrev sendCell (c : Dev nD) (t : Tr) : GSem nD τ sig := cell c (.inr (.inl t))
abbrev recvCell (c : Dev nD) (t : Tr) : GSem nD τ sig := cell c (.inr (.inr t))

theorem cell_inj {c c' : Dev nD} {k k' : Ck} (h : cell c k = cell c' k') : c = c' ∧ k = k' :=
  ⟨congrArg (fun g : GSem nD τ sig => g.1.1) h, csem_inj (congrArg (fun g : GSem nD τ sig => g.2) h)⟩

/-- The device a transfer goes to; from where it comes, the same. -/
def tgt : Tr → Dev nD → Dev nD
  | .inl _, c => zpD c
  | .inr (.inl _), c => zpD c
  | .inr (.inr (⟨0, _⟩, _)), c => xnD c
  | .inr (.inr (⟨1, _⟩, _)), c => ynD c
  | .inr (.inr (⟨2, _⟩, _)), c => ynD c
  | .inr (.inr (_, _)), c => xnD c

theorem tgt_tgt : ∀ (t : Tr) (c : Dev nD), tgt t (tgt t c) = c := by
  intro t c
  match t with
  | .inl _ => exact zz c
  | .inr (.inl _) => exact zz c
  | .inr (.inr (⟨0, _⟩, _)) => exact xx c
  | .inr (.inr (⟨1, _⟩, _)) => exact yy c
  | .inr (.inr (⟨2, _⟩, _)) => exact yy c
  | .inr (.inr (⟨3, _⟩, _)) => exact xx c

/-- The device a barrier signal comes from. -/
def bfrom : Fin 3 → Dev nD → Dev nD
  | ⟨0, _⟩, c => zpD c
  | ⟨1, _⟩, c => xnD c
  | ⟨2, _⟩, c => ynD c

/-- The credit a transfer brings. -/
def amt : Tr → ℕ
  | .inl ⟨0, _⟩ => crM.view.dmaCredit
  | .inl ⟨1, _⟩ => ukrM.view.dmaCredit
  | .inl _ => uvrM.view.dmaCredit
  | .inr (.inl k) => (oB 0 k).view.dmaCredit
  | .inr (.inr (⟨0, _⟩, j)) => (outO 0 j).view.dmaCredit
  | .inr (.inr (⟨1, _⟩, j)) => (outO 0 j).view.dmaCredit
  | .inr (.inr (⟨2, _⟩, j)) => (outX 0 j).view.dmaCredit
  | .inr (.inr (_, j)) => (outY 0 j).view.dmaCredit

theorem h_S128x256 : 0 < S128x256.numel := by decide +kernel

theorem amt_pos : ∀ t, 0 < amt t := by
  intro t
  match t with
  | .inl ⟨0, _⟩ => exact View.dmaCredit_pos _ h_S256x128
  | .inl ⟨1, _⟩ => exact View.dmaCredit_pos _ h_S128x2048
  | .inl ⟨2, _⟩ => exact View.dmaCredit_pos _ h_S128x2048
  | .inr (.inl k) => exact View.dmaCredit_pos _ h_S256x256
  | .inr (.inr (⟨0, _⟩, j)) => exact View.dmaCredit_pos _ h_S256x256
  | .inr (.inr (⟨1, _⟩, j)) => exact View.dmaCredit_pos _ h_S256x256
  | .inr (.inr (⟨2, _⟩, j)) => exact View.dmaCredit_pos _ h_S128x256
  | .inr (.inr (⟨3, _⟩, j)) => exact View.dmaCredit_pos _ h_S128x256

/-- The place of a transfer in the order of the program. -/
def tm : Tr → ℕ
  | .inl i => 3 + i.val
  | .inr (.inl k) => 6 + k.val
  | .inr (.inr (⟨0, _⟩, j)) => 14 + 4 * j.val
  | .inr (.inr (⟨1, _⟩, j)) => 15 + 4 * j.val
  | .inr (.inr (⟨2, _⟩, j)) => 24 + 4 * j.val
  | .inr (.inr (_, j)) => 25 + 4 * j.val

theorem tm_inj : ∀ t t' : Tr, tm t = tm t' → t = t' := by decide +kernel
theorem tm_ge : ∀ t : Tr, 3 ≤ tm t := by decide +kernel
theorem tm_lt : ∀ t : Tr, tm t < 86 := by decide +kernel

/-! ## The algebra -/

abbrev UU : Type := UR sig nD τ × (URounds (GSem nD τ sig) (Fin 3) × Counters)

local notation "𝕄" => MT nD τ sig Unit (Elt F) ℕ UU ℕ

abbrev EP : Emb (UR sig nD τ) (MT nD τ sig Unit (Elt F) ℕ UU ℕ) := embL
def ER : Emb (URounds (GSem nD τ sig) (Fin 3)) (MT nD τ sig Unit (Elt F) ℕ UU ℕ) :=
  (Emb.inl : Emb _ (URounds (GSem nD τ sig) (Fin 3) × Counters)).trans embR
instance ER_landsIn : (ER (F := F)).LandsIn (upEmb : UEmb _ 𝕄) := by unfold ER embR; infer_instance
abbrev EC : UEmb Counters (MT nD τ sig Unit (Elt F) ℕ UU ℕ) := countersEmb

abbrev 𝒱₀ : Variants := Variants.none

/-! ## What the transfers hand over -/

section Sched
variable (I : Inp F)

/-- A buffer of a device at contents `f`, and at any contents. -/
abbrev pts {s : Shape} {e : EltTy} (c : Dev nD) (m : Memref sig .tc .vmem s e) (q : PosShare TreeShare) (f : Buf (Elt F) (m.view.loc (c : Thread nD τ))) : sProp 𝕄 :=
  (m.view.loc (c : Thread nD τ) ↦[m.view.set]{q} f : sProp 𝕄)
def some' {s : Shape} {e : EltTy} (c : Dev nD) (m : Memref sig .tc .vmem s e) : sProp 𝕄 :=
  iprop(∃ f : Buf (Elt F) (m.view.loc (c : Thread nD τ)), pts c m fullShare f)
theorem pts_some {s : Shape} {e : EltTy} (c : Dev nD) (m : Memref sig .tc .vmem s e) (f : Buf (Elt F) (m.view.loc (c : Thread nD τ))) :
    (pts c m fullShare f : sProp 𝕄) ⊢ some' c m := by
  unfold some'; iintro H; iexists f; iexact H
instance some_storable {s : Shape} {e : EltTy} (c : Dev nD) (m : Memref sig .tc .vmem s e) :
    BI.Storable (upEmb : UEmb _ 𝕄) (some' (F := F) c m) := by unfold some'; infer_instance
/-- The same of a family of buffers. -/
def somes {s : Shape} {e : EltTy} {n : ℕ} (c : Dev nD) (m : Fin n → Memref sig .tc .vmem s e) : sProp 𝕄 :=
  bigSep Finset.univ fun k => some' c (m k)
instance somes_storable {s : Shape} {e : EltTy} {n : ℕ} (c : Dev nD) (m : Fin n → Memref sig .tc .vmem s e) :
    BI.Storable (upEmb : UEmb _ 𝕄) (somes (F := F) c m) := by unfold somes; infer_instance

/-- What a send leaves and gives back. -/
def sendPay (c : Dev nD) : Tr → sProp 𝕄
  | .inl ⟨0, _⟩ => pts c clM fullShare (CL I c)
  | .inl ⟨1, _⟩ => pts c uklM fullShare (UKL I c)
  | .inl _ => pts c uvlM fullShare (UVL I c)
  | .inr (.inl k) => pts c (oB c k) fullShare.left (OA I c)
  | .inr (.inr (⟨0, _⟩, j)) => pts c (outO c j) fullShare.left (OUT I c)
  | .inr (.inr (⟨1, _⟩, j)) => pts c (outO c j) fullShare.right (OUT I c)
  | .inr (.inr (⟨2, _⟩, j)) => pts c (outX c j) fullShare (OUT I c)
  | .inr (.inr (_, j)) => pts c (outY c j) fullShare (OUT I c)

/-- What a receive brings. -/
def recvPay (c : Dev nD) : Tr → sProp 𝕄
  | .inl ⟨0, _⟩ => pts c crM fullShare (CL I (zpD c))
  | .inl ⟨1, _⟩ => pts c ukrM fullShare (UKL I (zpD c))
  | .inl _ => pts c uvrM fullShare (UVL I (zpD c))
  | .inr (.inl k) => pts c (oB (zpD c) k) fullShare (OA I c)
  | .inr (.inr (⟨0, _⟩, j)) => pts c (outO (xnD c) j) fullShare (OUT I c)
  | .inr (.inr (⟨1, _⟩, j)) => pts c (outO (ynD c) j) fullShare (OUT I c)
  | .inr (.inr (⟨2, _⟩, j)) => pts c (outX (ynD c) j) fullShare (OUT I c)
  | .inr (.inr (_, j)) => pts c (outY (xnD c) j) fullShare (OUT I c)

/-- The cells of a device for what it receives are open. -/
def rcs (c : Dev nD) : sProp 𝕄 := bigSep Finset.univ fun t : Tr => reached ER (recvCell c t) 0
instance rcs_storable (c : Dev nD) : BI.Storable (upEmb : UEmb _ 𝕄) (rcs (F := F) c) := by unfold rcs; infer_instance
instance rcs_persistent (c : Dev nD) : BI.Persistent (rcs (F := F) c) := by unfold rcs; infer_instance

/-- What a neighbour's signal at the barrier hands `c`: that the neighbour's cells are open, and the parts of the neighbour's buffers `c` sends to. -/
def barPay (c : Dev nD) : Fin 3 → sProp 𝕄
  | ⟨0, _⟩ => iprop(rcs (zpD c) ∗ some' (zpD c) crM ∗ some' (zpD c) ukrM ∗ some' (zpD c) uvrM ∗ somes (zpD c) (oB c))
  | ⟨1, _⟩ => iprop(rcs (xnD c) ∗ somes (xnD c) (outO c) ∗ somes (xnD c) (outY c))
  | ⟨2, _⟩ => iprop(rcs (ynD c) ∗ somes (ynD c) (outO c) ∗ somes (ynD c) (outX c))

def pay (c : Dev nD) : Ck → Fin 3 → sProp 𝕄
  | .inl _, d => barPay c d
  | .inr (.inl t), _ => sendPay I c t
  | .inr (.inr t), _ => recvPay I c t

def kduties : Option Ck → Finset (Fin 3)
  | some (.inl _) => Finset.univ
  | some (.inr _) => {0}
  | none => ∅
def kamt : Ck → ℕ
  | .inl _ => 1
  | .inr (.inl t) => amt t
  | .inr (.inr t) => amt t
theorem kamt_pos : ∀ k : Ck, 0 < kamt k
  | .inl _ => Nat.one_pos
  | .inr (.inl t) => amt_pos t
  | .inr (.inr t) => amt_pos t
def oamt : Option Ck → ℕ
  | some k => kamt k
  | none => 1
theorem oamt_pos : ∀ k, 0 < oamt k
  | some k => kamt_pos k
  | none => Nat.one_pos
def opay (c : Dev nD) (d : Fin 3) : Option Ck → sProp 𝕄
  | some k => pay I c k d
  | none => iprop(emp)

instance sendPay_storable (c : Dev nD) (t : Tr) : BI.Storable (upEmb : UEmb _ 𝕄) (sendPay I c t) := by
  unfold sendPay; split <;> infer_instance
instance recvPay_storable (c : Dev nD) (t : Tr) : BI.Storable (upEmb : UEmb _ 𝕄) (recvPay I c t) := by
  unfold recvPay; split <;> infer_instance
instance barPay_storable (c : Dev nD) : ∀ d : Fin 3, BI.Storable (upEmb : UEmb _ 𝕄) (barPay (F := F) c d)
  | ⟨0, _⟩ => BI.Storable.sep _ _ _
  | ⟨1, _⟩ => BI.Storable.sep _ _ _
  | ⟨2, _⟩ => BI.Storable.sep _ _ _
instance pay_storable (c : Dev nD) : ∀ (k : Ck) (d : Fin 3), BI.Storable (upEmb : UEmb _ 𝕄) (pay I c k d)
  | .inl _, d => barPay_storable c d
  | .inr (.inl t), _ => sendPay_storable I c t
  | .inr (.inr t), _ => recvPay_storable I c t
instance opay_storable (c : Dev nD) (d : Fin 3) : ∀ k : Option Ck, BI.Storable (upEmb : UEmb _ 𝕄) (opay I c d k)
  | some k => pay_storable I c k d
  | none => BI.Storable.emp _

/-- Every shared cell has one round. -/
def Rd : Rounds.Schedule (GSem nD τ sig) (Fin 3) 𝕄 where
  duties g r := if r = 0 then kduties (cix g.2) else ∅
  unitless _ := False
  amount g _ _ := oamt (cix g.2)
  payload g _ d := opay I g.1.1 d (cix g.2)
  amount_pos g _ _ _ := oamt_pos (cix g.2)

instance Rd_storable (g : GSem nD τ sig) (r : ℕ) (d : Fin 3) : BI.Storable (upEmb : UEmb _ 𝕄) ((Rd I).payload g r d) :=
  opay_storable I g.1.1 d (cix g.2)

theorem Rd_duties (c : Dev nD) (k : Ck) : (Rd I).duties (cell c k) 0 = kduties (some k) := by
  show (if 0 = 0 then kduties (cix (csem k)) else ∅) = _
  rw [if_pos rfl, cix_csem]
theorem Rd_later (g : GSem nD τ sig) : ∀ r, 1 ≤ r → (Rd I).duties g r = ∅ := fun r hr => if_neg (by omega)
theorem Rd_amount (c : Dev nD) (k : Ck) (r : ℕ) (d : Fin 3) : (Rd I).amount (cell c k) r d = kamt k :=
  congrArg oamt (cix_csem k)
theorem Rd_payload (c : Dev nD) (k : Ck) (r : ℕ) (d : Fin 3) : (Rd I).payload (cell c k) r d = pay I c k d :=
  congrArg (opay I c d) (cix_csem k)
theorem expect_bar (c : Dev nD) : (Rd I).expect (barCell c) 0 = 3 := by
  unfold Schedule.expect Schedule.amountOf; rw [Rd_duties]; simp only [Rd_amount]; rfl
theorem expect_tr (c : Dev nD) (k : Tr ⊕ Tr) : (Rd I).expect (cell c (.inr k)) 0 = kamt (.inr k) := by
  unfold Schedule.expect Schedule.amountOf; rw [Rd_duties]; simp only [Rd_amount]; exact Finset.sum_singleton _ _
theorem rest_tr (c : Dev nD) (k : Tr ⊕ Tr) :
    bigSep ((Rd I).duties (cell c (.inr k)) 0 \ ∅) (fun d => (Rd I).payload (cell c (.inr k)) 0 d) = pay I c (.inr k) 0 := by
  rw [Finset.sdiff_empty, Rd_duties]; exact bigSep_singleton.trans (Rd_payload I c _ 0 0)
theorem rest_bar (c : Dev nD) :
    bigSep ((Rd I).duties (barCell c) 0 \ ∅) (fun d => (Rd I).payload (barCell c) 0 d)
      = iprop(barPay (F := F) c 0 ∗ barPay c 1 ∗ barPay c 2) := by
  rw [Finset.sdiff_empty, Rd_duties]; simp only [Rd_payload]
  exact bigSep_univ_eq_bigSepL [(0 : Fin 3), 1, 2] (by decide) (by decide) _

end Sched

/-! ## What is owed, and the levels -/

/-- What `c` still owes at place `n` of the program. -/
def Ow (c : Dev nD) (n : ℕ) : CellTallies nD τ sig Unit :=
  ∑ t ∈ Finset.univ.filter (fun t : Tr => n ≤ tm t), tallyAt (recvCell (tgt t c) t) () (amt t)

/-- What `c` owes before the barrier. -/
def O₀ (c : Dev nD) : CellTallies nD τ sig Unit :=
  ((Ow c 3 + tallyAt (barCell (ynD c)) () 1) + tallyAt (barCell (xnD c)) () 1) + tallyAt (barCell (zpD c)) () 1

theorem Ow_step (c : Dev nD) (t : Tr) (n : ℕ) (h : tm t = n) : Ow c n = Ow c (n + 1) + tallyAt (recvCell (tgt t c) t) () (amt t) := by
  subst h
  unfold Ow
  have e : Finset.univ.filter (fun t' : Tr => tm t ≤ tm t') = insert t (Finset.univ.filter (fun t' : Tr => tm t + 1 ≤ tm t')) := by
    ext t'
    simp only [Finset.mem_filter, Finset.mem_univ, true_and, Finset.mem_insert]
    constructor
    · intro h
      rcases Nat.eq_or_lt_of_le h with h | h
      · exact .inl (tm_inj _ _ h.symm)
      · exact .inr h
    · rintro (rfl | h)
      · exact le_rfl
      · omega
  rw [e, Finset.sum_insert (by simp), add_comm]

theorem Ow_gap (c : Dev nD) (n m : ℕ) (h : ∀ t : Tr, n ≤ tm t ↔ m ≤ tm t) : Ow c n = Ow c m := by
  unfold Ow; congr 1; ext t; simp only [Finset.mem_filter, Finset.mem_univ, true_and]; exact h t

theorem Ow_last (c : Dev nD) : Ow c 86 = 0 := by
  unfold Ow
  rw [Finset.filter_false_of_mem (fun t _ => by have := tm_lt t; omega)]; rfl

theorem Ow_pos {c : Dev nD} {n : ℕ} {g : GSem nD τ sig} {u : Unit} (h : 0 < Ow c n g u) : ∃ t, n ≤ tm t ∧ g = recvCell (tgt t c) t := by
  unfold Ow at h
  rw [Finset.sum_apply, Finsupp.finset_sum_apply] at h
  obtain ⟨t, ht, h'⟩ := Finset.exists_ne_zero_of_sum_ne_zero (Nat.pos_iff_ne_zero.mp h)
  refine ⟨t, (Finset.mem_filter.mp ht).2, ?_⟩
  rw [tallyAt_apply] at h'
  by_contra hn
  exact h' (if_neg fun hh => hn hh.1)

theorem O₀_pos {c : Dev nD} {g : GSem nD τ sig} {u : Unit} (h : 0 < O₀ c g u) :
    (∃ t, 3 ≤ tm t ∧ g = recvCell (tgt t c) t) ∨ ∃ c', g = barCell c' := by
  unfold O₀ at h
  simp only [Pi.add_apply, Finsupp.add_apply, tallyAt_apply] at h
  by_cases h1 : 0 < Ow c 3 g u
  · exact .inl (Ow_pos h1)
  · refine .inr ?_
    by_contra hn
    rw [not_exists] at hn
    rw [if_neg (fun hh => hn _ hh.1), if_neg (fun hh => hn _ hh.1), if_neg (fun hh => hn _ hh.1)] at h
    exact h1 (by omega)

def L (g : GSem nD τ sig) : Finset Unit := if g.1.2 = .tc then {()} else ∅
def lv (g : GSem nD τ sig) (_ : Unit) : ℕ := match cix g.2 with
  | some (.inl _) => 1
  | some (.inr (.inr t)) => tm t + 2
  | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [cix_csem]
theorem lv_recv (c : Dev nD) (t : Tr) : lv (recvCell c t) () = tm t + 2 := by unfold lv; rw [cix_csem]
theorem lv_send (c : Dev nD) (t : Tr) : lv (sendCell c t) () = 0 := by unfold lv; rw [cix_csem]
theorem lv_local (c : Dev nD) (l : Ls) : lv ((c : Thread nD τ), .dma (lsem l)) () = 0 := by unfold lv; rw [cix_local]
theorem lv_stage (c : Dev nD) (q : DmaSem sig) (hq : q.val < 5) : lv ((c : Thread nD τ), .dma q) () = 0 := by unfold lv; rw [cix_stage q hq]

/-- A wait at a level below all that is owed. -/
theorem mayWait_Ow (c : Dev nD) (s : SemLoc sig) (n : ℕ) (h : lv ((c : Thread nD τ), s) () < n + 2) :
    (levAts L lv : sProp 𝕄) ⊢ MayWait (c : Thread nD τ) s () (Ow c n) :=
  MayOwe.of_cut (L := L) (lev := lv) (n + 1) (fun p hp => by rw [Finset.mem_singleton.mp hp, L_tc]; exact Finset.mem_singleton_self _)
    (fun g u hg => by obtain ⟨t, -, rfl⟩ := Ow_pos hg; rw [L_tc]; exact Finset.mem_singleton_self _)
    (fun p hp => by rw [Finset.mem_singleton.mp hp]; show lv ((c : Thread nD τ), s) () ≤ n + 1; omega)
    (fun g u hg => by obtain ⟨t, ht, rfl⟩ := Ow_pos hg; rw [lv_recv]; omega)

theorem mayWait_O₀ (c : Dev nD) (s : SemLoc sig) (h : lv ((c : Thread nD τ), s) () = 0) :
    (levAts L lv : sProp 𝕄) ⊢ MayWait (c : Thread nD τ) s () (O₀ c) :=
  MayOwe.of_cut (L := L) (lev := lv) 0 (fun p hp => by rw [Finset.mem_singleton.mp hp, L_tc]; exact Finset.mem_singleton_self _)
    (fun g u hg => by rcases O₀_pos hg with ⟨t, -, rfl⟩ | ⟨c', rfl⟩ <;> rw [L_tc] <;> exact Finset.mem_singleton_self _)
    (fun p hp => by rw [Finset.mem_singleton.mp hp]; show lv ((c : Thread nD τ), s) () ≤ 0; omega)
    (fun g u hg => by
      rcases O₀_pos hg with ⟨t, -, rfl⟩ | ⟨c', rfl⟩
      · rw [lv_recv]; omega
      · rw [lv_bar]; exact Nat.one_pos)

end Cert.K

end
-- ==== Proof.Steps.lean ====
/-
One step of the program at a time: a load, a store, a copy of one device's own, a send, a wait; the loop; families of
resources taken one at a time.
-/
module

public import proofs.«01_k».proof.Proof.Cells

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ
local notation "ℙ" => Prog (TpuEff nD τ sig (Elt F) Λ₀ Proc.tc)

/-- Running `p` on device `c`. -/
abbrev WP {α : Type} (c : Dev nD) (p : ℙ α) (Q : α → sProp 𝕄) : sProp 𝕄 :=
  wp frame (wpE (defs₀ (F := F)) 𝒱₀ (c : Thread nD τ) none) Set.univ p Q

theorem wp_done {α : Type} (c : Dev nD) (a : α) (Q : α → sProp 𝕄) : Q a ⊢ WP c (Prog.ret a : ℙ α) Q := by
  unfold WP; rw [wp_ret]; iintro H; imodintro; iexact H

theorem h_S4096x256 : 0 < S4096x256.numel := by decide +kernel
theorem h_S4096x128 : 0 < S4096x128.numel := by decide +kernel

/-! ## Families taken one at a time -/

section Fam
variable {n : ℕ}

/-- The first `m` members are done. -/
def fam (T D : Fin n → sProp 𝕄) (m : ℕ) : sProp 𝕄 := bigSep Finset.univ fun k : Fin n => if k.val < m then D k else T k

theorem fam_zero (T D : Fin n → sProp 𝕄) : fam T D 0 = bigSep Finset.univ T := by
  unfold fam; exact bigSep_congr fun k _ => if_neg (by omega)
theorem fam_all (T D : Fin n → sProp 𝕄) : fam T D n = bigSep Finset.univ D := by
  unfold fam; exact bigSep_congr fun k _ => if_pos k.isLt

theorem pick {I : Type} [Fintype I] [DecidableEq I] (k : I) (Φ : I → sProp 𝕄) :
    bigSep Finset.univ Φ = iprop(Φ k ∗ bigSep (Finset.univ.erase k) Φ) := bigSep_erase (Finset.mem_univ k)

theorem fam_take (T D : Fin n → sProp 𝕄) (k : Fin n) : fam T D k.val ⊢ iprop(T k ∗ (D k -∗ fam T D (k.val + 1))) := by
  unfold fam
  rw [pick k, pick k (fun i : Fin n => if i.val < k.val + 1 then D i else T i), if_neg (lt_irrefl _), if_pos (Nat.lt_succ_self _),
    bigSep_congr (s := Finset.univ.erase k) (Ψ := fun i : Fin n => if i.val < k.val + 1 then D i else T i) (fun i hi => by
      have : i ≠ k := Finset.ne_of_mem_erase hi
      have : i.val ≠ k.val := fun h => this (Fin.ext h)
      by_cases h : i.val < k.val
      · rw [if_pos h, if_pos (by omega)]
      · rw [if_neg h, if_neg (by omega)])]
  iintro ⟨HT, HR⟩
  isplitl [HT]; · iexact HT
  iintro HD
  isplitl [HD]; · iexact HD
  iexact HR

end Fam

/-! ## Loops -/

theorem wp_loopF (c : Dev nD) (n : ℕ) (f : Fin n → ℙ PUnit) (Inv : ℕ → sProp 𝕄)
    (h : ∀ (k : Fin n) (Q : PUnit → sProp 𝕄), iprop(Inv k.val ∗ (Inv (k.val + 1) -∗ Q ⟨⟩)) ⊢ WP c (f k) Q) :
    ∀ (k : ℕ) (hk : k ≤ n) (Q : PUnit → sProp 𝕄), iprop(Inv (n - k) ∗ (Inv n -∗ Q ⟨⟩)) ⊢ WP c (loopF n f k hk) Q
  | 0, hk, Q => by
    unfold loopF WP
    rw [Prog.pure_eq_ret, wp_ret, Nat.sub_zero]
    iintro ⟨HI, HQ⟩
    imodintro
    iapply HQ; iexact HI
  | k + 1, hk, Q => by
    unfold loopF
    have e : n - (k + 1) + 1 = n - k := by omega
    have hs := h ⟨n - (k + 1), by omega⟩ (fun _ => WP c (loopF n f k (by omega)) Q)
    rw [e] at hs
    unfold WP at hs ⊢
    rw [wp_bind]
    iintro ⟨HI, HQ⟩
    iapply hs
    isplitl [HI]; · iexact HI
    iintro HI
    iapply (wp_loopF c n f Inv h k _ Q)
    isplitl [HI]; · iexact HI
    iexact HQ

/-! ## Loads, stores, local copies -/

theorem wp_ld {α : Type} (c : Dev nD) {s : Shape} {e : EltTy} {m : Memref sig .tc .vmem s e} {r : LoadRect s} {hl : m.view.LoadsAt r}
    {k : (r.shape.Idx → Elt F e) → ℙ α} {Q : α → sProp 𝕄} {S : Finset (Idx (m.view.loc (c : Thread nD τ)))} {q : PosShare TreeShare}
    {f : Buf (Elt F) (m.view.loc (c : Thread nD τ))} (hS : m.view.setOn r.set ⊆ S) :
    (m.view.loc (c : Thread nD τ) ↦[S]{q} f : sProp 𝕄)
      ⊢ iprop(((m.view.loc (c : Thread nD τ) ↦[S]{q} f) -∗ WP c (k (m.view.readAt (Elt F) r f)) Q) -∗ WP c (.op (.load m r hl) k) Q) :=
  wp_load 𝒱₀ (c : Thread nD τ) none Set.univ hS

/-- A load from a buffer held whole. -/
theorem wp_ldw {α : Type} (c : Dev nD) {s : Shape} {e : EltTy} {m : Memref sig .tc .vmem s e} {r : LoadRect s} {hl : m.view.LoadsAt r}
    {k : (r.shape.Idx → Elt F e) → ℙ α} {Q : α → sProp 𝕄} {q : PosShare TreeShare}
    {f : Buf (Elt F) (m.view.loc (c : Thread nD τ))} :
    (pts c m q f : sProp 𝕄)
      ⊢ iprop((pts c m q f -∗ WP c (k (m.view.readAt (Elt F) r f)) Q) -∗ WP c (.op (.load m r hl) k) Q) :=
  wp_ld c (View.setOn_subset_set _ _)

/-- A load whose value is not used. -/
theorem wp_lds {α : Type} (c : Dev nD) {s : Shape} {e : EltTy} {m : Memref sig .tc .vmem s e} {r : LoadRect s} {hl : m.view.LoadsAt r}
    {k : (r.shape.Idx → Elt F e) → ℙ α} {Q : α → sProp 𝕄} {P : ℙ α} (hk : ∀ v, k v = P) :
    (some' c m : sProp 𝕄) ⊢ iprop((some' c m -∗ WP c P Q) -∗ WP c (.op (.load m r hl) k) Q) := by
  unfold some'
  iintro ⟨%f, H⟩ Hk
  iapply (wp_ldw c) $$ H
  iintro H
  rw [hk]
  iapply Hk
  iexists f; iexact H

/-- A store over part of a buffer held whole. -/
theorem wp_stw {α : Type} (c : Dev nD) {s : Shape} {e : EltTy} {m : Memref sig .tc .vmem s e} {r : Rect s} {w : r.shape.Idx → Elt F e}
    {hx : (m.access r).Stores Finset.univ} {hm : (Finset.univ : Finset r.shape.Idx) = Finset.univ ∨ ∀ a, r.stride a = 1} {k : PUnit → ℙ α} {Q : α → sProp 𝕄}
    {S : Finset (Idx ((m.access r).loc (c : Thread nD τ)))} {f : Buf (Elt F) ((m.access r).loc (c : Thread nD τ))} (hS : (m.access r).set ⊆ S) :
    ((m.access r).loc (c : Thread nD τ) ↦[S]{fullShare} f : sProp 𝕄)
      ⊢ iprop((((m.access r).loc (c : Thread nD τ) ↦[S]{fullShare} ((m.access r).write (Elt F) f w Finset.univ)) -∗ WP c (k ⟨⟩) Q)
        -∗ WP c (.op (.store m r w Finset.univ hx hm) k) Q) :=
  wp_store 𝒱₀ (c : Thread nD τ) none Set.univ hS

/-- A load of `v` from a buffer held whole. -/
theorem wp_ldv {α : Type} (c : Dev nD) {s : Shape} {e : EltTy} {m : Memref sig .tc .vmem s e} {r : LoadRect s} {hl : m.view.LoadsAt r}
    {k : (r.shape.Idx → Elt F e) → ℙ α} {Q : α → sProp 𝕄} {q : PosShare TreeShare}
    {f : Buf (Elt F) (m.view.loc (c : Thread nD τ))} (v : r.shape.Idx → Elt F e) (hv : m.view.readAt (Elt F) r f = v) :
    (pts c m q f : sProp 𝕄) ⊢ iprop((pts c m q f -∗ WP c (k v) Q) -∗ WP c (.op (.load m r hl) k) Q) := by
  subst hv; exact wp_ldw c

theorem acc_sub {s : Shape} {e : EltTy} (m : Memref sig .tc .vmem s e) (r : Rect s) : (m.access r).set ⊆ m.view.set :=
  (Memref.set_access_subset_setOn m r).trans (View.setOn_subset_set _ _)

/-- A load whose value is not used, then a store over the whole of a buffer. -/
theorem wp_lst {α : Type} (c : Dev nD) {s : Shape} {e : EltTy} {m : Memref sig .tc .vmem s e} {r : Rect s} {hl : m.view.LoadsAt r.toLoadRect}
    {w : r.shape.Idx → Elt F e} {hx : (m.access r).Stores Finset.univ} {hm : (Finset.univ : Finset r.shape.Idx) = Finset.univ ∨ ∀ a, r.stride a = 1}
    {k : PUnit → ℙ α} {Q : α → sProp 𝕄} (g : Buf (Elt F) (m.view.loc (c : Thread nD τ)))
    (hg : ∀ f : Buf (Elt F) (m.view.loc (c : Thread nD τ)), (m.access r).write (Elt F) f w Finset.univ = g) :
    (some' c m : sProp 𝕄)
      ⊢ iprop((pts c m fullShare g -∗ WP c (k ⟨⟩) Q)
        -∗ WP c (.op (.load m r.toLoadRect hl) fun _ => .op (.store m r w Finset.univ hx hm) k) Q) := by
  unfold some'
  iintro ⟨%f, H⟩ Hk
  iapply (wp_ldw c) $$ H
  iintro H
  iapply (wp_stw c (acc_sub m r)) $$ H
  iintro H
  rw [hg f]
  iapply Hk; iexact H

/-- A buffer at contents which agree with `T` where `A` holds. -/
def part {s : Shape} {e : EltTy} (c : Dev nD) (m : Memref sig .tc .vmem s e) (T : Buf (Elt F) (m.view.loc (c : Thread nD τ)))
    (A : Idx (m.view.loc (c : Thread nD τ)) → Prop) : sProp 𝕄 :=
  iprop(∃ f : Buf (Elt F) (m.view.loc (c : Thread nD τ)), ⌜∀ i, A i → f i = T i⌝ ∗ pts c m fullShare f)

theorem wp_stPart {α : Type} (c : Dev nD) {s : Shape} {e : EltTy} {m : Memref sig .tc .vmem s e} {r : Rect s} {hl : m.view.LoadsAt r.toLoadRect}
    {w : r.shape.Idx → Elt F e} {hx : (m.access r).Stores Finset.univ} {hm : (Finset.univ : Finset r.shape.Idx) = Finset.univ ∨ ∀ a, r.stride a = 1}
    {k : PUnit → ℙ α} {Q : α → sProp 𝕄} (T : Buf (Elt F) (m.view.loc (c : Thread nD τ))) (A B : Idx (m.view.loc (c : Thread nD τ)) → Prop)
    (hw : w = (m.access r).read (Elt F) T) (hAB : ∀ i, B i → i ∈ (m.access r).set ∨ A i) :
    (part c m T A : sProp 𝕄)
      ⊢ iprop((part c m T B -∗ WP c (k ⟨⟩) Q)
        -∗ WP c (.op (.load m r.toLoadRect hl) fun _ => .op (.store m r w Finset.univ hx hm) k) Q) := by
  unfold part
  iintro ⟨%f, %hf, H⟩ Hk
  iapply (wp_ldw c) $$ H
  iintro H
  iapply (wp_stw c (acc_sub m r)) $$ H
  iintro H
  iapply Hk
  iexists ((m.access r).write (Elt F) f w Finset.univ)
  isplitr
  · ipureintro
    intro i hi
    by_cases h : i ∈ (m.access r).set
    · exact write_agree (m.access r) f T w hw i h
    · exact (View.write_of_not_mem f w Finset.univ h).trans (hf i ((hAB i hi).resolve_left h))
  iexact H

/-- What is owed, whatever has been waited for. -/
def owesE (c : Dev nD) (O : CellTallies nD τ sig Unit) : sProp 𝕄 := iprop(∃ W : Waits sig Unit, owes (c : Thread nD τ) O W)

/-- A copy under way. -/
def Fet {sh : Shape} {e : EltTy} (c : Dev nD) (src : Memref sig .tc .hbm sh e) (dst : Memref sig .tc .vmem sh e) (s : DmaSem sig)
    (q : PosShare TreeShare) (f : Buf (Elt F) (src.view.loc (c : Thread nD τ))) : sProp 𝕄 :=
  iprop((∃ fd : Buf (Elt F) (dst.view.loc (c : Thread nD τ)), Flight EC (c : Thread nD τ) (.dma s) () dst.view.dmaCredit
      iprop(pts c dst fullShare (dst.view.write (Elt F) fd (src.view.read (Elt F) f) Finset.univ)
        ∗ (src.view.loc (c : Thread nD τ) ↦[src.view.set]{q} f)))
    ∗ (src.view.loc (c : Thread nD τ) ↦[Finset.univ \ src.view.set]{q} f))

theorem wp_fetch {α : Type} (c : Dev nD) {sh : Shape} {e : EltTy} {src : Memref sig .tc .hbm sh e} {dst : Memref sig .tc .vmem sh e} {s : DmaSem sig}
    {h₁ : src.view.WordExact} {h₂ : dst.view.WordExact} {hsem : DmaTarget.Typed (nD := nD) (τ := τ) (p := Proc.tc) .hbm (.dma s) (.here dst)} {k : PUnit → ℙ α} {Q : α → sProp 𝕄}
    {q : PosShare TreeShare} {f : Buf (Elt F) (src.view.loc (c : Thread nD τ))} (hn : 0 < sh.numel) :
    iprop((src.view.loc (c : Thread nD τ) ↦{q} f) ∗ some' c dst ∗ semVal ((c : Thread nD τ), .dma s) 0)
      ⊢ iprop((Fet c src dst s q f -∗ WP c (k ⟨⟩) Q) -∗ WP c (.op (.enqueueDma src (.here dst) (.dma s) h₁ h₂ hsem) k) Q) := by
  unfold some' Fet
  iintro ⟨Hs, ⟨%fd, Hd⟩, Hv⟩ Hk
  ihave Hs' := (pointsTo_split_subset (Finset.subset_univ src.view.set)).1 $$ Hs
  icases Hs' with ⟨Hs, Hr⟩
  iapply (wp_dmaLocal EC 𝒱₀ (c : Thread nD τ) none (dst := dst) (Sd := dst.view.set) () dst.view.dmaCredit rfl (View.dmaCredit_pos _ hn) (Finset.Subset.refl _)) $$ [Hs Hd Hv]
  · isplitl [Hs]; · iexact Hs
    isplitl [Hd]; · iexact Hd
    iexact Hv
  iintro Hf
  iapply Hk
  isplitl [Hf]
  · iexists fd; iexact Hf
  iexact Hr

/-- The copy waited for. -/
theorem wp_fetched {α : Type} (c : Dev nD) {sh : Shape} {e : EltTy} {src src' : Memref sig .tc .hbm sh e} {dst : Memref sig .tc .vmem sh e} {s : DmaSem sig}
    {h₁ : src'.view.WordExact} {h₂ : dst.view.WordExact} {k : PUnit → ℙ α} {Q : α → sProp 𝕄}
    {q : PosShare TreeShare} {f : Buf (Elt F) (src.view.loc (c : Thread nD τ))} {O : CellTallies nD τ sig Unit}
    (hw : (levAts L lv : sProp 𝕄) ⊢ MayWait (c : Thread nD τ) (.dma s) () O) :
    iprop(levAts L lv ∗ Fet c src dst s q f ∗ owesE c O)
      ⊢ iprop((((src.view.loc (c : Thread nD τ) ↦{q} f)
            ∗ (∃ fd : Buf (Elt F) (dst.view.loc (c : Thread nD τ)), pts c dst fullShare (dst.view.write (Elt F) fd (src.view.read (Elt F) f) Finset.univ))
            ∗ semVal ((c : Thread nD τ), .dma s) 0 ∗ owesE c O) -∗ WP c (k ⟨⟩) Q)
        -∗ WP c (.op (.waitDma2 s src' dst h₁ h₂) k) Q) := by
  unfold Fet owesE
  iintro ⟨Hl, ⟨⟨%fd, Hf⟩, Hr⟩, ⟨%W, HO⟩⟩ Hk
  iapply (wp_waitLocalO EC 𝒱₀ (c : Thread nD τ) none () rfl) $$ [Hl Hf HO]
  · isplitl [Hf]; · iexact Hf
    isplitl [HO]; · iexact HO
    iapply hw; iexact Hl
  iintro ⟨⟨Hd, Hs⟩, Hv, HO⟩
  iapply Hk
  isplitl [Hs Hr]
  · iapply (pointsTo_split_subset (Finset.subset_univ src.view.set)).2
    isplitl [Hs] <;> iassumption
  isplitl [Hd]
  · iexists fd; iexact Hd
  isplitl [Hv]; · iexact Hv
  iexists _; iexact HO

/-! ## Sends and waits -/

section Shared
variable (I : Inp F)

/-- What every device knows of the cells. -/
def Invs : sProp 𝕄 :=
  iprop((bigSep Finset.univ fun p : Dev nD × Ck => iprop(∃ κ : ℕ, cellInv ER (Rd I) κ (cell p.1 p.2))) ∗ levAts L lv)
instance Invs_persistent : BI.Persistent (Invs I) := by unfold Invs; infer_instance
/-- The cells of the barrier, and those of a device for its sends, are open. -/
def bars : sProp 𝕄 := bigSep Finset.univ fun c : Dev nD => reached ER (barCell c) 0
def scs (c : Dev nD) : sProp 𝕄 := bigSep Finset.univ fun t : Tr => reached ER (sendCell c t) 0
instance bars_persistent : BI.Persistent (bars (F := F)) := by unfold bars; infer_instance
instance scs_persistent (c : Dev nD) : BI.Persistent (scs (F := F) c) := by unfold scs; infer_instance
/-- What a device knows before the barrier, and after it. -/
def Rec0 (c : Dev nD) : sProp 𝕄 := iprop(Invs I ∗ bars ∗ scs c ∗ rcs c)
def Recs (c : Dev nD) : sProp 𝕄 := iprop(Invs I ∗ scs c ∗ rcs (zpD c) ∗ rcs (xnD c) ∗ rcs (ynD c))
instance Rec0_persistent (c : Dev nD) : BI.Persistent (Rec0 I c) := by unfold Rec0; infer_instance
instance Recs_persistent (c : Dev nD) : BI.Persistent (Recs I c) := by unfold Recs; infer_instance

theorem elim_at {J : Type} [Fintype J] [DecidableEq J] (Φ : J → sProp 𝕄) (k : J) : bigSep Finset.univ Φ ⊢ Φ k := bigSep_elim (Finset.mem_univ k)

theorem inv_at (c : Dev nD) (k : Ck) : Invs I ⊢ iprop(∃ κ : ℕ, cellInv ER (Rd I) κ (cell c k)) := by
  unfold Invs
  iintro ⟨H, -⟩
  iapply (elim_at (fun p : Dev nD × Ck => iprop(∃ κ : ℕ, cellInv ER (Rd I) κ (cell p.1 p.2))) (c, k)); iexact H
theorem lev_in : Invs I ⊢ (levAts L lv : sProp 𝕄) := by
  unfold Invs
  iintro ⟨-, H⟩; iexact H
theorem invs_of (c : Dev nD) : Recs I c ⊢ Invs I := by
  unfold Recs
  iintro ⟨H, -⟩; iexact H
theorem invs_of0 (c : Dev nD) : Rec0 I c ⊢ Invs I := by
  unfold Rec0
  iintro ⟨H, -⟩; iexact H
theorem lev_of (c : Dev nD) : Recs I c ⊢ (levAts L lv : sProp 𝕄) := (invs_of I c).trans (lev_in I)
theorem lev_of0 (c : Dev nD) : Rec0 I c ⊢ (levAts L lv : sProp 𝕄) := (invs_of0 I c).trans (lev_in I)
theorem bar_open (c c' : Dev nD) : Rec0 I c ⊢ reached ER (barCell c') 0 := by
  unfold Rec0 bars
  iintro ⟨-, H, -⟩
  iapply (elim_at (fun c' : Dev nD => reached ER (barCell c') 0) c'); iexact H
theorem send_open (c : Dev nD) (t : Tr) : Recs I c ⊢ reached ER (sendCell c t) 0 := by
  unfold Recs scs
  iintro ⟨-, H, -⟩
  iapply (elim_at (fun t : Tr => reached ER (sendCell c t) 0) t); iexact H
theorem rcs_at (c : Dev nD) (t : Tr) : rcs c ⊢ (reached ER (recvCell c t) 0 : sProp 𝕄) := by
  unfold rcs; exact elim_at _ t
theorem recv_open (c : Dev nD) (t : Tr) : Recs I c ⊢ reached ER (recvCell (tgt t c) t) 0 := by
  have h : tgt t c = zpD c ∨ tgt t c = xnD c ∨ tgt t c = ynD c := by
    match t with
    | .inl _ => exact Or.inl rfl
    | .inr (.inl _) => exact Or.inl rfl
    | .inr (.inr (⟨0, _⟩, _)) => exact Or.inr (Or.inl rfl)
    | .inr (.inr (⟨1, _⟩, _)) => exact Or.inr (Or.inr rfl)
    | .inr (.inr (⟨2, _⟩, _)) => exact Or.inr (Or.inr rfl)
    | .inr (.inr (⟨3, _⟩, _)) => exact Or.inr (Or.inl rfl)
  unfold Recs
  rcases h with h | h | h <;> rw [h]
  · iintro ⟨-, -, H, -, -⟩; iapply (rcs_at (zpD c) t); iexact H
  · iintro ⟨-, -, -, H, -⟩; iapply (rcs_at (xnD c) t); iexact H
  · iintro ⟨-, -, -, -, H⟩; iapply (rcs_at (ynD c) t); iexact H
theorem recs_intro (c : Dev nD) : iprop(Rec0 I c ∗ rcs (zpD c) ∗ rcs (xnD c) ∗ rcs (ynD c)) ⊢ Recs I c := by
  unfold Rec0 Recs
  iintro ⟨⟨H, -, H', -⟩, Hr⟩
  isplitl [H]; · iexact H
  isplitl [H']; · iexact H'
  iexact Hr

/-- The right to a send; the wait for its end; the wait for what comes. -/
def Snd (c : Dev nD) (t : Tr) : sProp 𝕄 := iprop(dutyTok ER (sendCell c t) 0 (0 : Fin 3) ∗ dutyTok ER (recvCell (tgt t c) t) 0 (0 : Fin 3))
def Pos (c : Dev nD) (k : Ck) : sProp 𝕄 := atPos ER (cell c k) 0 (∅ : Finset (Fin 3)) 0
def Crd (c : Dev nD) (k : Ck) : sProp 𝕄 := cred (tallyAt (cell c k) () (kamt k))
def Fin0 (c : Dev nD) (k : Ck) : sProp 𝕄 := semVal (cell c k) 0

theorem duty_mem (c : Dev nD) (k : Tr ⊕ Tr) : (0 : Fin 3) ∈ (Rd I).duties (cell c (.inr k)) 0 := by
  rw [Rd_duties]; exact Finset.mem_singleton_self _

theorem wp_sendT {α : Type} (c : Dev nD) (t : Tr) {n : Dev nD} (hn : n = tgt t c) {sh : Shape} {e : EltTy} {src dst : Memref sig .tc .vmem sh e}
    {s r : DmaSem sig} (hs : s = sendSem t) (hr : r = recvSem t) {h₁ : src.view.WordExact} {h₂ : dst.view.WordExact}
    {hd : dst.view.ref.isScScratch = false} {hsem : DmaTarget.Typed .vmem (.dma r) (.remote (Dev.tc n : Thread nD τ) dst (.dma s) hd)}
    {k : PUnit → ℙ α} {Q : α → sProp 𝕄} {q : PosShare TreeShare} {fs : Buf (Elt F) (src.view.loc (c : Thread nD τ))} (m : ℕ) (hm : tm t = m)
    (hN : dst.view.dmaCredit = amt t) (hp₁ : (pts c src q fs : sProp 𝕄) ⊢ sendPay I c t)
    (hp₂ : ∀ fd, (pts n dst fullShare (dst.view.write (Elt F) fd (src.view.read (Elt F) fs) Finset.univ) : sProp 𝕄) ⊢ recvPay I n t) :
    iprop(Recs I c ∗ Snd c t ∗ pts c src q fs ∗ some' n dst ∗ owesE c (Ow c m))
      ⊢ iprop(((Crd c (.inr (.inl t)) ∗ owesE c (Ow c (m + 1))) -∗ WP c (k ⟨⟩) Q)
        -∗ WP c (.op (.enqueueDma src (.remote (Dev.tc n : Thread nD τ) dst (.dma s) hd) (.dma r) h₁ h₂ hsem) k) Q) := by
  subst hn hs hr
  unfold Snd some' owesE Crd
  iintro ⟨#HR, ⟨Ht₁, Ht₂⟩, Hs, ⟨%fd, Hd⟩, ⟨%W, HO⟩⟩ Hk
  ihave #HV := (invs_of I c) $$ HR
  ihave HI₁ := (inv_at I c (.inr (.inl t))) $$ HV
  icases HI₁ with ⟨%κ₁, HI₁⟩
  ihave HI₂ := (inv_at I (tgt t c) (.inr (.inr t))) $$ HV
  icases HI₂ with ⟨%κ₂, HI₂⟩
  iapply (Rounds.wp_send_pointsTo 𝒱₀ ER (Rd I) (c : Thread nD τ) none (c' := (tgt t c : Thread nD τ)) (κ₁ := κ₁) (κ₂ := κ₂) (r₁ := 0) (r₂ := 0) (d₁ := (0 : Fin 3)) (d₂ := (0 : Fin 3)) (fd := fd)
    (duty_mem I c (.inl t)) (duty_mem I (tgt t c) (.inr t)) () () (amt t) hN (Rd_amount I c (.inr (.inl t)) 0 0) (Rd_amount I (tgt t c) (.inr (.inr t)) 0 0)
    (Ow c (m + 1)) (Ow_step c t m hm) (W := W)
    (hp₁.trans (Entails.of_eq (Rd_payload I c (.inr (.inl t)) 0 0).symm)) ((hp₂ fd).trans (Entails.of_eq (Rd_payload I (tgt t c) (.inr (.inr t)) 0 0).symm))) $$ [HI₁ HI₂ Hs Hd HO Ht₁ Ht₂]
  · isplitl [HI₁]; · iexact HI₁
    isplitl [HI₂]; · iexact HI₂
    isplitl [Hs]; · iexact Hs
    isplitl [Hd]; · iexact Hd
    isplitl [HO]; · iexact HO
    isplitl [Ht₁]; · iexact Ht₁
    isplitr; · iapply (send_open I c t); iexact HR
    isplitl [Ht₂]; · iexact Ht₂
    iapply (recv_open I c t); iexact HR
  iintro ⟨Hc, HO⟩
  iapply Hk
  isplitl [Hc]; · iexact Hc
  iexists W; iexact HO

theorem wp_waitT {α : Type} (c : Dev nD) (t : Tr ⊕ Tr) {sp sp' : Space} {sh sh' : Shape} {e e' : EltTy} {src : Memref sig .tc sp sh e} {dst : Memref sig .tc sp' sh' e'}
    {s : DmaSem sig} (hs : SemLoc.dma s = csem (.inr t)) {h₁ : src.view.WordExact} {h₂ : dst.view.WordExact} {k : PUnit → ℙ α} {Q : α → sProp 𝕄}
    (m : ℕ) (hlv : lv (cell c (.inr t)) () < m + 2) (hN : dst.view.dmaCredit = kamt (.inr t)) :
    iprop(Recs I c ∗ Crd c (.inr t) ∗ Pos c (.inr t) ∗ owesE c (Ow c m))
      ⊢ iprop(((pay I c (.inr t) 0 ∗ Fin0 c (.inr t) ∗ owesE c (Ow c m)) -∗ WP c (k ⟨⟩) Q)
        -∗ WP c (.op (.waitDma2 s src dst h₁ h₂) k) Q) := by
  unfold Crd Pos owesE Fin0
  rw [← hN]
  have hE : 0 + dst.view.dmaCredit = (Rd I).expect (cell c (.inr t)) 0 := by rw [Nat.zero_add, hN, expect_tr]
  have hlv' := mayWait_Ow (F := F) c (csem (.inr t)) m hlv
  have hrest := rest_tr I c t
  have hlater := Rd_later I (cell c (.inr t))
  have hinv := (invs_of I c).trans (inv_at I c (.inr t))
  unfold cell at *
  rw [← hs] at *
  iintro ⟨#HR, Hc, Hp, ⟨%W, HO⟩⟩ Hk
  ihave HI := hinv $$ HR
  icases HI with ⟨%κ, #HI⟩
  iapply (Rounds.wp_wait_rest_token 𝒱₀ ER (Rd I) (c : Thread nD τ) none (κ := κ) (wpE_waitDma2_eq 𝒱₀ (c : Thread nD τ) none Set.univ) (Set.mem_univ _) ()
    (O := Ow c m) (W := W) (R := 0) (m := 0) (T := ∅) hE) $$ [Hc Hp HO]
  · isplitr; · iexact HI
    isplitl [Hc]; · iexact Hc
    isplitl [HO]; · iexact HO
    isplitr
    · iapply hlv'; iapply (lev_of I c); iexact HR
    iexact Hp
  iintro ⟨HO, Hp, -, Hpay⟩
  imod (Rounds.cell_close ER (Rd I) (Set.mem_univ κ) (fun h => h) (R := 0 + 1) hlater) $$ [Hp] with Hv
  · isplitr; · iexact HI
    iexact Hp
  iapply Hk
  isplitl [Hpay]
  · iapply (Entails.of_eq hrest); iexact Hpay
  isplitl [Hv]; · iexact Hv
  iexists _; iexact HO

theorem wp_waitP {α : Type} (c : Dev nD) (t : Tr ⊕ Tr) {sp sp' : Space} {sh sh' : Shape} {e e' : EltTy} {src : Memref sig .tc sp sh e} {dst : Memref sig .tc sp' sh' e'}
    {s : DmaSem sig} (hs : SemLoc.dma s = csem (.inr t)) {h₁ : src.view.WordExact} {h₂ : dst.view.WordExact} {k : PUnit → ℙ α} {Q : α → sProp 𝕄}
    (m : ℕ) (hlv : lv (cell c (.inr t)) () < m + 2) (hN : dst.view.dmaCredit = kamt (.inr t)) (P : sProp 𝕄) (hP : pay I c (.inr t) 0 ⊢ P) :
    iprop(Recs I c ∗ Crd c (.inr t) ∗ Pos c (.inr t) ∗ owesE c (Ow c m))
      ⊢ iprop(((P ∗ Fin0 c (.inr t) ∗ owesE c (Ow c m)) -∗ WP c (k ⟨⟩) Q)
        -∗ WP c (.op (.waitDma2 s src dst h₁ h₂) k) Q) := by
  iintro H Hk
  iapply (wp_waitT I c t hs m hlv hN) $$ H
  iintro ⟨Hp, Hv, HO⟩
  iapply Hk
  isplitl [Hp]; · iapply hP; iexact Hp
  isplitl [Hv] <;> iassumption

/-- The barrier. -/
theorem wp_phaseB (c : Dev nD) (Q : PUnit → sProp 𝕄) :
    iprop(Rec0 I c ∗ owesE c (O₀ c) ∗ (barPay (zpD c) 0 ∗ barPay (xnD c) 1 ∗ barPay (ynD c) 2)
        ∗ (dutyTok ER (barCell (zpD c)) 0 (0 : Fin 3) ∗ dutyTok ER (barCell (xnD c)) 0 (1 : Fin 3) ∗ dutyTok ER (barCell (ynD c)) 0 (2 : Fin 3))
        ∗ cred (tallyAt (barCell c) () 3) ∗ Pos c (.inl ())
        ∗ ((barPay c 0 ∗ barPay c 1 ∗ barPay c 2 ∗ Fin0 c (.inl ()) ∗ owesE c (Ow c 3)) -∗ Q ⟨⟩))
      ⊢ WP c (phaseB c) Q := by
  unfold phaseB WP owesE Pos Fin0
  simp only [semSignalWord, semWaitWord, Prog.lift, Prog.bind_op, Prog.bind_ret, Prog.pure_eq_ret]
  have hp (c' : Dev nD) (d : Fin 3) : barPay (F := F) c' d ⊢ (Rd I).payload ((c' : Thread nD τ), SemLoc.reg barS) 0 d :=
    Entails.of_eq (Rd_payload I c' (.inl ()) 0 d).symm
  have hx : 0 + (3#32).toNat = (Rd I).expect ((c : Thread nD τ), SemLoc.reg barS) 0 := (expect_bar I c).symm
  have hr : bigSep ((Rd I).duties ((c : Thread nD τ), SemLoc.reg barS) 0 \ ∅) (fun d => (Rd I).payload ((c : Thread nD τ), SemLoc.reg barS) 0 d)
      ⊢ iprop(barPay (F := F) c 0 ∗ barPay c 1 ∗ barPay c 2) := Entails.of_eq (rest_bar I c)
  have hm (c' : Dev nD) (d : Fin 3) : d ∈ (Rd I).duties (barCell c') 0 := by rw [Rd_duties]; exact Finset.mem_univ _
  iintro ⟨#HR, ⟨%W, HO⟩, ⟨Hz, Hx, Hy⟩, ⟨Tz, Tx, Ty⟩, Hc, Hp, Hk⟩
  ihave #HV := (invs_of0 I c) $$ HR
  ihave HIz := (inv_at I (zpD c) (.inl ())) $$ HV
  icases HIz with ⟨%κz, HIz⟩
  ihave HIx := (inv_at I (xnD c) (.inl ())) $$ HV
  icases HIx with ⟨%κx, HIx⟩
  ihave HIy := (inv_at I (ynD c) (.inl ())) $$ HV
  icases HIy with ⟨%κy, HIy⟩
  ihave HI := (inv_at I c (.inl ())) $$ HV
  icases HI with ⟨%κ, #HI⟩
  iapply (Rounds.wp_signal 𝒱₀ ER (Rd I) (c : Thread nD τ) none (dst := (zpD c : Thread nD τ)) (κ := κz) (hm (zpD c) 0) ((Rd_amount I (zpD c) (.inl ()) 0 0).trans (by decide)) ()
      ((Ow c 3 + tallyAt (barCell (ynD c)) () 1) + tallyAt (barCell (xnD c)) () 1) rfl) $$ [HIz HO Tz Hz]
  · isplitl [HIz]; · iexact HIz
    isplitl [HO]; · iexact HO
    isplitl [Tz]; · iexact Tz
    isplitl [Hz]; · iapply (hp (zpD c) 0); iexact Hz
    iapply (bar_open I c (zpD c)); iexact HR
  iintro HO
  iapply (Rounds.wp_signal 𝒱₀ ER (Rd I) (c : Thread nD τ) none (dst := (xnD c : Thread nD τ)) (κ := κx) (hm (xnD c) 1) ((Rd_amount I (xnD c) (.inl ()) 0 1).trans (by decide)) ()
      (Ow c 3 + tallyAt (barCell (ynD c)) () 1) rfl) $$ [HIx HO Tx Hx]
  · isplitl [HIx]; · iexact HIx
    isplitl [HO]; · iexact HO
    isplitl [Tx]; · iexact Tx
    isplitl [Hx]; · iapply (hp (xnD c) 1); iexact Hx
    iapply (bar_open I c (xnD c)); iexact HR
  iintro HO
  iapply (Rounds.wp_signal 𝒱₀ ER (Rd I) (c : Thread nD τ) none (dst := (ynD c : Thread nD τ)) (κ := κy) (hm (ynD c) 2) ((Rd_amount I (ynD c) (.inl ()) 0 2).trans (by decide)) ()
      (Ow c 3) rfl) $$ [HIy HO Ty Hy]
  · isplitl [HIy]; · iexact HIy
    isplitl [HO]; · iexact HO
    isplitl [Ty]; · iexact Ty
    isplitl [Hy]; · iapply (hp (ynD c) 2); iexact Hy
    iapply (bar_open I c (ynD c)); iexact HR
  iintro HO
  iapply (Rounds.wp_wait_rest_token 𝒱₀ ER (Rd I) (c : Thread nD τ) none (κ := κ) (wpE_semWait_eq 𝒱₀ (c : Thread nD τ) none Set.univ) (Set.mem_univ _) ()
    (O := Ow c 3) (W := W) (R := 0) (m := 0) (T := ∅) hx) $$ [Hc Hp HO]
  · isplitr; · iexact HI
    isplitl [Hc]; · iexact Hc
    isplitl [HO]; · iexact HO
    isplitr
    · iapply (mayWait_Ow (F := F) c (csem (.inl ())) 3 (by rw [lv_bar]; decide)); iapply (lev_of0 I c); iexact HR
    iexact Hp
  iintro ⟨HO, Hp, -, Hpay⟩
  imod (Rounds.cell_close ER (Rd I) (Set.mem_univ κ) (fun h => h) (R := 0 + 1) (Rd_later I (barCell c))) $$ [Hp] with Hv
  · isplitr; · iexact HI
    iexact Hp
  rw [wp_ret]; imodintro
  ihave Hpay' := hr $$ Hpay
  icases Hpay' with ⟨H0, H1, H2⟩
  iapply Hk
  isplitl [H0]; · iexact H0
  isplitl [H1]; · iexact H1
  isplitl [H2]; · iexact H2
  isplitl [Hv]; · iexact Hv
  iexists _; iexact HO

end Shared

end Cert.K

end
-- ==== Proof.PhaseX.lean ====
/-
The activations and the device's shares of the latent and of the two up-projections.
-/
module

public import proofs.«01_k».proof.Proof.Steps

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ
local notation "ℙ" => Prog (TpuEff nD τ sig (Elt F) Λ₀ Proc.tc)

theorem hz2 : (![0, 0] : Fin 2 → Nat) = fun _ => 0 := by funext a; fin_cases a <;> rfl

section Ph
variable (I : Inp F)

abbrev hpt {s : Shape} {e : EltTy} (c : Dev nD) (m : Memref sig .tc .hbm s e) (q : PosShare TreeShare) (f : Buf (Elt F) (m.view.loc (c : Thread nD τ))) : sProp 𝕄 :=
  (m.view.loc (c : Thread nD τ) ↦{q} f : sProp 𝕄)
abbrev sem0 (c : Dev nD) (s : DmaSem sig) : sProp 𝕄 := semVal ((c : Thread nD τ), .dma s) 0

def preX (c : Dev nD) : sProp 𝕄 :=
  iprop((hpt c xH fullShare (I.x c) ∗ sem0 c xS ∗ some' c x32M)
    ∗ (hpt c wqH fullShare (I.wq c) ∗ sem0 c (wqS 0) ∗ some' c (sq 0))
    ∗ (hpt c wqrH fullShare (I.wqr c) ∗ sem0 c (wqrS 0) ∗ some' c (sqr 0))
    ∗ (pts c wdM fullShare (I.wd c) ∗ pts c wukM fullShare (I.wuk c) ∗ pts c wuvM fullShare (I.wuv c))
    ∗ (some' c xbM ∗ some' c clM ∗ some' c uklM ∗ some' c uvlM)
    ∗ owesE c (O₀ c))
def postX (c : Dev nD) : sProp 𝕄 :=
  iprop((hpt c xH fullShare (I.x c) ∗ sem0 c xS ∗ some' c x32M)
    ∗ Fet c (wqB c 0) (sq 0) (wqS 0) fullShare (I.wq c)
    ∗ Fet c (wqrB c 0) (sqr 0) (wqrS 0) fullShare (I.wqr c)
    ∗ (pts c wdM fullShare (I.wd c) ∗ pts c wukM fullShare (I.wuk c) ∗ pts c wuvM fullShare (I.wuv c))
    ∗ (pts c xbM fullShare (XB I c) ∗ pts c clM fullShare (CL I c) ∗ pts c uklM fullShare (UKL I c) ∗ pts c uvlM fullShare (UVL I c))
    ∗ owesE c (O₀ c))

theorem x32_read (f : x32M.view.ty.Contents (Elt F)) (w : Vec F S256x4096 .f32) :
    x32M.view.readAt (Elt F) rX.toLoadRect (x32M.view.write (Elt F) f w Finset.univ) = w :=
  (Memref.readAt_unit_zero (Elt F) cc0_scratch0 hz2 _ _).trans (View.write_whole_univ cc0_scratch0 f w)

theorem wp_phaseX (c : Dev nD) (Q : PUnit → sProp 𝕄) :
    iprop(levAts L lv ∗ preX I c ∗ (postX I c -∗ Q ⟨⟩)) ⊢ WP c (phaseX c) Q := by
  unfold phaseX WP preX
  simp only [loadR, copyC, waitC, Prog.lift, Prog.bind_op, Prog.bind_ret, Prog.pure_eq_ret]
  iintro ⟨Hl, ⟨⟨Hx, Hxs, Hx32⟩, ⟨Hq, Hqs, Hsq⟩, ⟨Hr, Hrs, Hsr⟩, ⟨Hwd, Huk, Huv⟩, ⟨Hxb, Hcl, Hukl, Huvl⟩, HO⟩, Hk⟩
  iapply (wp_fetch c (src := wqB c 0) (dst := sq 0) (s := wqS 0) h_S4096x256) $$ [Hq Hqs Hsq]
  · isplitl [Hq]; · iexact Hq
    isplitl [Hsq] <;> iassumption
  iintro Hq
  iapply (wp_fetch c (src := wqrB c 0) (dst := sqr 0) (s := wqrS 0) h_S4096x128) $$ [Hr Hrs Hsr]
  · isplitl [Hr]; · iexact Hr
    isplitl [Hsr] <;> iassumption
  iintro Hr
  iapply (wp_fetch c (src := xB c) h_S256x4096) $$ [Hx Hxs Hx32]
  · isplitl [Hx]; · iexact Hx
    isplitl [Hx32]; · iexact Hx32
    iexact Hxs
  iintro Hx
  iapply (wp_fetched c (src := xB c) (mayWait_O₀ c (.dma xS) (lv_local c (.inl ())))) $$ [Hl Hx HO]
  · isplitl [Hl]; · iexact Hl
    isplitl [Hx] <;> iassumption
  iintro ⟨Hx, ⟨%fd, Hx32⟩, Hxs, HO⟩
  iapply (wp_ldv c (f := x32M.view.write (Elt F) fd ((xB c).view.read (Elt F) (I.x c)) Finset.univ) (XQ I c) (x32_read _ _)) $$ Hx32
  iintro Hx32
  iapply (wp_lst c (XB I c) (fun f => Memref.write_access_unit_zero_univ (Elt F) cc0_scratch1 hz2 _ f _)) $$ Hxb
  iintro Hxb
  iapply (wp_ldv c (XB I c) (Memref.readAt_unit_zero (Elt F) cc0_scratch1 hz2 _ _)) $$ Hxb
  iintro Hxb
  iapply (wp_ldv c (I.wd c) (Memref.readAt_unit_zero (Elt F) cc0_stg0_0 hz2 _ _)) $$ Hwd
  iintro Hwd
  iapply (wp_lst c (CL I c) (fun f => Memref.write_access_unit_zero_univ (Elt F) cc0_scratch2 hz2 _ f _)) $$ Hcl
  iintro Hcl
  iapply (wp_ldw c) $$ Huk
  iintro Huk
  iapply (wp_lst c (UKL I c) (fun f => Memref.write_access_unit_zero_univ (Elt F) cc0_scratch4 hz2 _ f _)) $$ Hukl
  iintro Hukl
  iapply (wp_ldw c) $$ Huv
  iintro Huv
  iapply (wp_lst c (UVL I c) (fun f => Memref.write_access_unit_zero_univ (Elt F) cc0_scratch6 hz2 _ f _)) $$ Huvl
  iintro Huvl
  iapply (wp_done c)
  iapply Hk
  unfold postX
  isplitl [Hx Hxs Hx32]
  · isplitl [Hx]; · iexact Hx
    isplitl [Hxs]; · iexact Hxs
    iapply (pts_some c x32M); iexact Hx32
  isplitl [Hq]; · iexact Hq
  isplitl [Hr]; · iexact Hr
  isplitl [Hwd Huk Huv]
  · isplitl [Hwd]; · iexact Hwd
    isplitl [Huk] <;> iassumption
  isplitr [HO]
  · isplitl [Hxb]; · iexact Hxb
    isplitl [Hcl]; · iexact Hcl
    isplitl [Hukl] <;> iassumption
  iexact HO

end Ph

end Cert.K

end
-- ==== Proof.PhaseZ.lean ====
/-
The exchange along the third axis of the mesh, and the query blocks computed meanwhile.
-/
module

public import proofs.«01_k».proof.Proof.PhaseX

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ
local notation "ℙ" => Prog (TpuEff nD τ sig (Elt F) Λ₀ Proc.tc)

section Ph
variable (I : Inp F)

/-- Receives along the third axis, and what is sent. -/
theorem zpay0 (c : Dev nD) (fd) :
    (pts (zpD c) crM fullShare (crM.view.write (Elt F) fd (clM.view.read (Elt F) (CL I c)) Finset.univ) : sProp 𝕄) ⊢ recvPay I (zpD c) (.inl 0) := by
  show _ ⊢ pts (zpD c) crM fullShare (CL I (zpD (zpD c)))
  rw [zz]
  exact Entails.of_eq (congrArg (fun f => pts (zpD c) crM fullShare f) (View.write_whole_univ cc0_scratch3 fd _))
theorem zpay1 (c : Dev nD) (fd) :
    (pts (zpD c) ukrM fullShare (ukrM.view.write (Elt F) fd (uklM.view.read (Elt F) (UKL I c)) Finset.univ) : sProp 𝕄) ⊢ recvPay I (zpD c) (.inl 1) := by
  show _ ⊢ pts (zpD c) ukrM fullShare (UKL I (zpD (zpD c)))
  rw [zz]
  exact Entails.of_eq (congrArg (fun f => pts (zpD c) ukrM fullShare f) (View.write_whole_univ cc0_scratch5 fd _))
theorem zpay2 (c : Dev nD) (fd) :
    (pts (zpD c) uvrM fullShare (uvrM.view.write (Elt F) fd (uvlM.view.read (Elt F) (UVL I c)) Finset.univ) : sProp 𝕄) ⊢ recvPay I (zpD c) (.inl 2) := by
  show _ ⊢ pts (zpD c) uvrM fullShare (UVL I (zpD (zpD c)))
  rw [zz]
  exact Entails.of_eq (congrArg (fun f => pts (zpD c) uvrM fullShare f) (View.write_whole_univ cc0_scratch7 fd _))

def preZ (c : Dev nD) : sProp 𝕄 :=
  iprop((Snd c (.inl 0) ∗ Snd c (.inl 1) ∗ Snd c (.inl 2))
    ∗ (pts c clM fullShare (CL I c) ∗ pts c uklM fullShare (UKL I c) ∗ pts c uvlM fullShare (UVL I c))
    ∗ (some' (zpD c) crM ∗ some' (zpD c) ukrM ∗ some' (zpD c) uvrM)
    ∗ (pts c xbM fullShare (XB I c) ∗ pts c wkrM fullShare (I.wkr c) ∗ some' c krM)
    ∗ owesE c (Ow c 3))
def postZ (c : Dev nD) : sProp 𝕄 :=
  iprop((Crd c (.inr (.inl (.inl 0))) ∗ Crd c (.inr (.inl (.inl 1))) ∗ Crd c (.inr (.inl (.inl 2))))
    ∗ (pts c xbM fullShare (XB I c) ∗ pts c wkrM fullShare (I.wkr c) ∗ pts c krM fullShare (KR I c))
    ∗ owesE c (Ow c 6))

theorem wp_phaseZ (c : Dev nD) (Q : PUnit → sProp 𝕄) :
    iprop(Recs I c ∗ preZ I c ∗ (postZ I c -∗ Q ⟨⟩)) ⊢ WP c (phaseZ c) Q := by
  unfold phaseZ WP preZ
  simp only [loadR, sendC, Prog.lift, Prog.bind_op, Prog.bind_ret, Prog.pure_eq_ret]
  iintro ⟨#HR, ⟨⟨S0, S1, S2⟩, ⟨Hcl, Hukl, Huvl⟩, ⟨Hcr, Hukr, Huvr⟩, ⟨Hxb, Hwk, Hkr⟩, HO⟩, Hk⟩
  iapply (wp_sendT I c (.inl 0) rfl rfl rfl 3 rfl rfl (Entails.refl _) (zpay0 I c)) $$ [S0 Hcl Hcr HO]
  · isplitr; · iexact HR
    isplitl [S0]; · iexact S0
    isplitl [Hcl]; · iexact Hcl
    isplitl [Hcr]; · iexact Hcr
    iexact HO
  iintro ⟨C0, HO⟩
  iapply (wp_sendT I c (.inl 1) rfl rfl rfl 4 rfl rfl (Entails.refl _) (zpay1 I c)) $$ [S1 Hukl Hukr HO]
  · isplitr; · iexact HR
    isplitl [S1]; · iexact S1
    isplitl [Hukl]; · iexact Hukl
    isplitl [Hukr]; · iexact Hukr
    iexact HO
  iintro ⟨C1, HO⟩
  iapply (wp_sendT I c (.inl 2) rfl rfl rfl 5 rfl rfl (Entails.refl _) (zpay2 I c)) $$ [S2 Huvl Huvr HO]
  · isplitr; · iexact HR
    isplitl [S2]; · iexact S2
    isplitl [Huvl]; · iexact Huvl
    isplitl [Huvr]; · iexact Huvr
    iexact HO
  iintro ⟨C2, HO⟩
  iapply (wp_ldv c (XB I c) (Memref.readAt_unit_zero (Elt F) cc0_scratch1 hz2 _ _)) $$ Hxb
  iintro Hxb
  iapply (wp_ldv c (I.wkr c) (Memref.readAt_unit_zero (Elt F) cc0_stg3_0 hz2 _ _)) $$ Hwk
  iintro Hwk
  iapply (wp_lst c (KR I c) (fun f => Memref.write_access_unit_zero_univ (Elt F) cc0_scratch10 hz2 _ f _)) $$ Hkr
  iintro Hkr
  iapply (wp_done c)
  iapply Hk
  unfold postZ
  isplitl [C0 C1 C2]
  · isplitl [C0]; · iexact C0
    isplitl [C1] <;> iassumption
  isplitr [HO]
  · isplitl [Hxb]; · iexact Hxb
    isplitl [Hwk] <;> iassumption
  iexact HO

/-! ## The query blocks -/

/-- The two copies for block `m` under way, or, past the last, both arrays whole again and the slot free. -/
def QF (c : Dev nD) (m : ℕ) : sProp 𝕄 :=
  if h : m < 8 then iprop(Fet c (wqB c ⟨m, h⟩) (sq (sl m)) (wqS (sl m)) fullShare (I.wq c) ∗ Fet c (wqrB c ⟨m, h⟩) (sqr (sl m)) (wqrS (sl m)) fullShare (I.wqr c))
  else iprop((hpt c wqH fullShare (I.wq c) ∗ sem0 c (wqS (sl m)) ∗ some' c (sq (sl m))) ∗ (hpt c wqrH fullShare (I.wqr c) ∗ sem0 c (wqrS (sl m)) ∗ some' c (sqr (sl m))))
/-- A slot not in use. -/
def QI (c : Dev nD) (m : ℕ) : sProp 𝕄 :=
  iprop((sem0 c (wqS (sl m)) ∗ some' c (sq (sl m))) ∗ (sem0 c (wqrS (sl m)) ∗ some' c (sqr (sl m))))

theorem sl_two (m : ℕ) : sl (m + 2) = sl m := Fin.ext (Nat.add_mod_right m 2)

theorem wp_startQ {α : Type} (c : Dev nD) (k : Fin 8) (p : PUnit → ℙ α) (Q : α → sProp 𝕄) :
    iprop(hpt c wqH fullShare (I.wq c) ∗ hpt c wqrH fullShare (I.wqr c) ∗ QI c (k.val + 1))
      ⊢ iprop((QF I c (k.val + 1) -∗ WP c (p ⟨⟩) Q) -∗ WP c (startQ c k >>= p) Q) := by
  unfold startQ QF QI
  by_cases h : k.val + 1 < 8
  · rw [dif_pos h, dif_pos h]
    simp only [copyC, Prog.lift, Prog.bind_op, Prog.bind_ret, Prog.pure_eq_ret]
    iintro ⟨Hq, Hr, ⟨Sq, Wq⟩, ⟨Sr, Wr⟩⟩ Hk
    iapply (wp_fetch c (src := wqB c ⟨k.val + 1, h⟩) h_S4096x256) $$ [Hq Sq Wq]
    · isplitl [Hq]; · iexact Hq
      isplitl [Wq] <;> iassumption
    iintro Hq
    iapply (wp_fetch c (src := wqrB c ⟨k.val + 1, h⟩) h_S4096x128) $$ [Hr Sr Wr]
    · isplitl [Hr]; · iexact Hr
      isplitl [Wr] <;> iassumption
    iintro Hr
    iapply Hk
    isplitl [Hq] <;> iassumption
  · rw [dif_neg h, dif_neg h]
    simp only [Prog.bind_ret, Prog.pure_eq_ret]
    iintro ⟨Hq, Hr, ⟨Sq, Wq⟩, ⟨Sr, Wr⟩⟩ Hk
    iapply Hk
    isplitl [Hq Sq Wq]
    · isplitl [Hq]; · iexact Hq
      isplitl [Sq] <;> iassumption
    isplitl [Hr]; · iexact Hr
    isplitl [Sr] <;> iassumption

theorem sq_sub (b : Fin 2) : sqM.view.setOn (rS256 b).toLoadRect.set ⊆ (sq b).view.set := by
  rw [show (sq b).view.set = _ from (View.set_reshape _ _).trans (View.set_slice _ _)]; exact Finset.Subset.refl _
theorem sqr_sub (b : Fin 2) : sqrM.view.setOn (rS128 b).toLoadRect.set ⊆ (sqr b).view.set := by
  rw [show (sqr b).view.set = _ from (View.set_reshape _ _).trans (View.set_slice _ _)]; exact Finset.Subset.refl _
theorem swo_sub (b : Fin 2) : swoM.view.setOn (rS256 b).toLoadRect.set ⊆ (swo b).view.set := by
  rw [show (swo b).view.set = _ from (View.set_reshape _ _).trans (View.set_slice _ _)]; exact Finset.Subset.refl _

theorem wp_ld_sq {α : Type} {Q : α → sProp 𝕄} (c : Dev nD) (b : Fin 2) {hl : sqM.view.LoadsAt (rS256 b).toLoadRect} {k : Vec F S1x4096x256 .f32 → ℙ α} (fd : (sq b).view.ty.Contents (Elt F)) (w : Vec F S4096x256 .f32) :
    (pts c (sq b) fullShare ((sq b).view.write (Elt F) fd w Finset.univ) : sProp 𝕄)
      ⊢ iprop((pts c (sq b) fullShare ((sq b).view.write (Elt F) fd w Finset.univ) -∗ WP c (k (unsq256 w)) Q) -∗ WP c (.op (.load sqM (rS256 b).toLoadRect hl) k) Q) := by
  rw [← sq_read b fd w]; exact wp_ld c (m := sqM) (sq_sub b)
theorem wp_ld_sqr {α : Type} {Q : α → sProp 𝕄} (c : Dev nD) (b : Fin 2) {hl : sqrM.view.LoadsAt (rS128 b).toLoadRect} {k : Vec F S1x4096x128 .f32 → ℙ α} (fd : (sqr b).view.ty.Contents (Elt F)) (w : Vec F S4096x128 .f32) :
    (pts c (sqr b) fullShare ((sqr b).view.write (Elt F) fd w Finset.univ) : sProp 𝕄)
      ⊢ iprop((pts c (sqr b) fullShare ((sqr b).view.write (Elt F) fd w Finset.univ) -∗ WP c (k (unsq128 w)) Q) -∗ WP c (.op (.load sqrM (rS128 b).toLoadRect hl) k) Q) := by
  rw [← sqr_read b fd w]; exact wp_ld c (m := sqrM) (sqr_sub b)
theorem wp_ld_swo {α : Type} {Q : α → sProp 𝕄} (c : Dev nD) (b : Fin 2) {hl : swoM.view.LoadsAt (rS256 b).toLoadRect} {k : Vec F S1x4096x256 .f32 → ℙ α} (fd : (swo b).view.ty.Contents (Elt F)) (w : Vec F S4096x256 .f32) :
    (pts c (swo b) fullShare ((swo b).view.write (Elt F) fd w Finset.univ) : sProp 𝕄)
      ⊢ iprop((pts c (swo b) fullShare ((swo b).view.write (Elt F) fd w Finset.univ) -∗ WP c (k (unsq256 w)) Q) -∗ WP c (.op (.load swoM (rS256 b).toLoadRect hl) k) Q) := by
  rw [← swo_read b fd w]; exact wp_ld c (m := swoM) (swo_sub b)

/-- The columns of the queries computed so far. -/
def PQ (c : Dev nD) (m : ℕ) : sProp 𝕄 :=
  iprop(part c qM (QA I c) (fun i : S256x2048.Idx => (i 1).val < 256 * m) ∗ part c qrM (QRA I c) (fun i : S256x1024.Idx => (i 1).val < 128 * m))

theorem q_cover (k : Fin 8) (i : S256x2048.Idx) (h : (i 1).val < 256 * (k.val + 1)) : i ∈ (qM.access (rQ k)).set ∨ (i 1).val < 256 * k.val := by
  by_cases h' : (i 1).val < 256 * k.val
  · exact .inr h'
  · refine .inl ?_
    rw [show (qM.access (rQ k)).set = _ from View.set_slice_whole _ _, Rect.mem_set_unit]
    intro a
    match a with
    | ⟨0, _⟩ => exact ⟨Nat.zero_le _, by have : (i 0).val < 256 := (i 0).isLt; simpa using this⟩
    | ⟨1, _⟩ => exact ⟨by show 256 * k.val ≤ (i 1).val; omega, by show (i 1).val < 256 * k.val + 256; omega⟩
theorem qr_cover (k : Fin 8) (i : S256x1024.Idx) (h : (i 1).val < 128 * (k.val + 1)) : i ∈ (qrM.access (rQr k)).set ∨ (i 1).val < 128 * k.val := by
  by_cases h' : (i 1).val < 128 * k.val
  · exact .inr h'
  · refine .inl ?_
    rw [show (qrM.access (rQr k)).set = _ from View.set_slice_whole _ _, Rect.mem_set_unit]
    intro a
    match a with
    | ⟨0, _⟩ => exact ⟨Nat.zero_le _, by have : (i 0).val < 256 := (i 0).isLt; simpa using this⟩
    | ⟨1, _⟩ => exact ⟨by show 128 * k.val ≤ (i 1).val; omega, by show (i 1).val < 128 * k.val + 128; omega⟩

def invQ (c : Dev nD) (m : ℕ) : sProp 𝕄 :=
  iprop(QF I c m ∗ QI c (m + 1) ∗ PQ I c m ∗ pts c xbM fullShare (XB I c) ∗ owesE c (Ow c 6))

theorem wp_stepQ (c : Dev nD) (k : Fin 8) (Q : PUnit → sProp 𝕄) :
    iprop(levAts L lv ∗ invQ I c k.val ∗ (invQ I c (k.val + 1) -∗ Q ⟨⟩)) ⊢ WP c (stepQ c k) Q := by
  unfold stepQ invQ PQ
  rw [QF, dif_pos k.isLt]
  simp only [loadR, copyC, waitC, Prog.lift, Prog.bind_op, Prog.bind_ret, Prog.pure_eq_ret]
  iintro ⟨#Hl, ⟨⟨Fq, Fr⟩, HI, ⟨Pq, Pr⟩, Hxb, HO⟩, Hk⟩
  iapply (wp_fetched c (src := wqB c k) (mayWait_Ow c (.dma (wqS (sl k.val))) 6 (lt_of_eq_of_lt (lv_local c (.inr (0, sl k.val))) (by decide)))) $$ [Fq HO]
  · isplitr; · iexact Hl
    isplitl [Fq] <;> iassumption
  iintro ⟨Hq, ⟨%fq, Wq⟩, Sq, HO⟩
  iapply (wp_fetched c (src := wqrB c k) (mayWait_Ow c (.dma (wqrS (sl k.val))) 6 (lt_of_eq_of_lt (lv_local c (.inr (1, sl k.val))) (by decide)))) $$ [Fr HO]
  · isplitr; · iexact Hl
    isplitl [Fr] <;> iassumption
  iintro ⟨Hr, ⟨%fr, Wr⟩, Sr, HO⟩
  iapply (wp_startQ I c k) $$ [Hq Hr HI]
  · isplitl [Hq]; · iexact Hq
    isplitl [Hr] <;> iassumption
  iintro HF
  iapply (wp_ldv c (XB I c) (Memref.readAt_unit_zero (Elt F) cc0_scratch1 hz2 _ _)) $$ Hxb
  iintro Hxb
  iapply (wp_ld_sq c (sl k.val) fq _) $$ Wq
  iintro Wq
  iapply (wp_stPart c (m := qM) (QA I c) (fun i : S256x2048.Idx => (i 1).val < 256 * k.val) (fun i : S256x2048.Idx => (i 1).val < 256 * (k.val + 1)) (QA_read I c k) (q_cover k)) $$ Pq
  iintro Pq
  iapply (wp_ldv c (XB I c) (Memref.readAt_unit_zero (Elt F) cc0_scratch1 hz2 _ _)) $$ Hxb
  iintro Hxb
  iapply (wp_ld_sqr c (sl k.val) fr _) $$ Wr
  iintro Wr
  iapply (wp_stPart c (m := qrM) (QRA I c) (fun i : S256x1024.Idx => (i 1).val < 128 * k.val) (fun i : S256x1024.Idx => (i 1).val < 128 * (k.val + 1)) (QRA_read I c k) (qr_cover k)) $$ Pr
  iintro Pr
  iapply (wp_done c)
  iapply Hk
  isplitl [HF]; · iexact HF
  isplitl [Sq Wq Sr Wr]
  · unfold QI
    rw [sl_two]
    isplitl [Sq Wq]
    · isplitl [Sq]; · iexact Sq
      iapply (pts_some c (sq (sl k.val))); iexact Wq
    isplitl [Sr]; · iexact Sr
    iapply (pts_some c (sqr (sl k.val))); iexact Wr
  isplitl [Pq Pr]
  · isplitl [Pq] <;> iassumption
  isplitl [Hxb] <;> iassumption

theorem wp_loopQ (c : Dev nD) (Q : PUnit → sProp 𝕄) :
    iprop(levAts L lv ∗ invQ I c 0 ∗ (invQ I c 8 -∗ Q ⟨⟩)) ⊢ WP c (loopF 8 (stepQ c) 8 le_rfl) Q := by
  have h := wp_loopF c 8 (stepQ c) (fun m => iprop(levAts L lv ∗ invQ I c m)) (fun k Q => by
    iintro ⟨⟨#Hl, H⟩, Hk⟩
    iapply (wp_stepQ I c k)
    isplitr; · iexact Hl
    isplitl [H]; · iexact H
    iintro H
    iapply Hk
    isplitr; · iexact Hl
    iexact H) 8 le_rfl Q
  iintro ⟨#Hl, H, Hk⟩
  iapply h
  isplitl [H]
  · isplitr; · iexact Hl
    iexact H
  iintro ⟨-, H⟩
  iapply Hk; iexact H

end Ph

end Cert.K

end
-- ==== Proof.PhaseA.lean ====
/-
Keys and values; the heads, each pair's outputs sent to the partner along the third axis; the partner's outputs.
-/
module

public import proofs.«01_k».proof.Proof.PhaseZ

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ
local notation "ℙ" => Prog (TpuEff nD τ sig (Elt F) Λ₀ Proc.tc)

section Ph
variable (I : Inp F)

theorem halves (c : Dev nD) {s : Shape} {e : EltTy} (m : Memref sig .tc .vmem s e) (f : Buf (Elt F) (m.view.loc (c : Thread nD τ))) :
    (pts c m fullShare f : sProp 𝕄) ⊣⊢ iprop(pts c m fullShare.left f ∗ pts c m fullShare.right f) :=
  pointsTo_share (PosShare.mem_left_op_right fullShare)

/-- A copy of what a buffer holds at `T`, landed in the same part of another device's. -/
theorem landed (n : Dev nD) {s : Shape} {e : EltTy} (m : Memref sig .tc .vmem s e) (fd T : m.view.ty.Contents (Elt F)) :
    (pts n m fullShare (m.view.write (Elt F) fd (m.view.read (Elt F) T) Finset.univ) : sProp 𝕄) ⊢ pts n m fullShare T :=
  Entails.of_eq (pointsTo_congr (write_agree m.view fd T _ rfl))

/-- A load whose value is not used, then a store over a part of a buffer held by itself. -/
theorem wp_lstS {α : Type} (c : Dev nD) {s : Shape} {e : EltTy} {m : Memref sig .tc .vmem s e} {r : Rect s} {hl : m.view.LoadsAt r.toLoadRect}
    {w : r.shape.Idx → Elt F e} {hx : (m.access r).Stores Finset.univ} {hm : (Finset.univ : Finset r.shape.Idx) = Finset.univ ∨ ∀ a, r.stride a = 1}
    {k : PUnit → ℙ α} {Q : α → sProp 𝕄} (S : Finset (Idx (m.view.loc (c : Thread nD τ)))) (T : Buf (Elt F) (m.view.loc (c : Thread nD τ)))
    (hS : S = (m.access r).set) (hw : w = (m.access r).read (Elt F) T) :
    (iprop(∃ f : Buf (Elt F) (m.view.loc (c : Thread nD τ)), (m.view.loc (c : Thread nD τ) ↦[S]{fullShare} f)) : sProp 𝕄)
      ⊢ iprop(((m.view.loc (c : Thread nD τ) ↦[S]{fullShare} T) -∗ WP c (k ⟨⟩) Q)
        -∗ WP c (.op (.load m r.toLoadRect hl) fun _ => .op (.store m r w Finset.univ hx hm) k) Q) := by
  subst hS
  have hsub : m.view.setOn r.toLoadRect.set ⊆ (m.access r).set := by
    rw [show (m.access r).set = _ from View.set_slice _ _]; exact Finset.Subset.refl _
  iintro ⟨%f, H⟩ Hk
  iapply (wp_ld c hsub) $$ H
  iintro H
  iapply (wp_stw c (m := m) (r := r) (w := w) (S := (m.access r).set) (f := f) (Finset.Subset.refl _)) $$ [H]
  · iexact H
  iintro H
  iapply Hk
  iapply (Entails.of_eq (pointsTo_congr (write_agree (m.access r) f T w hw))); iexact H

/-! ## Keys and values -/

def wsh (m : ℕ) : PosShare TreeShare := if m % 2 = 0 then fullShare.left else fullShare.right
theorem wsh_two (m : ℕ) : wsh (m + 2) = wsh m := by unfold wsh; rw [Nat.add_mod_right]

/-- A slot of the last projection. -/
def WI (c : Dev nD) (m : ℕ) : sProp 𝕄 := iprop(hpt c woH (wsh m) (I.wo c) ∗ sem0 c (woS (sl m)) ∗ some' c (swo (sl m)))
def WF (c : Dev nD) (m : ℕ) : sProp 𝕄 :=
  if h : m < 16 then Fet c (woB ⟨m, h⟩) (swo (sl m)) (woS (sl m)) (wsh m) (I.wo c) else WI I c m

theorem WI_two (c : Dev nD) (m : ℕ) : WI I c (m + 2) = WI I c m := by unfold WI; rw [sl_two, wsh_two]

/-- The resources of a wait. -/
def Wt (c : Dev nD) (t : Tr ⊕ Tr) : sProp 𝕄 := iprop(Crd c (.inr t) ∗ Pos c (.inr t))

theorem wp_waitW {α : Type} (c : Dev nD) (t : Tr ⊕ Tr) {sp sp' : Space} {sh sh' : Shape} {e e' : EltTy} {src : Memref sig .tc sp sh e} {dst : Memref sig .tc sp' sh' e'}
    {s : DmaSem sig} (hs : SemLoc.dma s = csem (.inr t)) {h₁ : src.view.WordExact} {h₂ : dst.view.WordExact} {k : PUnit → ℙ α} {Q : α → sProp 𝕄}
    (m : ℕ) (hlv : lv (cell c (.inr t)) () < m + 2) (hN : dst.view.dmaCredit = kamt (.inr t)) (P : sProp 𝕄) (hP : pay I c (.inr t) 0 ⊢ P) :
    iprop(Recs I c ∗ Wt c t ∗ owesE c (Ow c m))
      ⊢ iprop(((P ∗ Fin0 c (.inr t) ∗ owesE c (Ow c m)) -∗ WP c (k ⟨⟩) Q)
        -∗ WP c (.op (.waitDma2 s src dst h₁ h₂) k) Q) := by
  unfold Wt
  iintro ⟨HR, ⟨HC, HP⟩, HO⟩ Hk
  iapply (wp_waitP I c t hs m hlv hN P hP) $$ [HR HC HP HO]
  · isplitl [HR]; · iexact HR
    isplitl [HC]; · iexact HC
    isplitl [HP] <;> iassumption
  iexact Hk

theorem wp_waitS {α : Type} (c : Dev nD) (t : Tr) {sp sp' : Space} {sh sh' : Shape} {e e' : EltTy} {src : Memref sig .tc sp sh e} {dst : Memref sig .tc sp' sh' e'}
    {s : DmaSem sig} (hs : s = sendSem t) {h₁ : src.view.WordExact} {h₂ : dst.view.WordExact} {k : PUnit → ℙ α} {Q : α → sProp 𝕄}
    (m : ℕ) (hN : dst.view.dmaCredit = amt t) (P : sProp 𝕄) (hP : sendPay I c t = P) :
    iprop(Recs I c ∗ Wt c (.inl t) ∗ owesE c (Ow c m))
      ⊢ iprop(((P ∗ Fin0 c (.inr (.inl t)) ∗ owesE c (Ow c m)) -∗ WP c (k ⟨⟩) Q)
        -∗ WP c (.op (.waitDma2 s src dst h₁ h₂) k) Q) :=
  wp_waitW I c (.inl t) (congrArg SemLoc.dma hs) m (lt_of_eq_of_lt (lv_send c t) (by omega)) hN P (Entails.of_eq hP)

theorem wp_waitR {α : Type} (c : Dev nD) (t : Tr) {sp sp' : Space} {sh sh' : Shape} {e e' : EltTy} {src : Memref sig .tc sp sh e} {dst : Memref sig .tc sp' sh' e'}
    {s : DmaSem sig} (hs : s = recvSem t) {h₁ : src.view.WordExact} {h₂ : dst.view.WordExact} {k : PUnit → ℙ α} {Q : α → sProp 𝕄}
    (m : ℕ) (hm : tm t < m) (hN : dst.view.dmaCredit = amt t) (P : sProp 𝕄) (hP : recvPay I c t = P) :
    iprop(Recs I c ∗ Wt c (.inr t) ∗ owesE c (Ow c m))
      ⊢ iprop(((P ∗ Fin0 c (.inr (.inr t)) ∗ owesE c (Ow c m)) -∗ WP c (k ⟨⟩) Q)
        -∗ WP c (.op (.waitDma2 s src dst h₁ h₂) k) Q) :=
  wp_waitW I c (.inr t) (congrArg SemLoc.dma hs) m (lt_of_eq_of_lt (lv_recv c t) (by omega)) hN P (Entails.of_eq hP)

theorem amt_oB' (c : Dev nD) (k : Fin 8) : (oB' c k).view.dmaCredit = amt (.inr (.inl k)) := rfl
theorem amt_oB (c : Dev nD) (k : Fin 8) : (oB c k).view.dmaCredit = amt (.inr (.inl k)) := rfl

def preKV (c : Dev nD) : sProp 𝕄 :=
  iprop((Wt c (.inl (.inl 0)) ∗ Wt c (.inl (.inl 1)) ∗ Wt c (.inl (.inl 2)))
    ∗ (Wt c (.inr (.inl 0)) ∗ Wt c (.inr (.inl 1)) ∗ Wt c (.inr (.inl 2)))
    ∗ (pts c wukM fullShare (I.wuk c) ∗ pts c wuvM fullShare (I.wuv c))
    ∗ (some' c kM ∗ some' c vM) ∗ (WI I c 0 ∗ WI I c 1) ∗ owesE c (Ow c 6))
def postKV (c : Dev nD) : sProp 𝕄 :=
  iprop((Fin0 c (.inr (.inl (.inl 0))) ∗ Fin0 c (.inr (.inl (.inl 1))) ∗ Fin0 c (.inr (.inl (.inl 2))))
    ∗ (Fin0 c (.inr (.inr (.inl 0))) ∗ Fin0 c (.inr (.inr (.inl 1))) ∗ Fin0 c (.inr (.inr (.inl 2))))
    ∗ (some' c clM ∗ some' c uklM ∗ some' c uvlM ∗ some' c crM ∗ some' c ukrM ∗ some' c uvrM)
    ∗ (pts c wukM fullShare (I.wuk c) ∗ pts c wuvM fullShare (I.wuv c))
    ∗ (pts c kM fullShare (KK I c) ∗ pts c vM fullShare (VV I c)) ∗ (WF I c 0 ∗ WF I c 1) ∗ owesE c (Ow c 6))

theorem wp_phaseKV (c : Dev nD) (Q : PUnit → sProp 𝕄) :
    iprop(Recs I c ∗ preKV I c ∗ (postKV I c -∗ Q ⟨⟩)) ⊢ WP c (phaseKV c) Q := by
  unfold phaseKV WP preKV WI
  simp only [loadR, copyC, waitC, Prog.lift, Prog.bind_op, Prog.bind_ret, Prog.pure_eq_ret]
  iintro ⟨#HR, ⟨⟨S0, S1, S2⟩, ⟨R0, R1, R2⟩, ⟨Huk, Huv⟩, ⟨HK, HV⟩, ⟨⟨Wh0, Ws0, Wd0⟩, Wh1, Ws1, Wd1⟩, HO⟩, Hk⟩
  iapply (wp_waitS I c (.inl 0) (dst := clM) rfl 6 rfl (pts c clM fullShare (CL I c)) rfl) $$ [S0 HO]
  · isplitr; · iexact HR
    isplitl [S0] <;> iassumption
  iintro ⟨L0, S0, HO⟩
  iapply (wp_waitR I c (.inl 0) (dst := crM) rfl 6 (by decide) rfl (pts c crM fullShare (CL I (zpD c))) rfl) $$ [R0 HO]
  · isplitr; · iexact HR
    isplitl [R0] <;> iassumption
  iintro ⟨M0, R0, HO⟩
  iapply (wp_waitS I c (.inl 1) (dst := uklM) rfl 6 rfl (pts c uklM fullShare (UKL I c)) rfl) $$ [S1 HO]
  · isplitr; · iexact HR
    isplitl [S1] <;> iassumption
  iintro ⟨L1, S1, HO⟩
  iapply (wp_waitR I c (.inl 1) (dst := ukrM) rfl 6 (by decide) rfl (pts c ukrM fullShare (UKL I (zpD c))) rfl) $$ [R1 HO]
  · isplitr; · iexact HR
    isplitl [R1] <;> iassumption
  iintro ⟨M1, R1, HO⟩
  iapply (wp_waitS I c (.inl 2) (dst := uvlM) rfl 6 rfl (pts c uvlM fullShare (UVL I c)) rfl) $$ [S2 HO]
  · isplitr; · iexact HR
    isplitl [S2] <;> iassumption
  iintro ⟨L2, S2, HO⟩
  iapply (wp_waitR I c (.inl 2) (dst := uvrM) rfl 6 (by decide) rfl (pts c uvrM fullShare (UVL I (zpD c))) rfl) $$ [R2 HO]
  · isplitr; · iexact HR
    isplitl [R2] <;> iassumption
  iintro ⟨M2, R2, HO⟩
  iapply (wp_ldv c (CL I c) (Memref.readAt_unit_zero (Elt F) cc0_scratch2 hz2 _ _)) $$ L0
  iintro L0
  iapply (wp_ldw c) $$ Huk
  iintro Huk
  iapply (wp_ldv c (CL I (zpD c)) (Memref.readAt_unit_zero (Elt F) cc0_scratch3 hz2 _ _)) $$ M0
  iintro M0
  iapply (wp_ldv c (UKL I (zpD c)) (Memref.readAt_unit_zero (Elt F) cc0_scratch5 hz2 _ _)) $$ M1
  iintro M1
  iapply (wp_lst c (KK I c) (fun f => Memref.write_access_unit_zero_univ (Elt F) cc0_scratch8 hz2 _ f _)) $$ HK
  iintro HK
  iapply (wp_ldv c (CL I c) (Memref.readAt_unit_zero (Elt F) cc0_scratch2 hz2 _ _)) $$ L0
  iintro L0
  iapply (wp_ldw c) $$ Huv
  iintro Huv
  iapply (wp_ldv c (CL I (zpD c)) (Memref.readAt_unit_zero (Elt F) cc0_scratch3 hz2 _ _)) $$ M0
  iintro M0
  iapply (wp_ldv c (UVL I (zpD c)) (Memref.readAt_unit_zero (Elt F) cc0_scratch7 hz2 _ _)) $$ M2
  iintro M2
  iapply (wp_lst c (VV I c) (fun f => Memref.write_access_unit_zero_univ (Elt F) cc0_scratch9 hz2 _ f _)) $$ HV
  iintro HV
  iapply (wp_fetch c (src := woB 0) (dst := swo 0) (s := woS 0) h_S4096x256) $$ [Wh0 Ws0 Wd0]
  · isplitl [Wh0]; · iexact Wh0
    isplitl [Wd0]; · iexact Wd0
    iexact Ws0
  iintro W0
  iapply (wp_fetch c (src := woB 1) (dst := swo 1) (s := woS 1) h_S4096x256) $$ [Wh1 Ws1 Wd1]
  · isplitl [Wh1]; · iexact Wh1
    isplitl [Wd1]; · iexact Wd1
    iexact Ws1
  iintro W1
  iapply (wp_done c)
  iapply Hk
  unfold postKV WF
  rw [dif_pos (show (0 : ℕ) < 16 by decide), dif_pos (show (1 : ℕ) < 16 by decide)]
  isplitl [S0 S1 S2]
  · isplitl [S0]; · iexact S0
    isplitl [S1] <;> iassumption
  isplitl [R0 R1 R2]
  · isplitl [R0]; · iexact R0
    isplitl [R1] <;> iassumption
  isplitl [L0 L1 L2 M0 M1 M2]
  · isplitl [L0]; · iapply (pts_some c clM); iexact L0
    isplitl [L1]; · iapply (pts_some c uklM); iexact L1
    isplitl [L2]; · iapply (pts_some c uvlM); iexact L2
    isplitl [M0]; · iapply (pts_some c crM); iexact M0
    isplitl [M1]; · iapply (pts_some c ukrM); iexact M1
    iapply (pts_some c uvrM); iexact M2
  isplitl [Huk Huv]
  · isplitl [Huk] <;> iassumption
  isplitl [HK HV]
  · isplitl [HK] <;> iassumption
  isplitl [W0 W1]
  · isplitl [W0]; · iexact W0
    iexact W1
  iexact HO

/-! ## The heads -/

abbrev trO (k : Fin 8) : Tr := .inr (.inl k)

def TA (c : Dev nD) (k : Fin 8) : sProp 𝕄 := iprop(some' c (oB c k) ∗ some' (zpD c) (oB c k) ∗ Snd c (trO k))
def DA (c : Dev nD) (k : Fin 8) : sProp 𝕄 := iprop(pts c (oB c k) fullShare.right (OA I c) ∗ Crd c (.inr (.inl (trO k))))
def statA (c : Dev nD) : sProp 𝕄 :=
  iprop(pts c qM fullShare (QA I c) ∗ pts c qrM fullShare (QRA I c) ∗ pts c kM fullShare (KK I c) ∗ pts c vM fullShare (VV I c))
def invA (c : Dev nD) (m : ℕ) : sProp 𝕄 := iprop(statA I c ∗ fam (TA c) (DA I c) m ∗ owesE c (Ow c (6 + m)))

theorem set_rOb (c : Dev nD) (k : Fin 8) : (oB c k).view.set = (oM.access (rOb c k)).set := by
  rw [set_oB, show (oM.access (rOb c k)).set = _ from View.set_slice_whole _ _]
  ext i
  rw [Rect.mem_set_unit, Rect.mem_set_unit, off6_eq, off7_eq]
  exact Iff.rfl

theorem wp_stO {α : Type} (c : Dev nD) (k : Fin 8) {hl : oM.view.LoadsAt (rOb c k).toLoadRect}
    {w : Vec F S256x256 .bf16} {hx : (oM.access (rOb c k)).Stores Finset.univ} {hm : (Finset.univ : Finset (rOb c k).shape.Idx) = Finset.univ ∨ ∀ a, (rOb c k).stride a = 1}
    {kk : PUnit → ℙ α} {Q : α → sProp 𝕄} (hw : w = OBk I c k) :
    (some' c (oB c k) : sProp 𝕄)
      ⊢ iprop((pts c (oB c k) fullShare (OA I c) -∗ WP c (kk ⟨⟩) Q)
        -∗ WP c (.op (.load oM (rOb c k).toLoadRect hl) fun _ => .op (.store oM (rOb c k) w Finset.univ hx hm) kk) Q) := by
  unfold some'
  exact wp_lstS c (m := oM) (oB c k).view.set (OA I c) (set_rOb c k) (hw.trans (OA_read I c k))

theorem opay_land (c : Dev nD) (k : Fin 8) (fd : Buf (Elt F) ((oB c k).view.loc (zpD c : Thread nD τ))) :
    (pts (zpD c) (oB c k) fullShare ((oB c k).view.write (Elt F) fd ((oB c k).view.read (Elt F) (OA I c)) Finset.univ) : sProp 𝕄) ⊢ recvPay I (zpD c) (trO k) := by
  show _ ⊢ pts (zpD c) (oB (zpD (zpD c)) k) fullShare (OA I (zpD c))
  rw [zz, OA_zp]
  exact landed (zpD c) (oB c k) fd (OA I c)

theorem wp_stepA (c : Dev nD) (k : Fin 8) (Q : PUnit → sProp 𝕄) :
    iprop((Recs I c ∗ invA I c k.val) ∗ (iprop(Recs I c ∗ invA I c (k.val + 1)) -∗ Q ⟨⟩)) ⊢ WP c (stepA c (KR I c) k) Q := by
  unfold stepA WP invA statA
  simp only [loadR, sendC, Prog.lift, Prog.bind_op, Prog.bind_ret, Prog.pure_eq_ret]
  iintro ⟨⟨#HR, ⟨HQ, Hqr, HK, HV⟩, HF, HO⟩, Hk⟩
  ihave HF' := (fam_take (TA c) (DA I c) k) $$ HF
  icases HF' with ⟨HT, HF⟩
  unfold TA
  icases HT with ⟨Ho, Hn, HS⟩
  iapply (wp_ldw c) $$ Hqr
  iintro Hqr
  iapply (wp_ldw c) $$ HQ
  iintro HQ
  iapply (wp_ldw c) $$ HK
  iintro HK
  iapply (wp_ldw c) $$ HV
  iintro HV
  iapply (wp_ldw c) $$ HQ
  iintro HQ
  iapply (wp_ldw c) $$ HK
  iintro HK
  iapply (wp_ldw c) $$ HV
  iintro HV
  iapply (wp_stO I c k rfl) $$ Ho
  iintro Ho
  ihave Ho' := (halves c (oB c k) (OA I c)).1 $$ Ho
  icases Ho' with ⟨HoL, HoR⟩
  iapply (wp_sendT I c (trO k) (src := oB c k) (dst := oB c k) (q := fullShare.left) (fs := OA I c) rfl rfl rfl (6 + k.val) rfl (amt_oB c k) (Entails.refl _) (opay_land I c k)) $$ [HS HoL Hn HO]
  · isplitr; · iexact HR
    isplitl [HS]; · iexact HS
    isplitl [HoL]; · iexact HoL
    isplitl [Hn]; · iexact Hn
    iexact HO
  iintro ⟨HC, HO⟩
  iapply (wp_done c)
  iapply Hk
  isplitr; · iexact HR
  isplitl [HQ Hqr HK HV]
  · isplitl [HQ]; · iexact HQ
    isplitl [Hqr]; · iexact Hqr
    isplitl [HK] <;> iassumption
  isplitl [HF HoR HC]
  · iapply HF
    unfold DA
    isplitl [HoR] <;> iassumption
  iexact HO

/-! ## The partner's heads -/

def TO (c : Dev nD) (k : Fin 8) : sProp 𝕄 := Wt c (.inr (trO k))
def DO (c : Dev nD) (k : Fin 8) : sProp 𝕄 := iprop(pts c (oB (zpD c) k) fullShare (OA I c) ∗ Fin0 c (.inr (.inr (trO k))))
def invO (c : Dev nD) (m : ℕ) : sProp 𝕄 := iprop(fam (TO c) (DO I c) m ∗ owesE c (Ow c 14))

theorem wp_waitO (c : Dev nD) (k : Fin 8) (Q : PUnit → sProp 𝕄) :
    iprop((Recs I c ∗ invO I c k.val) ∗ (iprop(Recs I c ∗ invO I c (k.val + 1)) -∗ Q ⟨⟩)) ⊢ WP c (waitO c k) Q := by
  unfold waitO WP invO
  simp only [waitC, Prog.lift, Prog.bind_op, Prog.bind_ret, Prog.pure_eq_ret]
  iintro ⟨⟨#HR, HF, HO⟩, Hk⟩
  ihave HF' := (fam_take (TO c) (DO I c) k) $$ HF
  icases HF' with ⟨HT, HF⟩
  unfold TO
  iapply (wp_waitR I c (trO k) (dst := oB' c k) rfl 14 (by show 6 + k.val < 14; omega) (amt_oB' c k) (pts c (oB (zpD c) k) fullShare (OA I c)) rfl) $$ [HT HO]
  · isplitr; · iexact HR
    isplitl [HT] <;> iassumption
  iintro ⟨HP, HZ, HO⟩
  iapply (wp_done c)
  iapply Hk
  isplitr; · iexact HR
  isplitl [HF HP HZ]
  · iapply HF
    unfold DO
    isplitl [HP] <;> iassumption
  iexact HO

end Ph

end Cert.K

end
-- ==== Proof.PhaseW.lean ====
/-
The last projection stripe by stripe, each stripe sent to both neighbours and half of each received stripe sent on; the waits at the end.
-/
module

public import proofs.«01_k».proof.Proof.PhaseA

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ
local notation "ℙ" => Prog (TpuEff nD τ sig (Elt F) Λ₀ Proc.tc)

section Ph
variable (I : Inp F)

abbrev tg (i : Fin 4) (j : Fin 16) : Tr := .inr (.inr (i, j))

theorem amt_g (c : Dev nD) (j : Fin 16) : (outO c j).view.dmaCredit = amt (tg 0 j) := rfl
theorem amt_g1 (c : Dev nD) (j : Fin 16) : (outO c j).view.dmaCredit = amt (tg 1 j) := rfl
theorem amt_g2 (c : Dev nD) (j : Fin 16) : (outX c j).view.dmaCredit = amt (tg 2 j) := rfl
theorem amt_g3 (c : Dev nD) (j : Fin 16) : (outY c j).view.dmaCredit = amt (tg 3 j) := rfl

theorem gpay0 (c : Dev nD) (j : Fin 16) (fd : Buf (Elt F) ((outO c j).view.loc (xnD c : Thread nD τ))) :
    (pts (xnD c) (outO c j) fullShare ((outO c j).view.write (Elt F) fd ((outO c j).view.read (Elt F) (OUT I c)) Finset.univ) : sProp 𝕄) ⊢ recvPay I (xnD c) (tg 0 j) := by
  show _ ⊢ pts (xnD c) (outO (xnD (xnD c)) j) fullShare (OUT I (xnD c))
  rw [xx, OUT_xn]
  exact landed (xnD c) (outO c j) fd (OUT I c)
theorem gpay1 (c : Dev nD) (j : Fin 16) (fd : Buf (Elt F) ((outO c j).view.loc (ynD c : Thread nD τ))) :
    (pts (ynD c) (outO c j) fullShare ((outO c j).view.write (Elt F) fd ((outO c j).view.read (Elt F) (OUT I c)) Finset.univ) : sProp 𝕄) ⊢ recvPay I (ynD c) (tg 1 j) := by
  show _ ⊢ pts (ynD c) (outO (ynD (ynD c)) j) fullShare (OUT I (ynD c))
  rw [yy, OUT_yn]
  exact landed (ynD c) (outO c j) fd (OUT I c)
theorem gpay2 (c : Dev nD) (j : Fin 16) (fd : Buf (Elt F) ((outX c j).view.loc (ynD c : Thread nD τ))) :
    (pts (ynD c) (outX c j) fullShare ((outX c j).view.write (Elt F) fd ((outX c j).view.read (Elt F) (OUT I c)) Finset.univ) : sProp 𝕄) ⊢ recvPay I (ynD c) (tg 2 j) := by
  show _ ⊢ pts (ynD c) (outX (ynD (ynD c)) j) fullShare (OUT I (ynD c))
  rw [yy, OUT_yn]
  exact landed (ynD c) (outX c j) fd (OUT I c)
theorem gpay3 (c : Dev nD) (j : Fin 16) (fd : Buf (Elt F) ((outY c j).view.loc (xnD c : Thread nD τ))) :
    (pts (xnD c) (outY c j) fullShare ((outY c j).view.write (Elt F) fd ((outY c j).view.read (Elt F) (OUT I c)) Finset.univ) : sProp 𝕄) ⊢ recvPay I (xnD c) (tg 3 j) := by
  show _ ⊢ pts (xnD c) (outY (xnD (xnD c)) j) fullShare (OUT I (xnD c))
  rw [xx, OUT_xn]
  exact landed (xnD c) (outY c j) fd (OUT I c)

theorem xn_half : ∀ c : Dev nD, (xnD c).val / 2 = (c.val / 2 + 2) % 4 := by decide +kernel
theorem yn_half : ∀ c : Dev nD, (ynD c).val / 2 = c.val / 2 + 1 - 2 * (c.val / 2 % 2) := by decide +kernel

theorem outX_sub (c : Dev nD) (j : Fin 16) : (outX c j).view.set ⊆ (outO (xnD c) j).view.set := by
  intro i hi
  have h := (mem_outX c j i).1 hi
  exact (mem_outO (xnD c) j i).2 ⟨h.1.trans (xn_half c).symm, h.2.2⟩
theorem outY_sub (c : Dev nD) (j : Fin 16) : (outY c j).view.set ⊆ (outO (ynD c) j).view.set := by
  intro i hi
  have h := (mem_outY c j i).1 hi
  exact (mem_outO (ynD c) j i).2 ⟨h.1.trans (yn_half c).symm, h.2.2⟩

/-- The parts of the neighbours' stripes that are not sent on. -/
def restX (c : Dev nD) (j : Fin 16) : sProp 𝕄 :=
  (outM.view.loc (c : Thread nD τ) ↦[(outO (xnD c) j).view.set \ (outX c j).view.set]{fullShare} (OUT I c))
def restY (c : Dev nD) (j : Fin 16) : sProp 𝕄 :=
  (outM.view.loc (c : Thread nD τ) ↦[(outO (ynD c) j).view.set \ (outY c j).view.set]{fullShare} (OUT I c))

theorem splitX (c : Dev nD) (j : Fin 16) : (pts c (outO (xnD c) j) fullShare (OUT I c) : sProp 𝕄) ⊣⊢ iprop(pts c (outX c j) fullShare (OUT I c) ∗ restX I c j) :=
  pointsTo_split_subset (ℓ := outM.view.loc (c : Thread nD τ)) (q := fullShare) (f := OUT I c) (outX_sub c j)
theorem splitY (c : Dev nD) (j : Fin 16) : (pts c (outO (ynD c) j) fullShare (OUT I c) : sProp 𝕄) ⊣⊢ iprop(pts c (outY c j) fullShare (OUT I c) ∗ restY I c j) :=
  pointsTo_split_subset (ℓ := outM.view.loc (c : Thread nD τ)) (q := fullShare) (f := OUT I c) (outY_sub c j)

/-! ## A stripe passed on -/

def T2 (c : Dev nD) (j : Fin 16) : sProp 𝕄 :=
  iprop(Wt c (.inr (tg 0 j)) ∗ Wt c (.inr (tg 1 j)) ∗ some' (ynD c) (outX c j) ∗ some' (xnD c) (outY c j) ∗ Snd c (tg 2 j) ∗ Snd c (tg 3 j))
def D2 (c : Dev nD) (j : Fin 16) : sProp 𝕄 :=
  iprop((Fin0 c (.inr (.inr (tg 0 j))) ∗ Fin0 c (.inr (.inr (tg 1 j)))) ∗ (Crd c (.inr (.inl (tg 2 j))) ∗ Crd c (.inr (.inl (tg 3 j)))) ∗ restX I c j ∗ restY I c j)

theorem wp_fwd {α : Type} (c : Dev nD) (j : Fin 16) (p : PUnit → ℙ α) (Q : α → sProp 𝕄) :
    iprop(Recs I c ∗ T2 c j ∗ owesE c (Ow c (24 + 4 * j.val)))
      ⊢ iprop(((D2 I c j ∗ owesE c (Ow c (26 + 4 * j.val))) -∗ WP c (p ⟨⟩) Q) -∗ WP c (fwd c j >>= p) Q) := by
  unfold fwd T2
  simp only [waitC, sendC, Prog.lift, Prog.bind_op, Prog.bind_ret, Prog.pure_eq_ret]
  iintro ⟨#HR, ⟨R0, R1, NX, NY, SX, SY⟩, HO⟩ Hk
  iapply (wp_waitR I c (tg 0 j) (dst := outO c j) rfl (24 + 4 * j.val) (by show 14 + 4 * j.val < _; omega) (amt_g c j) (pts c (outO (xnD c) j) fullShare (OUT I c)) rfl) $$ [R0 HO]
  · isplitr; · iexact HR
    isplitl [R0] <;> iassumption
  iintro ⟨P0, F0, HO⟩
  iapply (wp_waitR I c (tg 1 j) (dst := outO c j) rfl (24 + 4 * j.val) (by show 15 + 4 * j.val < _; omega) (amt_g1 c j) (pts c (outO (ynD c) j) fullShare (OUT I c)) rfl) $$ [R1 HO]
  · isplitr; · iexact HR
    isplitl [R1] <;> iassumption
  iintro ⟨P1, F1, HO⟩
  ihave P0 := (splitX I c j).1 $$ P0
  icases P0 with ⟨PX, RX⟩
  ihave P1 := (splitY I c j).1 $$ P1
  icases P1 with ⟨PY, RY⟩
  iapply (wp_sendT I c (tg 2 j) (src := outX c j) (dst := outX c j) (q := fullShare) (fs := OUT I c) rfl rfl rfl (24 + 4 * j.val) rfl (amt_g2 c j) (Entails.refl _) (gpay2 I c j)) $$ [SX PX NX HO]
  · isplitr; · iexact HR
    isplitl [SX]; · iexact SX
    isplitl [PX]; · iexact PX
    isplitl [NX]; · iexact NX
    iexact HO
  iintro ⟨CX, HO⟩
  iapply (wp_sendT I c (tg 3 j) (src := outY c j) (dst := outY c j) (q := fullShare) (fs := OUT I c) rfl rfl rfl (24 + 4 * j.val + 1) (by show 25 + 4 * j.val = _; omega) (amt_g3 c j) (Entails.refl _) (gpay3 I c j)) $$ [SY PY NY HO]
  · isplitr; · iexact HR
    isplitl [SY]; · iexact SY
    isplitl [PY]; · iexact PY
    isplitl [NY]; · iexact NY
    iexact HO
  iintro ⟨CY, HO⟩
  rw [show 24 + 4 * j.val + 1 + 1 = 26 + 4 * j.val by omega]
  iapply Hk
  unfold D2
  isplitr [HO]
  · isplitl [F0 F1]
    · isplitl [F0] <;> iassumption
    isplitl [CX CY]
    · isplitl [CX] <;> iassumption
    isplitl [RX] <;> iassumption
  iexact HO

/-- Nothing is sent between the first stripes and the first passed on. -/
theorem gap_W (c : Dev nD) (j : Fin 16) (h : ¬ 2 ≤ j.val) : Ow c (16 + 4 * j.val) = Ow c (18 + 4 * j.val) :=
  Ow_gap c _ _ fun t => by revert j t; decide +kernel
theorem gap_78 (c : Dev nD) : Ow c 78 = Ow c 80 := Ow_gap c _ _ fun t => by revert t; decide +kernel
theorem gap_82 (c : Dev nD) : Ow c 82 = Ow c 84 := Ow_gap c _ _ fun t => by revert t; decide +kernel

theorem wp_passW (c : Dev nD) (j : Fin 16) (Q : PUnit → sProp 𝕄) :
    iprop(Recs I c ∗ fam (T2 c) (D2 I c) (j.val - 2) ∗ owesE c (Ow c (16 + 4 * j.val)) ∗ ((fam (T2 c) (D2 I c) (j.val + 1 - 2) ∗ owesE c (Ow c (18 + 4 * j.val))) -∗ Q ⟨⟩))
      ⊢ WP c (passW c j) Q := by
  unfold passW
  by_cases h : 2 ≤ j.val
  · rw [dif_pos h, show 18 + 4 * j.val = 26 + 4 * (j.val - 2) by omega, show 16 + 4 * j.val = 24 + 4 * (j.val - 2) by omega, show j.val + 1 - 2 = j.val - 2 + 1 by omega]
    iintro ⟨#HR, HF, HO, Hk⟩
    ihave HF' := (fam_take (T2 c) (D2 I c) ⟨j.val - 2, by omega⟩) $$ HF
    icases HF' with ⟨HT, HF⟩
    have hw := wp_fwd I c ⟨j.val - 2, by omega⟩ (fun _ => .ret ⟨⟩) Q
    rw [show (fwd c ⟨j.val - 2, by omega⟩ >>= fun _ => (Prog.ret ⟨⟩ : ℙ PUnit)) = fwd c ⟨j.val - 2, by omega⟩ from Prog.bind_pure _] at hw
    iapply hw $$ [HT HO]
    · isplitr; · iexact HR
      isplitl [HT]; · iexact HT
      iexact HO
    iintro ⟨HD, HO⟩
    iapply (wp_done c)
    iapply Hk
    isplitl [HF HD]
    · iapply HF; iexact HD
    iexact HO
  · rw [dif_neg h, gap_W c j h, show j.val + 1 - 2 = j.val - 2 by omega]
    iintro ⟨#HR, HF, HO, Hk⟩
    simp only [Prog.pure_eq_ret]
    iapply (wp_done c)
    iapply Hk
    isplitl [HF] <;> iassumption

/-! ## A stripe -/

def T1 (c : Dev nD) (j : Fin 16) : sProp 𝕄 :=
  iprop(some' c (outO c j) ∗ some' (xnD c) (outO c j) ∗ some' (ynD c) (outO c j) ∗ Snd c (tg 0 j) ∗ Snd c (tg 1 j))
def D1 (c : Dev nD) (j : Fin 16) : sProp 𝕄 := iprop(Crd c (.inr (.inl (tg 0 j))) ∗ Crd c (.inr (.inl (tg 1 j))))

def oR' (c : Dev nD) : sProp 𝕄 := pts c oM fullShare.right (OA I c)

theorem wp_stOut {α : Type} (c : Dev nD) (j : Fin 16) {hl : outM.view.LoadsAt (rOut c j).toLoadRect}
    {w : Vec F S1x256x256 .bf16} {hx : (outM.access (rOut c j)).Stores Finset.univ} {hm : (Finset.univ : Finset (rOut c j).shape.Idx) = Finset.univ ∨ ∀ a, (rOut c j).stride a = 1}
    {kk : PUnit → ℙ α} {Q : α → sProp 𝕄} (hw : w = payW (OA I c) (WOB I c j)) :
    (some' c (outO c j) : sProp 𝕄)
      ⊢ iprop((pts c (outO c j) fullShare (OUT I c) -∗ WP c (kk ⟨⟩) Q)
        -∗ WP c (.op (.load outM (rOut c j).toLoadRect hl) fun _ => .op (.store outM (rOut c j) w Finset.univ hx hm) kk) Q) := by
  unfold some'
  exact wp_lstS c (m := outM) (outO c j).view.set (OUT I c) ((View.set_reshape _ _).trans rfl) (hw.trans (OUT_read I c j))

theorem wp_ldvq {α : Type} (c : Dev nD) {s : Shape} {e : EltTy} {m : Memref sig .tc .vmem s e} {r : LoadRect s} {hl : m.view.LoadsAt r}
    {k : (r.shape.Idx → Elt F e) → ℙ α} {Q : α → sProp 𝕄} {q : PosShare TreeShare} {f : Buf (Elt F) (m.view.loc (c : Thread nD τ))}
    (v : r.shape.Idx → Elt F e) (hv : m.view.readAt (Elt F) r f = v) :
    (pts c m q f : sProp 𝕄) ⊢ iprop((pts c m q f -∗ WP c (k v) Q) -∗ WP c (.op (.load m r hl) k) Q) := by
  subst hv; exact wp_ldw c

theorem wp_startW {α : Type} (c : Dev nD) (j : Fin 16) (p : PUnit → ℙ α) (Q : α → sProp 𝕄) :
    WI I c j.val ⊢ iprop((WF I c (j.val + 2) -∗ WP c (p ⟨⟩) Q) -∗ WP c (startW j >>= p) Q) := by
  unfold startW WF
  by_cases h : j.val + 2 < 16
  · rw [dif_pos h, dif_pos h, sl_two, wsh_two]
    unfold WI
    simp only [copyC, Prog.lift, Prog.bind_op, Prog.bind_ret, Prog.pure_eq_ret]
    iintro ⟨Hh, Hs, Hd⟩ Hk
    iapply (wp_fetch c (src := woB ⟨j.val + 2, h⟩) (dst := swo (sl j.val)) (s := woS (sl j.val)) h_S4096x256) $$ [Hh Hs Hd]
    · isplitl [Hh]; · iexact Hh
      isplitl [Hd]; · iexact Hd
      iexact Hs
    iintro Hf
    iapply Hk
    iexact Hf
  · rw [dif_neg h, dif_neg h, WI_two]
    simp only [Prog.bind_ret, Prog.pure_eq_ret]
    iintro H Hk
    iapply Hk
    iexact H

def invW (c : Dev nD) (m : ℕ) : sProp 𝕄 :=
  iprop((WF I c m ∗ WF I c (m + 1)) ∗ oR' I c ∗ fam (T1 c) (D1 c) m ∗ fam (T2 c) (D2 I c) (m - 2) ∗ owesE c (Ow c (14 + 4 * m)))

theorem wp_stepW (c : Dev nD) (j : Fin 16) (Q : PUnit → sProp 𝕄) :
    iprop((Recs I c ∗ invW I c j.val) ∗ (iprop(Recs I c ∗ invW I c (j.val + 1)) -∗ Q ⟨⟩)) ⊢ WP c (stepW c j) Q := by
  unfold stepW invW oR'
  rw [WF, dif_pos j.isLt]
  simp only [loadR, waitC, sendC, Prog.lift, Prog.bind_op, Prog.bind_ret, Prog.pure_eq_ret]
  iintro ⟨⟨#HR, ⟨Fw, Fn⟩, HOa, HF, HG, HO⟩, Hk⟩
  ihave #Hl := (lev_of I c) $$ HR
  iapply (wp_fetched c (src := woB j) (mayWait_Ow c (.dma (woS (sl j.val))) (14 + 4 * j.val) (lt_of_eq_of_lt (lv_local c (.inr (2, sl j.val))) (by omega)))) $$ [Fw HO]
  · isplitr; · iexact Hl
    isplitl [Fw]; · iexact Fw
    iexact HO
  iintro ⟨Hw, ⟨%fw, Ww⟩, Sw, HO⟩
  iapply (wp_ldvq c (OA I c) (Memref.readAt_unit_zero (Elt F) cc0_scratch13 hz2 _ _)) $$ HOa
  iintro HOa
  iapply (wp_ld_swo c (sl j.val) fw _) $$ Ww
  iintro Ww
  iapply (wp_startW I c j) $$ [Hw Sw Ww]
  · unfold WI
    isplitl [Hw]; · iexact Hw
    isplitl [Sw]; · iexact Sw
    iapply (pts_some c (swo (sl j.val))); iexact Ww
  iintro Fw
  ihave HF' := (fam_take (T1 c) (D1 c) j) $$ HF
  icases HF' with ⟨HT, HF⟩
  unfold T1
  icases HT with ⟨Ho, NX, NY, S0, S1⟩
  iapply (wp_stOut I c j rfl) $$ Ho
  iintro Ho
  ihave Ho' := (halves c (outO c j) (OUT I c)).1 $$ Ho
  icases Ho' with ⟨HoL, HoR⟩
  iapply (wp_sendT I c (tg 0 j) (src := outO c j) (dst := outO c j) (q := fullShare.left) (fs := OUT I c) rfl rfl rfl (14 + 4 * j.val) rfl (amt_g c j) (Entails.refl _) (gpay0 I c j)) $$ [S0 HoL NX HO]
  · isplitr; · iexact HR
    isplitl [S0]; · iexact S0
    isplitl [HoL]; · iexact HoL
    isplitl [NX]; · iexact NX
    iexact HO
  iintro ⟨C0, HO⟩
  iapply (wp_sendT I c (tg 1 j) (src := outO c j) (dst := outO c j) (q := fullShare.right) (fs := OUT I c) rfl rfl rfl (14 + 4 * j.val + 1) (by show 15 + 4 * j.val = _; omega) (amt_g1 c j) (Entails.refl _) (gpay1 I c j)) $$ [S1 HoR NY HO]
  · isplitr; · iexact HR
    isplitl [S1]; · iexact S1
    isplitl [HoR]; · iexact HoR
    isplitl [NY]; · iexact NY
    iexact HO
  iintro ⟨C1, HO⟩
  iapply (wp_passW I c j)
  isplitr; · iexact HR
  isplitl [HG]; · iexact HG
  rw [show 14 + 4 * j.val + 1 + 1 = 16 + 4 * j.val by omega, show 14 + 4 * (j.val + 1) = 18 + 4 * j.val by omega]
  isplitl [HO]; · iexact HO
  iintro ⟨HG, HO⟩
  iapply Hk
  isplitr; · iexact HR
  isplitl [Fn Fw]
  · isplitl [Fn]; · iexact Fn
    iexact Fw
  isplitl [HOa]; · iexact HOa
  isplitl [HF C0 C1]
  · iapply HF
    unfold D1
    isplitl [C0] <;> iassumption
  isplitl [HG]; · iexact HG
  iexact HO

/-! ## The last waits -/

def TR (c : Dev nD) (j : Fin 16) : sProp 𝕄 := iprop(Wt c (.inr (tg 2 j)) ∗ Wt c (.inr (tg 3 j)))
def DR (c : Dev nD) (j : Fin 16) : sProp 𝕄 :=
  iprop((pts c (outX (ynD c) j) fullShare (OUT I c) ∗ pts c (outY (xnD c) j) fullShare (OUT I c)) ∗ Fin0 c (.inr (.inr (tg 2 j))) ∗ Fin0 c (.inr (.inr (tg 3 j))))
def invR (c : Dev nD) (m : ℕ) : sProp 𝕄 := iprop(fam (TR c) (DR I c) m ∗ owesE c (Ow c 86))

theorem wp_drainR (c : Dev nD) (j : Fin 16) (Q : PUnit → sProp 𝕄) :
    iprop((Recs I c ∗ invR I c j.val) ∗ (iprop(Recs I c ∗ invR I c (j.val + 1)) -∗ Q ⟨⟩)) ⊢ WP c (drainR c j) Q := by
  unfold drainR WP invR
  simp only [waitC, Prog.lift, Prog.bind_op, Prog.bind_ret, Prog.pure_eq_ret]
  iintro ⟨⟨#HR, HF, HO⟩, Hk⟩
  ihave HF' := (fam_take (TR c) (DR I c) j) $$ HF
  icases HF' with ⟨HT, HF⟩
  unfold TR
  icases HT with ⟨W2, W3⟩
  iapply (wp_waitR I c (tg 2 j) (dst := outX c j) rfl 86 (tm_lt _) (amt_g2 c j) (pts c (outX (ynD c) j) fullShare (OUT I c)) rfl) $$ [W2 HO]
  · isplitr; · iexact HR
    isplitl [W2] <;> iassumption
  iintro ⟨P2, F2, HO⟩
  iapply (wp_waitR I c (tg 3 j) (dst := outY c j) rfl 86 (tm_lt _) (amt_g3 c j) (pts c (outY (xnD c) j) fullShare (OUT I c)) rfl) $$ [W3 HO]
  · isplitr; · iexact HR
    isplitl [W3] <;> iassumption
  iintro ⟨P3, F3, HO⟩
  iapply (wp_done c)
  iapply Hk
  isplitr; · iexact HR
  isplitr [HO]
  · iapply HF
    unfold DR
    isplitl [P2 P3]
    · isplitl [P2] <;> iassumption
    isplitl [F2] <;> iassumption
  iexact HO

def TS (c : Dev nD) (j : Fin 16) : sProp 𝕄 := iprop(Wt c (.inl (tg 0 j)) ∗ Wt c (.inl (tg 1 j)) ∗ Wt c (.inl (tg 2 j)) ∗ Wt c (.inl (tg 3 j)))
def DS (c : Dev nD) (j : Fin 16) : sProp 𝕄 :=
  iprop((pts c (outO c j) fullShare (OUT I c) ∗ pts c (outX c j) fullShare (OUT I c) ∗ pts c (outY c j) fullShare (OUT I c))
    ∗ Fin0 c (.inr (.inl (tg 0 j))) ∗ Fin0 c (.inr (.inl (tg 1 j))) ∗ Fin0 c (.inr (.inl (tg 2 j))) ∗ Fin0 c (.inr (.inl (tg 3 j))))
def invS (c : Dev nD) (m : ℕ) : sProp 𝕄 := iprop(fam (TS c) (DS I c) m ∗ owesE c (Ow c 86))

theorem wp_drainS (c : Dev nD) (j : Fin 16) (Q : PUnit → sProp 𝕄) :
    iprop((Recs I c ∗ invS I c j.val) ∗ (iprop(Recs I c ∗ invS I c (j.val + 1)) -∗ Q ⟨⟩)) ⊢ WP c (drainS c j) Q := by
  unfold drainS WP invS
  simp only [waitC, Prog.lift, Prog.bind_op, Prog.bind_ret, Prog.pure_eq_ret]
  iintro ⟨⟨#HR, HF, HO⟩, Hk⟩
  ihave HF' := (fam_take (TS c) (DS I c) j) $$ HF
  icases HF' with ⟨HT, HF⟩
  unfold TS
  icases HT with ⟨W0, W1, W2, W3⟩
  iapply (wp_waitS I c (tg 0 j) (dst := outO c j) rfl 86 (amt_g c j) (pts c (outO c j) fullShare.left (OUT I c)) rfl) $$ [W0 HO]
  · isplitr; · iexact HR
    isplitl [W0] <;> iassumption
  iintro ⟨P0, F0, HO⟩
  iapply (wp_waitS I c (tg 1 j) (dst := outO c j) rfl 86 (amt_g1 c j) (pts c (outO c j) fullShare.right (OUT I c)) rfl) $$ [W1 HO]
  · isplitr; · iexact HR
    isplitl [W1] <;> iassumption
  iintro ⟨P1, F1, HO⟩
  iapply (wp_waitS I c (tg 2 j) (dst := outX c j) rfl 86 (amt_g2 c j) (pts c (outX c j) fullShare (OUT I c)) rfl) $$ [W2 HO]
  · isplitr; · iexact HR
    isplitl [W2] <;> iassumption
  iintro ⟨P2, F2, HO⟩
  iapply (wp_waitS I c (tg 3 j) (dst := outY c j) rfl 86 (amt_g3 c j) (pts c (outY c j) fullShare (OUT I c)) rfl) $$ [W3 HO]
  · isplitr; · iexact HR
    isplitl [W3] <;> iassumption
  iintro ⟨P3, F3, HO⟩
  iapply (wp_done c)
  iapply Hk
  isplitr; · iexact HR
  isplitr [HO]
  · iapply HF
    unfold DS
    isplitl [P0 P1 P2 P3]
    · isplitl [P0 P1]
      · iapply (halves c (outO c j) (OUT I c)).2
        isplitl [P0] <;> iassumption
      isplitl [P2] <;> iassumption
    isplitl [F0]; · iexact F0
    isplitl [F1]; · iexact F1
    isplitl [F2] <;> iassumption
  iexact HO

def TD (c : Dev nD) (k : Fin 8) : sProp 𝕄 := Wt c (.inl (trO k))
def DD (c : Dev nD) (k : Fin 8) : sProp 𝕄 := iprop(pts c (oB c k) fullShare.left (OA I c) ∗ Fin0 c (.inr (.inl (trO k))))
def invD (c : Dev nD) (m : ℕ) : sProp 𝕄 := iprop(fam (TD c) (DD I c) m ∗ owesE c (Ow c 86))

theorem wp_drainO (c : Dev nD) (k : Fin 8) (Q : PUnit → sProp 𝕄) :
    iprop((Recs I c ∗ invD I c k.val) ∗ (iprop(Recs I c ∗ invD I c (k.val + 1)) -∗ Q ⟨⟩)) ⊢ WP c (drainO c k) Q := by
  unfold drainO WP invD
  simp only [waitC, Prog.lift, Prog.bind_op, Prog.bind_ret, Prog.pure_eq_ret]
  iintro ⟨⟨#HR, HF, HO⟩, Hk⟩
  ihave HF' := (fam_take (TD c) (DD I c) k) $$ HF
  icases HF' with ⟨HT, HF⟩
  unfold TD
  iapply (wp_waitS I c (trO k) (dst := oB c k) rfl 86 (amt_oB c k) (pts c (oB c k) fullShare.left (OA I c)) rfl) $$ [HT HO]
  · isplitr; · iexact HR
    isplitl [HT] <;> iassumption
  iintro ⟨HP, HZ, HO⟩
  iapply (wp_done c)
  iapply Hk
  isplitr; · iexact HR
  isplitl [HF HP HZ]
  · iapply HF
    unfold DD
    isplitl [HP] <;> iassumption
  iexact HO

end Ph

end Cert.K

end
-- ==== Proof.Parts.lean ====
/-
Buffers held whole as the parts they are used in.
-/
module

public import proofs.«01_k».proof.Proof.PhaseW

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ
local notation "ℙ" => Prog (TpuEff nD τ sig (Elt F) Λ₀ Proc.tc)

section Ph

theorem bigSep_two (Φ : Fin 2 → sProp 𝕄) : bigSep Finset.univ Φ = iprop(Φ 0 ∗ Φ 1) := bigSep_univ_eq_bigSepL [0, 1] (by decide) (by decide) Φ
theorem bigSep_three (Φ : Fin 3 → sProp 𝕄) : bigSep Finset.univ Φ = iprop(Φ 0 ∗ Φ 1 ∗ Φ 2) := bigSep_univ_eq_bigSepL [0, 1, 2] (by decide) (by decide) Φ
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_five (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

/-! ## Two slots -/

theorem two_slots {ℓ : Loc nD τ sig} {A B : Finset (Idx ℓ)} (hd : Disjoint A B) (hu : A ∪ B = Finset.univ) :
    (iprop(∃ f : Buf (Elt F) ℓ, (ℓ ↦[Finset.univ]{fullShare} f)) : sProp 𝕄)
      ⊢ iprop((∃ f : Buf (Elt F) ℓ, (ℓ ↦[A]{fullShare} f)) ∗ (∃ f : Buf (Elt F) ℓ, (ℓ ↦[B]{fullShare} f))) := by
  rw [← hu]
  iintro ⟨%f, H⟩
  ihave H' := (pointsTo_union (q := fullShare) (f := f) hd).1 $$ H
  icases H' with ⟨H₁, H₂⟩
  isplitl [H₁]
  · iexists f; iexact H₁
  iexists f; iexact H₂
theorem two_slots' {ℓ : Loc nD τ sig} {A B : Finset (Idx ℓ)} (hd : Disjoint A B) (hu : A ∪ B = Finset.univ) :
    iprop((∃ f : Buf (Elt F) ℓ, (ℓ ↦[A]{fullShare} f)) ∗ (∃ f : Buf (Elt F) ℓ, (ℓ ↦[B]{fullShare} f)))
      ⊢ (iprop(∃ f : Buf (Elt F) ℓ, (ℓ ↦[Finset.univ]{fullShare} f)) : sProp 𝕄) := by
  rw [← hu]
  iintro ⟨⟨%f, H₁⟩, ⟨%g, H₂⟩⟩
  ihave H := (pointsTo_join (q := fullShare) (f := f) (g := g) hd) $$ [H₁ H₂]
  · isplitl [H₁] <;> iassumption
  iexists (B.piecewise g f); iexact H

theorem slots_disj {α : Type} (f : α → ℕ) {A B : Finset α} (hA : ∀ i, i ∈ A ↔ f i = 0) (hB : ∀ i, i ∈ B ↔ f i = 1) : Disjoint A B :=
  Finset.disjoint_left.2 fun i h h' => by have := (hA i).1 h; have := (hB i).1 h'; omega
theorem slots_univ {α : Type} [Fintype α] [DecidableEq α] (f : α → ℕ) (hf : ∀ i, f i < 2) {A B : Finset α} (hA : ∀ i, i ∈ A ↔ f i = 0) (hB : ∀ i, i ∈ B ↔ f i = 1) : A ∪ B = Finset.univ :=
  Finset.eq_univ_of_forall fun i => Finset.mem_union.2 (by
    have := hf i
    rcases (by omega : f i = 0 ∨ f i = 1) with h | h
    · exact .inl ((hA i).2 h)
    · exact .inr ((hB i).2 h))

theorem mem_sq (b : Fin 2) (i : S2x4096x256.Idx) : i ∈ (sq b).view.set ↔ (i 0).val = b.val := by
  rw [show (sq b).view.set = (Rect.unit (s := S2x4096x256) ![b.val, 0, 0] S1x4096x256.size (st256_inb b)).set from (View.set_reshape _ _).trans (View.set_slice_whole _ _), Rect.mem_set_unit]
  have h1 : (i 1).val < 4096 := (i 1).isLt
  have h2 : (i 2).val < 256 := (i 2).isLt
  constructor
  · intro h; have h0 : b.val ≤ (i 0).val ∧ (i 0).val < b.val + 1 := h 0; omega
  · intro h a
    match a with
    | ⟨0, _⟩ => show b.val ≤ (i 0).val ∧ (i 0).val < b.val + 1; omega
    | ⟨1, _⟩ => show 0 ≤ (i 1).val ∧ (i 1).val < 0 + 4096; omega
    | ⟨2, _⟩ => show 0 ≤ (i 2).val ∧ (i 2).val < 0 + 256; omega
theorem sq_split (c : Dev nD) : (some' c sqM : sProp 𝕄) ⊢ iprop(some' c (sq 0) ∗ some' c (sq 1)) := by
  unfold some' pts
  rw [show (sqM.view.set : Finset S2x4096x256.Idx) = Finset.univ from View.set_whole _]
  exact two_slots (ℓ := sqM.view.loc (c : Thread nD τ)) (slots_disj (fun i : S2x4096x256.Idx => (i 0).val) (mem_sq 0) (mem_sq 1)) (slots_univ (fun i : S2x4096x256.Idx => (i 0).val) (fun i => (i 0).isLt) (mem_sq 0) (mem_sq 1))
theorem sq_join (c : Dev nD) : iprop(some' c (sq 0) ∗ some' c (sq 1)) ⊢ (some' c sqM : sProp 𝕄) := by
  unfold some' pts
  rw [show (sqM.view.set : Finset S2x4096x256.Idx) = Finset.univ from View.set_whole _]
  exact two_slots' (ℓ := sqM.view.loc (c : Thread nD τ)) (slots_disj (fun i : S2x4096x256.Idx => (i 0).val) (mem_sq 0) (mem_sq 1)) (slots_univ (fun i : S2x4096x256.Idx => (i 0).val) (fun i => (i 0).isLt) (mem_sq 0) (mem_sq 1))

theorem mem_sqr (b : Fin 2) (i : S2x4096x128.Idx) : i ∈ (sqr b).view.set ↔ (i 0).val = b.val := by
  rw [show (sqr b).view.set = (Rect.unit (s := S2x4096x128) ![b.val, 0, 0] S1x4096x128.size (st128_inb b)).set from (View.set_reshape _ _).trans (View.set_slice_whole _ _), Rect.mem_set_unit]
  have h1 : (i 1).val < 4096 := (i 1).isLt
  have h2 : (i 2).val < 128 := (i 2).isLt
  constructor
  · intro h; have h0 : b.val ≤ (i 0).val ∧ (i 0).val < b.val + 1 := h 0; omega
  · intro h a
    match a with
    | ⟨0, _⟩ => show b.val ≤ (i 0).val ∧ (i 0).val < b.val + 1; omega
    | ⟨1, _⟩ => show 0 ≤ (i 1).val ∧ (i 1).val < 0 + 4096; omega
    | ⟨2, _⟩ => show 0 ≤ (i 2).val ∧ (i 2).val < 0 + 128; omega
theorem sqr_split (c : Dev nD) : (some' c sqrM : sProp 𝕄) ⊢ iprop(some' c (sqr 0) ∗ some' c (sqr 1)) := by
  unfold some' pts
  rw [show (sqrM.view.set : Finset S2x4096x128.Idx) = Finset.univ from View.set_whole _]
  exact two_slots (ℓ := sqrM.view.loc (c : Thread nD τ)) (slots_disj (fun i : S2x4096x128.Idx => (i 0).val) (mem_sqr 0) (mem_sqr 1)) (slots_univ (fun i : S2x4096x128.Idx => (i 0).val) (fun i => (i 0).isLt) (mem_sqr 0) (mem_sqr 1))
theorem sqr_join (c : Dev nD) : iprop(some' c (sqr 0) ∗ some' c (sqr 1)) ⊢ (some' c sqrM : sProp 𝕄) := by
  unfold some' pts
  rw [show (sqrM.view.set : Finset S2x4096x128.Idx) = Finset.univ from View.set_whole _]
  exact two_slots' (ℓ := sqrM.view.loc (c : Thread nD τ)) (slots_disj (fun i : S2x4096x128.Idx => (i 0).val) (mem_sqr 0) (mem_sqr 1)) (slots_univ (fun i : S2x4096x128.Idx => (i 0).val) (fun i => (i 0).isLt) (mem_sqr 0) (mem_sqr 1))

theorem mem_swo (b : Fin 2) (i : S2x4096x256.Idx) : i ∈ (swo b).view.set ↔ (i 0).val = b.val := by
  rw [show (swo b).view.set = (Rect.unit (s := S2x4096x256) ![b.val, 0, 0] S1x4096x256.size (st256_inb b)).set from (View.set_reshape _ _).trans (View.set_slice_whole _ _), Rect.mem_set_unit]
  have h1 : (i 1).val < 4096 := (i 1).isLt
  have h2 : (i 2).val < 256 := (i 2).isLt
  constructor
  · intro h; have h0 : b.val ≤ (i 0).val ∧ (i 0).val < b.val + 1 := h 0; omega
  · intro h a
    match a with
    | ⟨0, _⟩ => show b.val ≤ (i 0).val ∧ (i 0).val < b.val + 1; omega
    | ⟨1, _⟩ => show 0 ≤ (i 1).val ∧ (i 1).val < 0 + 4096; omega
    | ⟨2, _⟩ => show 0 ≤ (i 2).val ∧ (i 2).val < 0 + 256; omega
theorem swo_split (c : Dev nD) : (some' c swoM : sProp 𝕄) ⊢ iprop(some' c (swo 0) ∗ some' c (swo 1)) := by
  unfold some' pts
  rw [show (swoM.view.set : Finset S2x4096x256.Idx) = Finset.univ from View.set_whole _]
  exact two_slots (ℓ := swoM.view.loc (c : Thread nD τ)) (slots_disj (fun i : S2x4096x256.Idx => (i 0).val) (mem_swo 0) (mem_swo 1)) (slots_univ (fun i : S2x4096x256.Idx => (i 0).val) (fun i => (i 0).isLt) (mem_swo 0) (mem_swo 1))
theorem swo_join (c : Dev nD) : iprop(some' c (swo 0) ∗ some' c (swo 1)) ⊢ (some' c swoM : sProp 𝕄) := by
  unfold some' pts
  rw [show (swoM.view.set : Finset S2x4096x256.Idx) = Finset.univ from View.set_whole _]
  exact two_slots' (ℓ := swoM.view.loc (c : Thread nD τ)) (slots_disj (fun i : S2x4096x256.Idx => (i 0).val) (mem_swo 0) (mem_swo 1)) (slots_univ (fun i : S2x4096x256.Idx => (i 0).val) (fun i => (i 0).isLt) (mem_swo 0) (mem_swo 1))

/-! ## The heads' outputs -/

def oK (c : Dev nD) : Fin 2 × Fin 8 → Finset S256x4096.Idx
  | (⟨0, _⟩, k) => (oB c k).view.set
  | (⟨1, _⟩, k) => (oB (zpD c) k).view.set

theorem zp_low : ∀ c : Dev nD, (zpD c).val % 2 = 1 - c.val % 2 := by decide +kernel

theorem mem_oK (c : Dev nD) (p : Fin 2 × Fin 8) (i : S256x4096.Idx) :
    i ∈ oK c p ↔ (i 1).val / 256 = 8 * ((c.val + p.1.val) % 2) + p.2.val := by
  have hz := zp_low c
  match p with
  | (⟨0, _⟩, k) => show i ∈ (oB c k).view.set ↔ (i 1).val / 256 = 8 * ((c.val + 0) % 2) + k.val; rw [mem_oB]; omega
  | (⟨1, _⟩, k) => show i ∈ (oB (zpD c) k).view.set ↔ (i 1).val / 256 = 8 * ((c.val + 1) % 2) + k.val; rw [mem_oB]; omega

theorem oK_disj (c : Dev nD) (p p' : Fin 2 × Fin 8) (h : p ≠ p') : Disjoint (oK c p) (oK c p') :=
  Finset.disjoint_left.2 fun i hi hi' => h (by
    have h1 := (mem_oK c p i).1 hi
    have h2 := (mem_oK c p' i).1 hi'
    have := p.1.isLt; have := p.2.isLt; have := p'.1.isLt; have := p'.2.isLt
    exact Prod.ext (Fin.ext (by omega)) (Fin.ext (by omega)))
theorem oK_univ (c : Dev nD) : Finset.univ.biUnion (oK c) = Finset.univ :=
  Finset.eq_univ_of_forall fun i => Finset.mem_biUnion.2 (by
    have h1 : (i 1).val < 4096 := (i 1).isLt
    refine ⟨(⟨((i 1).val / 2048 + c.val) % 2, by omega⟩, ⟨(i 1).val / 256 % 8, by omega⟩), Finset.mem_univ _, (mem_oK c _ i).2 ?_⟩
    show (i 1).val / 256 = 8 * ((c.val + ((i 1).val / 2048 + c.val) % 2) % 2) + (i 1).val / 256 % 8
    omega)

/-- All of the outputs, as a device's own and its partner's. -/
theorem o_parts (c : Dev nD) (q : PosShare TreeShare) (f : Buf (Elt F) (oM.view.loc (c : Thread nD τ))) :
    (pts c oM q f : sProp 𝕄) = iprop((bigSep Finset.univ fun k => pts c (oB c k) q f) ∗ bigSep Finset.univ fun k => pts c (oB (zpD c) k) q f) := by
  unfold pts
  rw [show (oM.view.set : Finset S256x4096.Idx) = Finset.univ from View.set_whole _, ← oK_univ c,
    pointsTo_biUnion (ℓ := oM.view.loc (c : Thread nD τ)) (q := q) (f := f) Finset.univ (oK c) (fun p _ p' _ h => oK_disj c p p' h), bigSep_univ_prod, bigSep_two]
  rfl

theorem somes_of {s : Shape} {e : EltTy} {n : ℕ} (c : Dev nD) (m : Fin n → Memref sig .tc .vmem s e) (f : (k : Fin n) → Buf (Elt F) ((m k).view.loc (c : Thread nD τ))) :
    (bigSep Finset.univ fun k => pts c (m k) fullShare (f k) : sProp 𝕄) ⊢ somes c m := by
  unfold somes
  exact bigSep_mono fun k _ => pts_some c (m k) (f k)

theorem o_split (c : Dev nD) : (some' c oM : sProp 𝕄) ⊢ iprop(somes c (oB c) ∗ somes c (oB (zpD c))) := by
  conv_lhs => unfold some'
  iintro ⟨%f, H⟩
  ihave H' := (Entails.of_eq (o_parts c fullShare f)) $$ H
  icases H' with ⟨H₁, H₂⟩
  isplitl [H₁]
  · iapply (somes_of c (oB c) (fun _ => f)); iexact H₁
  · iapply (somes_of c (oB (zpD c)) (fun _ => f)); iexact H₂

/-! ## The result -/

def outK (c : Dev nD) : Fin 5 × Fin 16 → Finset S4x256x4096.Idx
  | (⟨0, _⟩, j) => (outO c j).view.set
  | (⟨1, _⟩, j) => (outO (xnD c) j).view.set
  | (⟨2, _⟩, j) => (outO (ynD c) j).view.set
  | (⟨3, _⟩, j) => (outX (ynD c) j).view.set
  | (⟨4, _⟩, j) => (outY (xnD c) j).view.set

/-- Which of the five parts a row is in. -/
def outI (c : Dev nD) (a r : ℕ) : ℕ :=
  if a = c.val / 2 then 0 else if a = (c.val / 2 + 2) % 4 then 1 else if a = c.val / 2 + 1 - 2 * (c.val / 2 % 2) then 2 else if r < 128 then 3 else 4

theorem mem_outK (c : Dev nD) (p : Fin 5 × Fin 16) (i : S4x256x4096.Idx) :
    i ∈ outK c p ↔ outI c (i 0).val (i 1).val = p.1.val ∧ (i 2).val / 256 = p.2.val := by
  have hx := xn_half c
  have hy := yn_half c
  have h0 : (i 0).val < 4 := (i 0).isLt
  have h1 : (i 1).val < 256 := (i 1).isLt
  have hc : c.val / 2 < 4 := by have : c.val < 8 := c.isLt; omega
  unfold outI
  match p with
  | (⟨0, _⟩, j) => show i ∈ (outO c j).view.set ↔ _ = 0 ∧ (i 2).val / 256 = j.val; rw [mem_outO]; generalize c.val / 2 = g at *; interval_cases g <;> split_ifs <;> first | omega | (simp only [_root_.false_and, _root_.true_and, iff_false]; omega)
  | (⟨1, _⟩, j) => show i ∈ (outO (xnD c) j).view.set ↔ _ = 1 ∧ (i 2).val / 256 = j.val; rw [mem_outO, hx]; generalize c.val / 2 = g at *; interval_cases g <;> split_ifs <;> first | omega | (simp only [_root_.false_and, _root_.true_and, iff_false]; omega)
  | (⟨2, _⟩, j) => show i ∈ (outO (ynD c) j).view.set ↔ _ = 2 ∧ (i 2).val / 256 = j.val; rw [mem_outO, hy]; generalize c.val / 2 = g at *; interval_cases g <;> split_ifs <;> first | omega | (simp only [_root_.false_and, _root_.true_and, iff_false]; omega)
  | (⟨3, _⟩, j) => show i ∈ (outX (ynD c) j).view.set ↔ _ = 3 ∧ (i 2).val / 256 = j.val; rw [mem_outX, hy]; generalize c.val / 2 = g at *; interval_cases g <;> split_ifs <;> first | omega | (simp only [_root_.false_and, _root_.true_and, iff_false]; omega)
  | (⟨4, _⟩, j) => show i ∈ (outY (xnD c) j).view.set ↔ _ = 4 ∧ (i 2).val / 256 = j.val; rw [mem_outY, hx]; generalize c.val / 2 = g at *; interval_cases g <;> split_ifs <;> first | omega | (simp only [_root_.false_and, _root_.true_and, iff_false]; omega)

theorem outK_disj (c : Dev nD) (p p' : Fin 5 × Fin 16) (h : p ≠ p') : Disjoint (outK c p) (outK c p') :=
  Finset.disjoint_left.2 fun i hi hi' => h (by
    have h1 := (mem_outK c p i).1 hi
    have h2 := (mem_outK c p' i).1 hi'
    exact Prod.ext (Fin.ext (h1.1.symm.trans h2.1)) (Fin.ext (h1.2.symm.trans h2.2)))
theorem outI_lt (c : Dev nD) (a r : ℕ) : outI c a r < 5 := by unfold outI; split_ifs <;> decide
theorem outK_univ (c : Dev nD) : Finset.univ.biUnion (outK c) = Finset.univ :=
  Finset.eq_univ_of_forall fun i => Finset.mem_biUnion.2 (by
    have h2 : (i 2).val < 4096 := (i 2).isLt
    exact ⟨(⟨outI c (i 0).val (i 1).val, outI_lt c _ _⟩, ⟨(i 2).val / 256, by omega⟩), Finset.mem_univ _, (mem_outK c _ i).2 ⟨rfl, rfl⟩⟩)

/-- The result, as the stripes computed and the stripes received. -/
theorem out_parts (c : Dev nD) (f : Buf (Elt F) (outM.view.loc (c : Thread nD τ))) :
    (pts c outM fullShare f : sProp 𝕄) = iprop((bigSep Finset.univ fun j => pts c (outO c j) fullShare f)
      ∗ (bigSep Finset.univ fun j => pts c (outO (xnD c) j) fullShare f) ∗ (bigSep Finset.univ fun j => pts c (outO (ynD c) j) fullShare f)
      ∗ (bigSep Finset.univ fun j => pts c (outX (ynD c) j) fullShare f) ∗ bigSep Finset.univ fun j => pts c (outY (xnD c) j) fullShare f) := by
  unfold pts
  rw [show (outM.view.set : Finset S4x256x4096.Idx) = Finset.univ from View.set_whole _, ← outK_univ c,
    pointsTo_biUnion (ℓ := outM.view.loc (c : Thread nD τ)) (q := fullShare) (f := f) Finset.univ (outK c) (fun p _ p' _ h => outK_disj c p p' h), bigSep_univ_prod, bigSep_five]
  rfl

theorem out_split (c : Dev nD) : (some' c outM : sProp 𝕄)
    ⊢ iprop(somes c (outO c) ∗ (somes c (outO (xnD c)) ∗ somes c (outY (xnD c))) ∗ (somes c (outO (ynD c)) ∗ somes c (outX (ynD c)))) := by
  conv_lhs => unfold some'
  iintro ⟨%f, H⟩
  ihave H' := (Entails.of_eq (out_parts c f)) $$ H
  icases H' with ⟨H₀, H₁, H₂, H₃, H₄⟩
  isplitl [H₀]
  · iapply (somes_of c (outO c) (fun _ => f)); iexact H₀
  isplitl [H₁ H₄]
  · isplitl [H₁]
    · iapply (somes_of c (outO (xnD c)) (fun _ => f)); iexact H₁
    · iapply (somes_of c (outY (xnD c)) (fun _ => f)); iexact H₄
  isplitl [H₂]
  · iapply (somes_of c (outO (ynD c)) (fun _ => f)); iexact H₂
  · iapply (somes_of c (outX (ynD c)) (fun _ => f)); iexact H₃

/-! ## Families over the transfers -/

theorem tr_parts (Φ : Tr → sProp 𝕄) : bigSep Finset.univ Φ
    = iprop((Φ (.inl 0) ∗ Φ (.inl 1) ∗ Φ (.inl 2)) ∗ (bigSep Finset.univ fun k => Φ (trO k))
      ∗ (bigSep Finset.univ fun j => Φ (tg 0 j)) ∗ (bigSep Finset.univ fun j => Φ (tg 1 j)) ∗ (bigSep Finset.univ fun j => Φ (tg 2 j)) ∗ bigSep Finset.univ fun j => Φ (tg 3 j)) := by
  rw [BI.bigSep_univ_sum, bigSep_three, BI.bigSep_univ_sum, bigSep_univ_prod, bigSep_four]
  rfl

theorem ls_parts (Φ : Ls → sProp 𝕄) : bigSep Finset.univ Φ
    = iprop(Φ (.inl ()) ∗ (Φ (.inr (0, 0)) ∗ Φ (.inr (0, 1))) ∗ (Φ (.inr (1, 0)) ∗ Φ (.inr (1, 1))) ∗ (Φ (.inr (2, 0)) ∗ Φ (.inr (2, 1)))) := by
  rw [BI.bigSep_univ_sum, bigSep_univ_prod, bigSep_three, bigSep_two, bigSep_two, bigSep_two, bigSep_univ_eq_bigSepL [()] (by decide) (by decide)]
  rfl

end Ph

end Cert.K

end
-- ==== Proof.Ends.lean ====
/-
The whole body: from what a device holds at the start to what it holds at the end.
-/
module

public import proofs.«01_k».proof.Proof.Parts

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ
local notation "ℙ" => Prog (TpuEff nD τ sig (Elt F) Λ₀ Proc.tc)

section Ph
variable (I : Inp F)

/-! ## What a device starts with and ends with -/

def gh (c : Dev nD) : sProp 𝕄 :=
  iprop((bigSep Finset.univ fun t => Snd c t)
    ∗ (Pos c (.inl ()) ∗ (bigSep Finset.univ fun t => Pos c (.inr (.inl t))) ∗ bigSep Finset.univ fun t => Pos c (.inr (.inr t)))
    ∗ (dutyTok ER (barCell (zpD c)) 0 (0 : Fin 3) ∗ dutyTok ER (barCell (xnD c)) 0 (1 : Fin 3) ∗ dutyTok ER (barCell (ynD c)) 0 (2 : Fin 3)))
def cr (c : Dev nD) : sProp 𝕄 := iprop(cred (tallyAt (barCell c) () 3) ∗ bigSep Finset.univ fun t => Crd c (.inr (.inr t)))
def inp (c : Dev nD) : sProp 𝕄 :=
  iprop(hpt c xH fullShare (I.x c) ∗ hpt c wqH fullShare (I.wq c) ∗ hpt c wqrH fullShare (I.wqr c) ∗ hpt c woH fullShare (I.wo c))
def lsems (c : Dev nD) : sProp 𝕄 := bigSep Finset.univ fun l : Ls => sem0 c (lsem l)
def scr (c : Dev nD) : sProp 𝕄 :=
  iprop(some' c x32M ∗ some' c xbM ∗ some' c clM ∗ some' c crM ∗ some' c uklM ∗ some' c ukrM ∗ some' c uvlM ∗ some' c uvrM ∗ some' c kM ∗ some' c vM ∗ some' c krM
    ∗ some' c qM ∗ some' c qrM ∗ some' c oM ∗ some' c sqM ∗ some' c sqrM ∗ some' c swoM)
def win (c : Dev nD) : sProp 𝕄 :=
  iprop(pts c wdM fullShare (I.wd c) ∗ pts c wukM fullShare (I.wuk c) ∗ pts c wuvM fullShare (I.wuv c) ∗ pts c wkrM fullShare (I.wkr c))
def Φ₀ (c : Dev nD) : sProp 𝕄 := iprop(Rec0 I c ∗ gh c ∗ cr c ∗ inp I c ∗ lsems c ∗ scr c)
def Φ₁ (c : Dev nD) : sProp 𝕄 :=
  iprop(inp I c ∗ lsems c ∗ (Fin0 c (.inl ()) ∗ (bigSep Finset.univ fun t => Fin0 c (.inr (.inl t))) ∗ bigSep Finset.univ fun t => Fin0 c (.inr (.inr t))) ∗ scr c)

/-! ## Families taken apart and put together -/

theorem snd_parts (c : Dev nD) : (bigSep Finset.univ fun t => Snd c t : sProp 𝕄)
    ⊢ iprop((Snd c (.inl 0) ∗ Snd c (.inl 1) ∗ Snd c (.inl 2)) ∗ (bigSep Finset.univ fun k => Snd c (trO k))
      ∗ (bigSep Finset.univ fun j => Snd c (tg 0 j)) ∗ (bigSep Finset.univ fun j => Snd c (tg 1 j)) ∗ (bigSep Finset.univ fun j => Snd c (tg 2 j)) ∗ bigSep Finset.univ fun j => Snd c (tg 3 j)) :=
  Entails.of_eq (tr_parts fun t => Snd c t)
theorem pos_parts (c : Dev nD) : (bigSep Finset.univ fun t => Pos c (.inr (.inl t)) : sProp 𝕄)
    ⊢ iprop((Pos c (.inr (.inl (.inl 0))) ∗ Pos c (.inr (.inl (.inl 1))) ∗ Pos c (.inr (.inl (.inl 2)))) ∗ (bigSep Finset.univ fun k => Pos c (.inr (.inl (trO k))))
      ∗ (bigSep Finset.univ fun j => Pos c (.inr (.inl (tg 0 j)))) ∗ (bigSep Finset.univ fun j => Pos c (.inr (.inl (tg 1 j)))) ∗ (bigSep Finset.univ fun j => Pos c (.inr (.inl (tg 2 j)))) ∗ bigSep Finset.univ fun j => Pos c (.inr (.inl (tg 3 j)))) :=
  Entails.of_eq (tr_parts fun t => Pos c (.inr (.inl t)))
theorem wt_parts (c : Dev nD) : iprop((bigSep Finset.univ fun t => Crd c (.inr (.inr t))) ∗ (bigSep Finset.univ fun t => Pos c (.inr (.inr t))) : sProp 𝕄)
    ⊢ iprop((Wt c (.inr (.inl 0)) ∗ Wt c (.inr (.inl 1)) ∗ Wt c (.inr (.inl 2))) ∗ (bigSep Finset.univ (TO c))
      ∗ (bigSep Finset.univ fun j => Wt c (.inr (tg 0 j))) ∗ (bigSep Finset.univ fun j => Wt c (.inr (tg 1 j))) ∗ (bigSep Finset.univ fun j => Wt c (.inr (tg 2 j))) ∗ bigSep Finset.univ fun j => Wt c (.inr (tg 3 j))) := by
  rw [← bigSep_sep']
  exact Entails.of_eq (tr_parts fun t => Wt c (.inr t))
theorem fin_join (c : Dev nD) (f : Tr → Tr ⊕ Tr) :
    iprop((Fin0 c (.inr (f (.inl 0))) ∗ Fin0 c (.inr (f (.inl 1))) ∗ Fin0 c (.inr (f (.inl 2)))) ∗ (bigSep Finset.univ fun k => Fin0 c (.inr (f (trO k))))
      ∗ (bigSep Finset.univ fun j => Fin0 c (.inr (f (tg 0 j)))) ∗ (bigSep Finset.univ fun j => Fin0 c (.inr (f (tg 1 j)))) ∗ (bigSep Finset.univ fun j => Fin0 c (.inr (f (tg 2 j)))) ∗ bigSep Finset.univ fun j => Fin0 c (.inr (f (tg 3 j))))
      ⊢ (bigSep Finset.univ fun t => Fin0 c (.inr (f t)) : sProp 𝕄) :=
  Entails.of_eq (tr_parts fun t => Fin0 c (.inr (f t))).symm

theorem ta_intro (c : Dev nD) : iprop(somes c (oB c) ∗ somes (zpD c) (oB c) ∗ bigSep Finset.univ fun k => Snd c (trO k)) ⊢ (bigSep Finset.univ (TA c) : sProp 𝕄) := by
  unfold somes; rw [← bigSep_sep', ← bigSep_sep']; exact Entails.refl _
theorem t1_intro (c : Dev nD) : iprop(somes c (outO c) ∗ somes (xnD c) (outO c) ∗ somes (ynD c) (outO c) ∗ (bigSep Finset.univ fun j => Snd c (tg 0 j)) ∗ bigSep Finset.univ fun j => Snd c (tg 1 j))
    ⊢ (bigSep Finset.univ (T1 c) : sProp 𝕄) := by
  unfold somes; rw [← bigSep_sep', ← bigSep_sep', ← bigSep_sep', ← bigSep_sep']; exact Entails.refl _
theorem t2_intro (c : Dev nD) : iprop((bigSep Finset.univ fun j => Wt c (.inr (tg 0 j))) ∗ (bigSep Finset.univ fun j => Wt c (.inr (tg 1 j))) ∗ somes (ynD c) (outX c) ∗ somes (xnD c) (outY c)
      ∗ (bigSep Finset.univ fun j => Snd c (tg 2 j)) ∗ bigSep Finset.univ fun j => Snd c (tg 3 j))
    ⊢ (bigSep Finset.univ (T2 c) : sProp 𝕄) := by
  unfold somes; rw [← bigSep_sep', ← bigSep_sep', ← bigSep_sep', ← bigSep_sep', ← bigSep_sep']; exact Entails.refl _
theorem tr_intro (c : Dev nD) : iprop((bigSep Finset.univ fun j => Wt c (.inr (tg 2 j))) ∗ bigSep Finset.univ fun j => Wt c (.inr (tg 3 j))) ⊢ (bigSep Finset.univ (TR c) : sProp 𝕄) := by
  rw [← bigSep_sep']; exact Entails.refl _
theorem d1_elim (c : Dev nD) : (bigSep Finset.univ (D1 c) : sProp 𝕄) ⊢ iprop((bigSep Finset.univ fun j => Crd c (.inr (.inl (tg 0 j)))) ∗ bigSep Finset.univ fun j => Crd c (.inr (.inl (tg 1 j)))) := by
  rw [← bigSep_sep']; exact Entails.refl _
theorem da_elim (c : Dev nD) : (bigSep Finset.univ (DA I c) : sProp 𝕄) ⊢ iprop((bigSep Finset.univ fun k => pts c (oB c k) fullShare.right (OA I c)) ∗ bigSep Finset.univ fun k => Crd c (.inr (.inl (trO k)))) := by
  rw [← bigSep_sep']; exact Entails.refl _
theorem do_one (c : Dev nD) (k : Fin 8) : DO I c k ⊢ iprop((pts c (oB (zpD c) k) fullShare.left (OA I c) ∗ pts c (oB (zpD c) k) fullShare.right (OA I c)) ∗ Fin0 c (.inr (.inr (trO k)))) := by
  unfold DO
  iintro ⟨H, HF⟩
  isplitl [H]
  · iapply (halves c (oB (zpD c) k) (OA I c)).1; iexact H
  iexact HF
theorem do_elim (c : Dev nD) : (bigSep Finset.univ (DO I c) : sProp 𝕄)
    ⊢ iprop(((bigSep Finset.univ fun k => pts c (oB (zpD c) k) fullShare.left (OA I c)) ∗ (bigSep Finset.univ fun k => pts c (oB (zpD c) k) fullShare.right (OA I c))) ∗ bigSep Finset.univ fun k => Fin0 c (.inr (.inr (trO k)))) := by
  rw [← bigSep_sep', ← bigSep_sep']
  exact bigSep_mono fun k _ => do_one I c k
theorem dd_elim (c : Dev nD) : (bigSep Finset.univ (DD I c) : sProp 𝕄) ⊢ iprop((bigSep Finset.univ fun k => pts c (oB c k) fullShare.left (OA I c)) ∗ bigSep Finset.univ fun k => Fin0 c (.inr (.inl (trO k)))) := by
  rw [← bigSep_sep']; exact Entails.refl _
theorem d2_elim (c : Dev nD) : (bigSep Finset.univ (D2 I c) : sProp 𝕄)
    ⊢ iprop(((bigSep Finset.univ fun j => Fin0 c (.inr (.inr (tg 0 j)))) ∗ bigSep Finset.univ fun j => Fin0 c (.inr (.inr (tg 1 j))))
      ∗ ((bigSep Finset.univ fun j => Crd c (.inr (.inl (tg 2 j)))) ∗ bigSep Finset.univ fun j => Crd c (.inr (.inl (tg 3 j))))
      ∗ (bigSep Finset.univ fun j => restX I c j) ∗ bigSep Finset.univ fun j => restY I c j) := by
  rw [← bigSep_sep', ← bigSep_sep', ← bigSep_sep', ← bigSep_sep', ← bigSep_sep']; exact Entails.refl _
theorem dr_elim (c : Dev nD) : (bigSep Finset.univ (DR I c) : sProp 𝕄)
    ⊢ iprop(((bigSep Finset.univ fun j => pts c (outX (ynD c) j) fullShare (OUT I c)) ∗ bigSep Finset.univ fun j => pts c (outY (xnD c) j) fullShare (OUT I c))
      ∗ (bigSep Finset.univ fun j => Fin0 c (.inr (.inr (tg 2 j)))) ∗ bigSep Finset.univ fun j => Fin0 c (.inr (.inr (tg 3 j)))) := by
  rw [← bigSep_sep', ← bigSep_sep', ← bigSep_sep']; exact Entails.refl _
theorem ds_elim (c : Dev nD) : (bigSep Finset.univ (DS I c) : sProp 𝕄)
    ⊢ iprop(((bigSep Finset.univ fun j => pts c (outO c j) fullShare (OUT I c)) ∗ (bigSep Finset.univ fun j => pts c (outX c j) fullShare (OUT I c)) ∗ bigSep Finset.univ fun j => pts c (outY c j) fullShare (OUT I c))
      ∗ (bigSep Finset.univ fun j => Fin0 c (.inr (.inl (tg 0 j)))) ∗ (bigSep Finset.univ fun j => Fin0 c (.inr (.inl (tg 1 j)))) ∗ (bigSep Finset.univ fun j => Fin0 c (.inr (.inl (tg 2 j)))) ∗ bigSep Finset.univ fun j => Fin0 c (.inr (.inl (tg 3 j)))) := by
  rw [← bigSep_sep', ← bigSep_sep', ← bigSep_sep', ← bigSep_sep', ← bigSep_sep', ← bigSep_sep']; exact Entails.refl _
theorem ts_one (c : Dev nD) (j : Fin 16) :
    iprop((Crd c (.inr (.inl (tg 0 j))) ∗ Crd c (.inr (.inl (tg 1 j)))) ∗ (Crd c (.inr (.inl (tg 2 j))) ∗ Crd c (.inr (.inl (tg 3 j))))
      ∗ Pos c (.inr (.inl (tg 0 j))) ∗ Pos c (.inr (.inl (tg 1 j))) ∗ Pos c (.inr (.inl (tg 2 j))) ∗ Pos c (.inr (.inl (tg 3 j)))) ⊢ (TS c j : sProp 𝕄) := by
  unfold TS Wt
  iintro ⟨⟨C0, C1⟩, ⟨C2, C3⟩, P0, P1, P2, P3⟩
  isplitl [C0 P0]; · isplitl [C0] <;> iassumption
  isplitl [C1 P1]; · isplitl [C1] <;> iassumption
  isplitl [C2 P2]; · isplitl [C2] <;> iassumption
  isplitl [C3] <;> iassumption
theorem ts_intro (c : Dev nD) :
    iprop(((bigSep Finset.univ fun j => Crd c (.inr (.inl (tg 0 j)))) ∗ bigSep Finset.univ fun j => Crd c (.inr (.inl (tg 1 j))))
      ∗ ((bigSep Finset.univ fun j => Crd c (.inr (.inl (tg 2 j)))) ∗ bigSep Finset.univ fun j => Crd c (.inr (.inl (tg 3 j))))
      ∗ (bigSep Finset.univ fun j => Pos c (.inr (.inl (tg 0 j)))) ∗ (bigSep Finset.univ fun j => Pos c (.inr (.inl (tg 1 j)))) ∗ (bigSep Finset.univ fun j => Pos c (.inr (.inl (tg 2 j)))) ∗ bigSep Finset.univ fun j => Pos c (.inr (.inl (tg 3 j))))
      ⊢ (bigSep Finset.univ (TS c) : sProp 𝕄) := by
  rw [← bigSep_sep', ← bigSep_sep', ← bigSep_sep', ← bigSep_sep', ← bigSep_sep', ← bigSep_sep', ← bigSep_sep']
  exact bigSep_mono fun j _ => ts_one c j
theorem td_intro (c : Dev nD) : iprop((bigSep Finset.univ fun k => Crd c (.inr (.inl (trO k)))) ∗ bigSep Finset.univ fun k => Pos c (.inr (.inl (trO k)))) ⊢ (bigSep Finset.univ (TD c) : sProp 𝕄) := by
  rw [← bigSep_sep']; exact Entails.refl _

/-- The result put together. -/
theorem out_join (c : Dev nD) :
    iprop(((bigSep Finset.univ fun j => pts c (outO c j) fullShare (OUT I c)) ∗ (bigSep Finset.univ fun j => pts c (outX c j) fullShare (OUT I c)) ∗ bigSep Finset.univ fun j => pts c (outY c j) fullShare (OUT I c))
      ∗ ((bigSep Finset.univ fun j => restX I c j) ∗ bigSep Finset.univ fun j => restY I c j)
      ∗ ((bigSep Finset.univ fun j => pts c (outX (ynD c) j) fullShare (OUT I c)) ∗ bigSep Finset.univ fun j => pts c (outY (xnD c) j) fullShare (OUT I c)))
      ⊢ (pts c outM fullShare (OUT I c) : sProp 𝕄) := by
  rw [out_parts]
  iintro ⟨⟨H0, HX, HY⟩, ⟨RX, RY⟩, GX, GY⟩
  isplitl [H0]; · iexact H0
  isplitl [HX RX]
  · ihave H := (show iprop((bigSep Finset.univ fun j => pts c (outX c j) fullShare (OUT I c)) ∗ (bigSep Finset.univ fun j => restX I c j))
        ⊢ (bigSep Finset.univ fun j => pts c (outO (xnD c) j) fullShare (OUT I c) : sProp 𝕄) from by
          rw [← bigSep_sep']; exact bigSep_mono fun j _ => (splitX I c j).2) $$ [HX RX]
    · isplitl [HX] <;> iassumption
    iexact H
  isplitl [HY RY]
  · ihave H := (show iprop((bigSep Finset.univ fun j => pts c (outY c j) fullShare (OUT I c)) ∗ (bigSep Finset.univ fun j => restY I c j))
        ⊢ (bigSep Finset.univ fun j => pts c (outO (ynD c) j) fullShare (OUT I c) : sProp 𝕄) from by
          rw [← bigSep_sep']; exact bigSep_mono fun j _ => (splitY I c j).2) $$ [HY RY]
    · isplitl [HY] <;> iassumption
    iexact H
  isplitl [GX] <;> iassumption

/-! ## The invariants at the ends -/

theorem invW_start (c : Dev nD) : invW I c 0 = iprop((WF I c 0 ∗ WF I c 1) ∗ oR' I c ∗ bigSep Finset.univ (T1 c) ∗ bigSep Finset.univ (T2 c) ∗ owesE c (Ow c 14)) := by
  unfold invW; rw [Nat.zero_sub, fam_zero, fam_zero]
theorem invW_end (c : Dev nD) : invW I c 16 = iprop((WI I c 16 ∗ WI I c 17) ∗ oR' I c ∗ bigSep Finset.univ (D1 c) ∗ fam (T2 c) (D2 I c) 14 ∗ owesE c (Ow c 80)) := by
  unfold invW; rw [fam_all, ← gap_78]
  unfold WF; rw [dif_neg (by decide), dif_neg (by decide)]
theorem invQ_end (c : Dev nD) : invQ I c 8 ⊢ iprop((hpt c wqH fullShare (I.wq c) ∗ sem0 c (wqS 0) ∗ some' c (sq 0)) ∗ (hpt c wqrH fullShare (I.wqr c) ∗ sem0 c (wqrS 0) ∗ some' c (sqr 0))
    ∗ ((sem0 c (wqS 1) ∗ some' c (sq 1)) ∗ (sem0 c (wqrS 1) ∗ some' c (sqr 1)))
    ∗ (pts c qM fullShare (QA I c) ∗ pts c qrM fullShare (QRA I c)) ∗ pts c xbM fullShare (XB I c) ∗ owesE c (Ow c 6)) := by
  unfold invQ QF QI PQ part
  rw [dif_neg (by decide)]
  iintro ⟨⟨H1, H2⟩, HI, ⟨⟨%f, %hf, Hf⟩, ⟨%g, %hg, Hg⟩⟩, Hx, HO⟩
  isplitl [H1]; · iexact H1
  isplitl [H2]; · iexact H2
  isplitl [HI]; · iexact HI
  isplitl [Hf Hg]
  · rw [show f = QA I c from funext fun i => hf i (show (i 1).val < 256 * 8 from (i 1).isLt), show g = QRA I c from funext fun i => hg i (show (i 1).val < 128 * 8 from (i 1).isLt)]
    isplitl [Hf] <;> iassumption
  isplitl [Hx] <;> iassumption

theorem PQ_start (c : Dev nD) : iprop(some' c qM ∗ some' c qrM) ⊢ PQ I c 0 := by
  unfold PQ part some'
  iintro ⟨⟨%f, Hf⟩, ⟨%g, Hg⟩⟩
  isplitl [Hf]
  · iexists f
    isplitr
    · ipureintro; intro i hi; exact absurd hi (Nat.not_lt_zero _)
    iexact Hf
  iexists g
  isplitr
  · ipureintro; intro i hi; exact absurd hi (Nat.not_lt_zero _)
  iexact Hg

/-! ## Sequencing -/

theorem wp_seq {α β : Type} (c : Dev nD) (p : ℙ α) (k : α → ℙ β) (Q : β → sProp 𝕄) : WP c p (fun x => WP c (k x) Q) ⊢ WP c (p >>= k) Q := by
  unfold WP; rw [wp_bind]

theorem wp_loop (c : Dev nD) (n : ℕ) (f : Fin n → ℙ PUnit) (Inv : ℕ → sProp 𝕄)
    (h : ∀ (k : Fin n) (Q : PUnit → sProp 𝕄), iprop((Recs I c ∗ Inv k.val) ∗ (iprop(Recs I c ∗ Inv (k.val + 1)) -∗ Q ⟨⟩)) ⊢ WP c (f k) Q) (Q : PUnit → sProp 𝕄) :
    iprop(Recs I c ∗ Inv 0 ∗ (Inv n -∗ Q ⟨⟩)) ⊢ WP c (loopF n f n le_rfl) Q := by
  have hl := wp_loopF c n f (fun m => iprop(Recs I c ∗ Inv m)) h n le_rfl Q
  rw [Nat.sub_self] at hl
  iintro ⟨#HR, H, Hk⟩
  iapply hl
  isplitl [H]
  · isplitr; · iexact HR
    iexact H
  iintro ⟨-, H⟩
  iapply Hk; iexact H

end Ph

end Cert.K

end
-- ==== Proof.Body.lean ====
/-
The run of the whole body.
-/
module

public import proofs.«01_k».proof.Proof.Ends

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ
local notation "ℙ" => Prog (TpuEff nD τ sig (Elt F) Λ₀ Proc.tc)

section Ph
variable (I : Inp F)

/-- From the start to the keys and values: what the heads need. -/
def mid (c : Dev nD) : sProp 𝕄 :=
  iprop((hpt c xH fullShare (I.x c) ∗ sem0 c xS ∗ some' c x32M)
    ∗ (hpt c wqH fullShare (I.wq c) ∗ sem0 c (wqS 0) ∗ some' c (sq 0)) ∗ (hpt c wqrH fullShare (I.wqr c) ∗ sem0 c (wqrS 0) ∗ some' c (sqr 0))
    ∗ ((sem0 c (wqS 1) ∗ some' c (sq 1)) ∗ (sem0 c (wqrS 1) ∗ some' c (sqr 1)))
    ∗ win I c ∗ (Fin0 c (.inl ()) ∗ (Fin0 c (.inr (.inl (.inl 0))) ∗ Fin0 c (.inr (.inl (.inl 1))) ∗ Fin0 c (.inr (.inl (.inl 2))))
    ∗ (Fin0 c (.inr (.inr (.inl 0))) ∗ Fin0 c (.inr (.inr (.inl 1))) ∗ Fin0 c (.inr (.inr (.inl 2)))))
    ∗ (some' c clM ∗ some' c uklM ∗ some' c uvlM ∗ some' c crM ∗ some' c ukrM ∗ some' c uvrM) ∗ pts c xbM fullShare (XB I c) ∗ pts c krM fullShare (KR I c)
    ∗ statA I c ∗ (WF I c 0 ∗ WF I c 1)
    ∗ (somes c (oB c) ∗ somes (zpD c) (oB c)) ∗ (somes c (outO c) ∗ somes (xnD c) (outO c) ∗ somes (ynD c) (outO c) ∗ somes (ynD c) (outX c) ∗ somes (xnD c) (outY c))
    ∗ ((bigSep Finset.univ fun k => Snd c (trO k)) ∗ (bigSep Finset.univ fun j => Snd c (tg 0 j)) ∗ (bigSep Finset.univ fun j => Snd c (tg 1 j)) ∗ (bigSep Finset.univ fun j => Snd c (tg 2 j)) ∗ bigSep Finset.univ fun j => Snd c (tg 3 j))
    ∗ ((bigSep Finset.univ fun k => Pos c (.inr (.inl (trO k)))) ∗ (bigSep Finset.univ fun j => Pos c (.inr (.inl (tg 0 j)))) ∗ (bigSep Finset.univ fun j => Pos c (.inr (.inl (tg 1 j)))) ∗ (bigSep Finset.univ fun j => Pos c (.inr (.inl (tg 2 j)))) ∗ bigSep Finset.univ fun j => Pos c (.inr (.inl (tg 3 j))))
    ∗ ((bigSep Finset.univ (TO c)) ∗ (bigSep Finset.univ fun j => Wt c (.inr (tg 0 j))) ∗ (bigSep Finset.univ fun j => Wt c (.inr (tg 1 j))) ∗ (bigSep Finset.univ fun j => Wt c (.inr (tg 2 j))) ∗ bigSep Finset.univ fun j => Wt c (.inr (tg 3 j)))
    ∗ owesE c (Ow c 6))

/-- What a device hands each neighbour at the barrier. -/
theorem bar_z (c : Dev nD) : iprop(rcs c ∗ (some' c crM ∗ some' c ukrM ∗ some' c uvrM) ∗ somes c (oB (zpD c))) ⊢ (barPay (zpD c) 0 : sProp 𝕄) := by
  show _ ⊢ iprop(rcs (zpD (zpD c)) ∗ some' (zpD (zpD c)) crM ∗ some' (zpD (zpD c)) ukrM ∗ some' (zpD (zpD c)) uvrM ∗ somes (zpD (zpD c)) (oB (zpD c)))
  rw [zz]
  iintro ⟨H0, ⟨H1, H2, H3⟩, H4⟩
  isplitl [H0]; · iexact H0
  isplitl [H1]; · iexact H1
  isplitl [H2]; · iexact H2
  isplitl [H3] <;> iassumption
theorem bar_x (c : Dev nD) : iprop(rcs c ∗ somes c (outO (xnD c)) ∗ somes c (outY (xnD c))) ⊢ (barPay (xnD c) 1 : sProp 𝕄) := by
  show _ ⊢ iprop(rcs (xnD (xnD c)) ∗ somes (xnD (xnD c)) (outO (xnD c)) ∗ somes (xnD (xnD c)) (outY (xnD c)))
  rw [xx]
theorem bar_y (c : Dev nD) : iprop(rcs c ∗ somes c (outO (ynD c)) ∗ somes c (outX (ynD c))) ⊢ (barPay (ynD c) 2 : sProp 𝕄) := by
  show _ ⊢ iprop(rcs (ynD (ynD c)) ∗ somes (ynD (ynD c)) (outO (ynD c)) ∗ somes (ynD (ynD c)) (outX (ynD c)))
  rw [yy]
theorem bar_elim (c : Dev nD) : iprop(barPay c 0 ∗ barPay c 1 ∗ barPay c 2) ⊢ (iprop((rcs (zpD c) ∗ some' (zpD c) crM ∗ some' (zpD c) ukrM ∗ some' (zpD c) uvrM ∗ somes (zpD c) (oB c))
    ∗ (rcs (xnD c) ∗ somes (xnD c) (outO c) ∗ somes (xnD c) (outY c)) ∗ (rcs (ynD c) ∗ somes (ynD c) (outO c) ∗ somes (ynD c) (outX c))) : sProp 𝕄) := Entails.refl _

theorem wp_front (c : Dev nD) (k : PUnit → ℙ PUnit) (Q : PUnit → sProp 𝕄) :
    iprop((Φ₀ I c ∗ win I c ∗ some' c outM ∗ owesE c (O₀ c)) ∗ ((Recs I c ∗ mid I c) -∗ WP c (k ⟨⟩) Q))
      ⊢ WP c (phaseX c >>= fun _ => phaseB c >>= fun _ => phaseZ c >>= fun _ => loopF 8 (stepQ c) 8 le_rfl >>= fun _ => phaseKV c >>= k) Q := by
  unfold Φ₀ win gh cr inp lsems scr
  rw [ls_parts]
  iintro ⟨⟨⟨#HR, ⟨HS, ⟨HPb, HPs, HPr⟩, HTb⟩, ⟨HCb, HCr⟩, ⟨Hx, Hwq, Hwqr, Hwo⟩, ⟨Sx, ⟨Sq0, Sq1⟩, ⟨Sr0, Sr1⟩, Sw0, Sw1⟩,
    B0, B1, B2, B3, B4, B5, B6, B7, B8, B9, B10, B11, B12, B13, B14, B15, B16⟩, ⟨Hwd, Hwuk, Hwuv, Hwkr⟩, Hout, HO⟩, Hk⟩
  ihave #Hl := (lev_of0 I c) $$ HR
  ihave #Hrc := (show Rec0 I c ⊢ rcs c by unfold Rec0; iintro ⟨-, -, -, H⟩; iexact H) $$ HR
  ihave HS := (snd_parts c) $$ HS
  icases HS with ⟨SZ, SO, SG⟩
  ihave HPs := (pos_parts c) $$ HPs
  icases HPs with ⟨⟨PZ0, PZ1, PZ2⟩, PG⟩
  ihave HW := (wt_parts c) $$ [HCr HPr]
  · isplitl [HCr] <;> iassumption
  icases HW with ⟨WZ, WG⟩
  ihave B13 := (o_split c) $$ B13
  icases B13 with ⟨Oo, On⟩
  ihave Hout := (out_split c) $$ Hout
  icases Hout with ⟨G0, GX, GY⟩
  ihave B14 := (sq_split c) $$ B14
  icases B14 with ⟨Q0, Q1⟩
  ihave B15 := (sqr_split c) $$ B15
  icases B15 with ⟨R0, R1⟩
  ihave B16 := (swo_split c) $$ B16
  icases B16 with ⟨W0, W1⟩
  iapply (wp_seq c)
  iapply (wp_phaseX I c)
  isplitr; · iexact Hl
  isplitl [Hx Sx B0 Hwq Sq0 Q0 Hwqr Sr0 R0 Hwd Hwuk Hwuv B1 B2 B4 B6 HO]
  · unfold preX
    isplitl [Hx Sx B0]
    · isplitl [Hx]; · iexact Hx
      isplitl [Sx]; · iexact Sx
      iexact B0
    isplitl [Hwq Sq0 Q0]
    · isplitl [Hwq]; · iexact Hwq
      isplitl [Sq0]; · iexact Sq0
      iexact Q0
    isplitl [Hwqr Sr0 R0]
    · isplitl [Hwqr]; · iexact Hwqr
      isplitl [Sr0]; · iexact Sr0
      iexact R0
    isplitl [Hwd Hwuk Hwuv]
    · isplitl [Hwd]; · iexact Hwd
      isplitl [Hwuk]; · iexact Hwuk
      iexact Hwuv
    isplitl [B1 B2 B4 B6]
    · isplitl [B1]; · iexact B1
      isplitl [B2]; · iexact B2
      isplitl [B4]; · iexact B4
      iexact B6
    iexact HO
  unfold postX
  iintro ⟨Hx, Fq, Fr, ⟨Hwd, Hwuk, Hwuv⟩, ⟨Hxb, Hcl, Hukl, Huvl⟩, HO⟩
  iapply (wp_seq c)
  iapply (wp_phaseB I c)
  isplitr; · iexact HR
  isplitl [HO]; · iexact HO
  isplitl [B3 B5 B7 On GX GY]
  · isplitl [B3 B5 B7 On]
    · iapply (bar_z c)
      isplitr; · iexact Hrc
      isplitl [B3 B5 B7]
      · isplitl [B3]; · iexact B3
        isplitl [B5]; · iexact B5
        iexact B7
      iexact On
    isplitl [GX]
    · iapply (bar_x c)
      isplitr; · iexact Hrc
      iexact GX
    · iapply (bar_y c)
      isplitr; · iexact Hrc
      iexact GY
  isplitl [HTb]; · iexact HTb
  isplitl [HCb]; · iexact HCb
  isplitl [HPb]; · iexact HPb
  iintro ⟨P0, P1, P2, Fb, HO⟩
  ihave HP := (bar_elim c) $$ [P0 P1 P2]
  · isplitl [P0]; · iexact P0
    isplitl [P1]; · iexact P1
    iexact P2
  icases HP with ⟨⟨Rz, N3, N5, N7, No⟩, ⟨Rx, NX, NXY⟩, Ry, NY, NYX⟩
  ihave #HR' := (recs_intro I c) $$ [Rz Rx Ry]
  · isplitr; · iexact HR
    isplitl [Rz]; · iexact Rz
    isplitl [Rx]; · iexact Rx
    iexact Ry
  iapply (wp_seq c)
  iapply (wp_phaseZ I c)
  isplitr; · iexact HR'
  isplitl [SZ Hcl Hukl Huvl N3 N5 N7 Hxb Hwkr B10 HO]
  · unfold preZ
    isplitl [SZ]; · iexact SZ
    isplitl [Hcl Hukl Huvl]
    · isplitl [Hcl]; · iexact Hcl
      isplitl [Hukl]; · iexact Hukl
      iexact Huvl
    isplitl [N3 N5 N7]
    · isplitl [N3]; · iexact N3
      isplitl [N5]; · iexact N5
      iexact N7
    isplitl [Hxb Hwkr B10]
    · isplitl [Hxb]; · iexact Hxb
      isplitl [Hwkr]; · iexact Hwkr
      iexact B10
    iexact HO
  unfold postZ
  iintro ⟨⟨CZ0, CZ1, CZ2⟩, ⟨Hxb, Hwkr, Hkr⟩, HO⟩
  iapply (wp_seq c)
  iapply (wp_loopQ I c)
  isplitr; · iexact Hl
  isplitl [Fq Fr Sq1 Sr1 Q1 R1 B11 B12 Hxb HO]
  · unfold invQ QF QI
    rw [dif_pos (by decide)]
    isplitl [Fq Fr]
    · isplitl [Fq]; · iexact Fq
      iexact Fr
    isplitl [Sq1 Sr1 Q1 R1]
    · isplitl [Sq1 Q1]
      · isplitl [Sq1]; · iexact Sq1
        iexact Q1
      isplitl [Sr1]; · iexact Sr1
      iexact R1
    isplitl [B11 B12]
    · iapply (PQ_start I c)
      isplitl [B11]; · iexact B11
      iexact B12
    isplitl [Hxb]; · iexact Hxb
    iexact HO
  iintro HQ
  ihave HQ := (invQ_end I c) $$ HQ
  icases HQ with ⟨H1, H2, H3, ⟨Hq, Hqr⟩, Hxb, HO⟩
  iapply (wp_seq c)
  iapply (wp_phaseKV I c)
  isplitr; · iexact HR'
  ihave Hwo' := (pointsTo_share (PosShare.mem_left_op_right fullShare)).1 $$ Hwo
  icases Hwo' with ⟨HwL, HwR⟩
  isplitl [CZ0 CZ1 CZ2 PZ0 PZ1 PZ2 WZ Hwuk Hwuv B8 B9 HwL HwR Sw0 Sw1 W0 W1 HO]
  · unfold preKV
    isplitl [CZ0 CZ1 CZ2 PZ0 PZ1 PZ2]
    · unfold Wt
      isplitl [CZ0 PZ0]
      · isplitl [CZ0]; · iexact CZ0
        iexact PZ0
      isplitl [CZ1 PZ1]
      · isplitl [CZ1]; · iexact CZ1
        iexact PZ1
      isplitl [CZ2]; · iexact CZ2
      iexact PZ2
    isplitl [WZ]; · iexact WZ
    isplitl [Hwuk Hwuv]
    · isplitl [Hwuk]; · iexact Hwuk
      iexact Hwuv
    isplitl [B8 B9]
    · isplitl [B8]; · iexact B8
      iexact B9
    isplitl [HwL HwR Sw0 Sw1 W0 W1]
    · unfold WI
      isplitl [HwL Sw0 W0]
      · isplitl [HwL]; · iexact HwL
        isplitl [Sw0]; · iexact Sw0
        iexact W0
      isplitl [HwR]; · iexact HwR
      isplitl [Sw1]; · iexact Sw1
      iexact W1
    iexact HO
  unfold postKV
  iintro ⟨F1, F2, HB, ⟨Hwuk, Hwuv⟩, ⟨HK, HV⟩, HWF, HO⟩
  iapply Hk
  isplitr; · iexact HR'
  unfold mid win statA
  isplitl [Hx]; · iexact Hx
  isplitl [H1]; · iexact H1
  isplitl [H2]; · iexact H2
  isplitl [H3]; · iexact H3
  isplitl [Hwd Hwuk Hwuv Hwkr]
  · isplitl [Hwd]; · iexact Hwd
    isplitl [Hwuk]; · iexact Hwuk
    isplitl [Hwuv]; · iexact Hwuv
    iexact Hwkr
  isplitl [Fb F1 F2]
  · isplitl [Fb]; · iexact Fb
    isplitl [F1]; · iexact F1
    iexact F2
  isplitl [HB]; · iexact HB
  isplitl [Hxb]; · iexact Hxb
  isplitl [Hkr]; · iexact Hkr
  isplitl [Hq Hqr HK HV]
  · isplitl [Hq]; · iexact Hq
    isplitl [Hqr]; · iexact Hqr
    isplitl [HK]; · iexact HK
    iexact HV
  isplitl [HWF]; · iexact HWF
  isplitl [Oo No]
  · isplitl [Oo]; · iexact Oo
    iexact No
  isplitl [G0 NX NY NYX NXY]
  · isplitl [G0]; · iexact G0
    isplitl [NX]; · iexact NX
    isplitl [NY]; · iexact NY
    isplitl [NYX]; · iexact NYX
    iexact NXY
  isplitl [SO SG]
  · isplitl [SO]; · iexact SO
    iexact SG
  isplitl [PG]; · iexact PG
  isplitl [WG]; · iexact WG
  iexact HO

theorem wp_back (c : Dev nD) (Q : PUnit → sProp 𝕄) :
    iprop((Recs I c ∗ mid I c) ∗ ((Φ₁ I c ∗ win I c ∗ pts c outM fullShare (OUT I c) ∗ owesE c 0) -∗ Q ⟨⟩))
      ⊢ WP c (bodyBack c) Q := by
  unfold mid bodyBack
  simp only [loadR, Prog.lift, Prog.bind_op, Prog.bind_ret]
  iintro ⟨⟨#HR, Hx, H1, H2, H3, Hwin, ⟨Fb, Fz, Fr⟩, HB, Hxb, Hkr, HA, HWF, ⟨Oo, No⟩, ⟨G0, NX, NY, NYX, NXY⟩, ⟨SO, S0, S1, S2, S3⟩, ⟨PO, P0, P1, P2, P3⟩, ⟨WO, V0, V1, V2, V3⟩, HO⟩, Hk⟩
  iapply (wp_ldv c (KR I c) (Memref.readAt_unit_zero (Elt F) cc0_scratch10 hz2 _ _)) $$ Hkr
  iintro Hkr
  iapply (wp_seq c)
  iapply (wp_loop I c 8 (stepA c (KR I c)) (invA I c) (wp_stepA I c))
  isplitr; · iexact HR
  isplitl [HA Oo No SO HO]
  · unfold invA
    rw [fam_zero]
    isplitl [HA]; · iexact HA
    isplitl [Oo No SO]
    · iapply (ta_intro c)
      isplitl [Oo]; · iexact Oo
      isplitl [No]; · iexact No
      iexact SO
    iexact HO
  unfold invA
  rw [fam_all]
  iintro ⟨HA, DA, HO⟩
  ihave DA := (da_elim I c) $$ DA
  icases DA with ⟨OR, CO⟩
  iapply (wp_seq c)
  iapply (wp_loop I c 8 (waitO c) (invO I c) (wp_waitO I c))
  isplitr; · iexact HR
  isplitl [WO HO]
  · unfold invO
    rw [fam_zero]
    isplitl [WO]; · iexact WO
    iexact HO
  unfold invO
  rw [fam_all]
  iintro ⟨DO, HO⟩
  ihave DO := (do_elim I c) $$ DO
  icases DO with ⟨⟨NL, NR⟩, FO⟩
  iapply (wp_seq c)
  iapply (wp_loop I c 16 (stepW c) (invW I c) (wp_stepW I c))
  isplitr; · iexact HR
  isplitl [HWF OR NR G0 NX NY NYX NXY S0 S1 S2 S3 V0 V1 HO]
  · rw [invW_start]
    isplitl [HWF]; · iexact HWF
    isplitl [OR NR]
    · unfold oR'
      rw [o_parts]
      isplitl [OR]; · iexact OR
      iexact NR
    isplitl [G0 NX NY S0 S1]
    · iapply (t1_intro c)
      isplitl [G0]; · iexact G0
      isplitl [NX]; · iexact NX
      isplitl [NY]; · iexact NY
      isplitl [S0]; · iexact S0
      iexact S1
    isplitl [V0 V1 NYX NXY S2 S3]
    · iapply (t2_intro c)
      isplitl [V0]; · iexact V0
      isplitl [V1]; · iexact V1
      isplitl [NYX]; · iexact NYX
      isplitl [NXY]; · iexact NXY
      isplitl [S2]; · iexact S2
      iexact S3
    iexact HO
  rw [invW_end]
  iintro ⟨⟨HWa, HWb⟩, HoR, HD1, HF, HO⟩
  ihave HF' := (show fam (T2 c) (D2 I c) 14 ⊢ iprop(T2 c 14 ∗ (D2 I c 14 -∗ fam (T2 c) (D2 I c) (14 + 1))) from fam_take (T2 c) (D2 I c) (14 : Fin 16)) $$ HF
  icases HF' with ⟨HT, HF⟩
  iapply (wp_fwd I c 14) $$ [HT HO]
  · isplitr; · iexact HR
    isplitl [HT]; · iexact HT
    iexact HO
  iintro ⟨HD, HO⟩
  ihave HF := HF $$ HD
  ihave HF' := (show fam (T2 c) (D2 I c) 15 ⊢ iprop(T2 c 15 ∗ (D2 I c 15 -∗ fam (T2 c) (D2 I c) (15 + 1))) from fam_take (T2 c) (D2 I c) (15 : Fin 16)) $$ HF
  icases HF' with ⟨HT, HF⟩
  iapply (wp_fwd I c 15) $$ [HT HO]
  · isplitr; · iexact HR
    isplitl [HT]; · iexact HT
    iapply (Entails.of_eq (congrArg (owesE c) (gap_82 c))); iexact HO
  iintro ⟨HD, HO⟩
  ihave HF := HF $$ HD
  ihave HF := (show fam (T2 c) (D2 I c) (15 + 1) ⊢ bigSep Finset.univ (D2 I c) from Entails.of_eq (fam_all (T2 c) (D2 I c))) $$ HF
  ihave HF := (d2_elim I c) $$ HF
  icases HF with ⟨⟨F0, F1⟩, ⟨C2, C3⟩, RX, RY⟩
  ihave HD1 := (d1_elim c) $$ HD1
  icases HD1 with ⟨C0, C1⟩
  iapply (wp_seq c)
  iapply (wp_loop I c 16 (drainR c) (invR I c) (wp_drainR I c))
  isplitr; · iexact HR
  isplitl [V2 V3 HO]
  · unfold invR
    rw [fam_zero]
    isplitl [V2 V3]
    · iapply (tr_intro c)
      isplitl [V2]; · iexact V2
      iexact V3
    iexact HO
  unfold invR
  rw [fam_all]
  iintro ⟨HDR, HO⟩
  ihave HDR := (dr_elim I c) $$ HDR
  icases HDR with ⟨GR, F2, F3⟩
  iapply (wp_seq c)
  iapply (wp_loop I c 16 (drainS c) (invS I c) (wp_drainS I c))
  isplitr; · iexact HR
  isplitl [C0 C1 C2 C3 P0 P1 P2 P3 HO]
  · unfold invS
    rw [fam_zero]
    isplitr [HO]
    · iapply (ts_intro c)
      isplitl [C0 C1]
      · isplitl [C0]; · iexact C0
        iexact C1
      isplitl [C2 C3]
      · isplitl [C2]; · iexact C2
        iexact C3
      isplitl [P0]; · iexact P0
      isplitl [P1]; · iexact P1
      isplitl [P2]; · iexact P2
      iexact P3
    iexact HO
  unfold invS
  rw [fam_all]
  iintro ⟨HDS, HO⟩
  ihave HDS := (ds_elim I c) $$ HDS
  icases HDS with ⟨GS, FS⟩
  iapply (wp_loop I c 8 (drainO c) (invD I c) (wp_drainO I c))
  isplitr; · iexact HR
  isplitl [CO PO HO]
  · unfold invD
    rw [fam_zero]
    isplitl [CO PO]
    · iapply (td_intro c)
      isplitl [CO]; · iexact CO
      iexact PO
    iexact HO
  unfold invD
  rw [fam_all]
  iintro ⟨HDD, HO⟩
  ihave HDD := (dd_elim I c) $$ HDD
  icases HDD with ⟨OL, FSO⟩
  iapply Hk
  unfold Φ₁ inp lsems scr statA
  rw [ls_parts]
  icases Hx with ⟨Hx, Sx, B0⟩
  icases H1 with ⟨Hwq, Sq0, Q0⟩
  icases H2 with ⟨Hwqr, Sr0, R0⟩
  icases H3 with ⟨⟨Sq1, Q1⟩, Sr1, R1⟩
  icases HB with ⟨B2, B4, B6, B3, B5, B7⟩
  icases HA with ⟨HQ, HQR, HK, HV⟩
  ihave HWa := (show WI I c 16 ⊢ iprop(hpt c woH fullShare.left (I.wo c) ∗ sem0 c (woS 0) ∗ some' c (swo 0)) from Entails.refl _) $$ HWa
  ihave HWb := (show WI I c 17 ⊢ iprop(hpt c woH fullShare.right (I.wo c) ∗ sem0 c (woS 1) ∗ some' c (swo 1)) from Entails.refl _) $$ HWb
  icases HWa with ⟨HwL, Sw0, W0⟩
  icases HWb with ⟨HwR, Sw1, W1⟩
  isplitr [Hwin GS RX RY GR HO]
  · isplitl [Hx Hwq Hwqr HwL HwR]
    · isplitl [Hx]; · iexact Hx
      isplitl [Hwq]; · iexact Hwq
      isplitl [Hwqr]; · iexact Hwqr
      iapply (pointsTo_share (PosShare.mem_left_op_right fullShare)).2
      isplitl [HwL]; · iexact HwL
      iexact HwR
    isplitl [Sx Sq0 Sq1 Sr0 Sr1 Sw0 Sw1]
    · isplitl [Sx]; · iexact Sx
      isplitl [Sq0 Sq1]
      · isplitl [Sq0]; · iexact Sq0
        iexact Sq1
      isplitl [Sr0 Sr1]
      · isplitl [Sr0]; · iexact Sr0
        iexact Sr1
      isplitl [Sw0]; · iexact Sw0
      iexact Sw1
    isplitl [Fb Fz Fr FO F0 F1 F2 F3 FS FSO]
    · isplitl [Fb]; · iexact Fb
      isplitl [Fz FSO FS]
      · iapply (fin_join c Sum.inl)
        isplitl [Fz]; · iexact Fz
        isplitl [FSO]; · iexact FSO
        iexact FS
      · iapply (fin_join c Sum.inr)
        isplitl [Fr]; · iexact Fr
        isplitl [FO]; · iexact FO
        isplitl [F0]; · iexact F0
        isplitl [F1]; · iexact F1
        isplitl [F2]; · iexact F2
        iexact F3
    isplitl [B0]; · iexact B0
    isplitl [Hxb]; · iapply (pts_some c xbM); iexact Hxb
    isplitl [B2]; · iexact B2
    isplitl [B3]; · iexact B3
    isplitl [B4]; · iexact B4
    isplitl [B5]; · iexact B5
    isplitl [B6]; · iexact B6
    isplitl [B7]; · iexact B7
    isplitl [HK]; · iapply (pts_some c kM); iexact HK
    isplitl [HV]; · iapply (pts_some c vM); iexact HV
    isplitl [Hkr]; · iapply (pts_some c krM); iexact Hkr
    isplitl [HQ]; · iapply (pts_some c qM); iexact HQ
    isplitl [HQR]; · iapply (pts_some c qrM); iexact HQR
    isplitl [HoR OL NL]
    · iapply (pts_some c oM (OA I c))
      iapply (halves c oM (OA I c)).2
      isplitl [OL NL]
      · rw [o_parts]
        isplitl [OL]; · iexact OL
        iexact NL
      · iapply (show oR' I c ⊢ pts c oM fullShare.right (OA I c) from BIBase.Entails.rfl) $$ HoR
    isplitl [Q0 Q1]
    · iapply (sq_join c)
      isplitl [Q0]; · iexact Q0
      iexact Q1
    isplitl [R0 R1]
    · iapply (sqr_join c)
      isplitl [R0]; · iexact R0
      iexact R1
    iapply (swo_join c)
    isplitl [W0]; · iexact W0
    iexact W1
  isplitl [Hwin]; · iexact Hwin
  isplitr [HO]
  · iapply (out_join I c)
    isplitl [GS]; · iexact GS
    isplitl [RX RY]
    · isplitl [RX]; · iexact RX
      iexact RY
    iexact GR
  rw [← Ow_last c]
  iexact HO

theorem wp_ask {α : Type} (c : Dev nD) (k : Dev nD → ℙ α) (Q : α → sProp 𝕄) : WP c (k c) Q ⊢ WP c (Prog.lift TpuEff.deviceId >>= k : ℙ α) Q := by
  unfold WP
  rw [Prog.lift, Prog.bind_op, wp_deviceId]
  exact BIBase.Entails.rfl

theorem wp_body (c : Dev nD) (Q : PUnit → sProp 𝕄) :
    iprop((Φ₀ I c ∗ win I c ∗ some' c outM ∗ owesE c (O₀ c)) ∗ ((Φ₁ I c ∗ win I c ∗ pts c outM fullShare (OUT I c) ∗ owesE c 0) -∗ Q ⟨⟩)) ⊢ WP c body Q := by
  have h := wp_front I c (fun _ => bodyBack c) Q
  have hb := wp_back I c Q
  unfold body
  refine BIBase.Entails.trans ?_ (wp_ask c bodyFront Q)
  unfold bodyFront
  iintro ⟨Hs, Hk⟩
  iapply h
  isplitl [Hs]; · iexact Hs
  iintro Hm
  iapply hb
  isplitl [Hm]; · iexact Hm
  iexact Hk

end Ph

end Cert.K

end
-- ==== Proof.Region.lean ====
/-
The region of the program: its data, what its body meets, and the cells opened as it is entered.
-/
module

public import proofs.«01_k».proof.Proof.Body
public import proofs.«01_k».proof.Proof.Gen.KernelIdeal.Frame
public import Idealize.ShloMosaic.Lib.Pipeline.Regions

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The data of the region -/

/-- What the devices are given: the arrays as the region finds them. -/
def I₀ : Inp F where
  x c := V m c main_arg0
  wq c := V m c main_arg4
  wqr c := V m c main_arg5
  wo c := V m c main_arg7
  wd c := iblk m c 0 t0_0
  wuk c := iblk m c 1 t0_0
  wuv c := iblk m c 2 t0_0
  wkr c := iblk m c 3 t0_0

def dat0 (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => OUT (I₀ m) c
  Φ t := if t.val = 0 then Φ₀ (I₀ m) c else Φ₁ (I₀ m) c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem before_0 (c : Dev nD) (d) : (dat0 m c).before 0 t0_0 d = iblk m c 0 t0_0 := by
  unfold Dat.before; rw [if_pos (fetch0_0 t0_0)]; rfl
theorem before_1 (c : Dev nD) (d) : (dat0 m c).before 1 t0_0 d = iblk m c 1 t0_0 := by
  unfold Dat.before; rw [if_pos (fetch0_1 t0_0)]; rfl
theorem before_2 (c : Dev nD) (d) : (dat0 m c).before 2 t0_0 d = iblk m c 2 t0_0 := by
  unfold Dat.before; rw [if_pos (fetch0_2 t0_0)]; rfl
theorem before_3 (c : Dev nD) (d) : (dat0 m c).before 3 t0_0 d = iblk m c 3 t0_0 := by
  unfold Dat.before; rw [if_pos (fetch0_3 t0_0)]; rfl

theorem Φ_first (c : Dev nD) : (dat0 m c).Φ t0_0.castSucc = Φ₀ (I₀ m) c := by
  show (if (t0_0.castSucc : Fin (cfg0.N + 1)).val = 0 then Φ₀ (I₀ m) c else Φ₁ (I₀ m) c) = _; exact if_pos rfl
theorem Φ_next (c : Dev nD) : (dat0 m c).Φ t0_0.succ = Φ₁ (I₀ m) c := by
  show (if (t0_0.succ : Fin (cfg0.N + 1)).val = 0 then Φ₀ (I₀ m) c else Φ₁ (I₀ m) c) = _; exact if_neg (Nat.succ_ne_zero _)
theorem Φ_zero (c : Dev nD) : (pdats m 0 c).Φ 0 = Φ₀ (I₀ m) c := by
  show (if ((0 : Fin (cfg0.N + 1)).val = 0) then Φ₀ (I₀ m) c else Φ₁ (I₀ m) c) = _; exact if_pos rfl
theorem Φ_last (c : Dev nD) : (pdats m 0 c).Φ (Fin.last _) = Φ₁ (I₀ m) c := by
  show (if (Fin.last cfg0.N).val = 0 then Φ₀ (I₀ m) c else Φ₁ (I₀ m) c) = _
  rw [Fin.val_last, if_neg (by rw [show cfg0.N = 1 from N_0]; decide)]
theorem owed_first (c : Dev nD) : (dat0 m c).owed t0_0.castSucc = O₀ c := by
  show (if (t0_0.castSucc : Fin (cfg0.N + 1)).val = 0 then O₀ c else 0) = _; exact if_pos rfl
theorem owed_next (c : Dev nD) : (dat0 m c).owed t0_0.succ = 0 := by
  show (if (t0_0.succ : Fin (cfg0.N + 1)).val = 0 then O₀ c else 0) = _; exact if_neg (Nat.succ_ne_zero _)
theorem owed_zero (c : Dev nD) : (pdats m 0 c).owed 0 = O₀ c := by
  show (if ((0 : Fin (cfg0.N + 1)).val = 0) then O₀ c else 0) = _; exact if_pos rfl
theorem owed_last (c : Dev nD) : (pdats m 0 c).owed (Fin.last _) = 0 := by
  show (if (Fin.last cfg0.N).val = 0 then O₀ c else 0) = _
  rw [Fin.val_last, if_neg (by rw [show cfg0.N = 1 from N_0]; decide)]

theorem owed_in {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    owesE c O ⊢ (dat.owesAt () t : sProp 𝕄) := by
  unfold owesE Dat.owesAt Pipeline.owesWithin Dat.bound; rw [h0, hr]
  iintro ⟨%W, HO⟩; iexists W; isplitr; · ipureintro; exact fun _ _ => Or.inl trivial
  iexact HO
theorem owed_out {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ owesE c O := by
  unfold owesE Dat.owesAt Pipeline.owesWithin; rw [h0]
  iintro ⟨%W, -, HO⟩; iexists W; iexact HO

/-! ## The body's obligation -/

theorem owns_pts (c : Dev nD) (b : Ref sig .tc) (X : b.ty.Contents (Elt F)) :
    (owns (c : Thread nD τ) (Memref.whole b) fullShare X : sProp 𝕄) = ((Memref.whole b).view.loc (c : Thread nD τ) ↦[(Memref.whole b).view.set]{fullShare} X) := by
  rw [owns_whole]; simp only [Memref.view_whole, View.set_whole]

theorem owns_in (c : Dev nD) (b : Ref sig .tc) (X : b.ty.Contents (Elt F)) :
    (owns (c : Thread nD τ) (Memref.whole b) fullShare X : sProp 𝕄) ⊢ ((Memref.whole b).view.loc (c : Thread nD τ) ↦[(Memref.whole b).view.set]{fullShare} X) :=
  Entails.of_eq (owns_pts c b X)

theorem win_in (c : Dev nD) :
    iprop((∃ d, owns (c : Thread nD τ) wdM fullShare ((dat0 m c).before 0 t0_0 d)) ∗ (∃ d, owns (c : Thread nD τ) wukM fullShare ((dat0 m c).before 1 t0_0 d))
      ∗ (∃ d, owns (c : Thread nD τ) wuvM fullShare ((dat0 m c).before 2 t0_0 d)) ∗ (∃ d, owns (c : Thread nD τ) wkrM fullShare ((dat0 m c).before 3 t0_0 d))
      ∗ ∃ d, owns (c : Thread nD τ) outM fullShare ((dat0 m c).before 4 t0_0 d))
      ⊢ iprop(win (I₀ m) c ∗ some' c outM) := by
  simp only [before_0, before_1, before_2, before_3]
  iintro ⟨⟨%d0, H0⟩, ⟨%d1, H1⟩, ⟨%d2, H2⟩, ⟨%d3, H3⟩, ⟨%d4, H4⟩⟩
  unfold win some'
  isplitr [H4]
  · isplitl [H0]; · iapply (owns_in c cc0_stg0_0 _); iexact H0
    isplitl [H1]; · iapply (owns_in c cc0_stg1_0 _); iexact H1
    isplitl [H2]; · iapply (owns_in c cc0_stg2_0 _); iexact H2
    iapply (owns_in c cc0_stg3_0 _); iexact H3
  · iexists _; iapply (owns_in c cc0_stg4_0 _); iexact H4
theorem win_out (c : Dev nD) :
    iprop(win (I₀ m) c ∗ pts c outM fullShare (OUT (I₀ m) c))
    ⊢ iprop(owns (c : Thread nD τ) wdM fullShare ((dat0 m c).after 0 t0_0) ∗ owns (c : Thread nD τ) wukM fullShare ((dat0 m c).after 1 t0_0)
      ∗ owns (c : Thread nD τ) wuvM fullShare ((dat0 m c).after 2 t0_0) ∗ owns (c : Thread nD τ) wkrM fullShare ((dat0 m c).after 3 t0_0)
      ∗ owns (c : Thread nD τ) outM fullShare ((dat0 m c).after 4 t0_0)) := by
  unfold win
  iintro ⟨⟨H0, H1, H2, H3⟩, H4⟩
  isplitl [H0]; · rw [owns_pts]; iexact H0
  isplitl [H1]; · rw [owns_pts]; iexact H1
  isplitl [H2]; · rw [owns_pts]; iexact H2
  isplitl [H3]; · rw [owns_pts]; iexact H3
  rw [owns_pts]; iexact H4

theorem body_call : defs₀ (F := F) .tc cfg0.body (cfg0.bodyArgs t0_0 (cfg0.slots t0_0)) = body :=
  (rfl : _ = bodyAt0 t0_0).trans bodyAt_eq

theorem body_ob (c : Dev nD) : BodyObligation (dat0 (F := F) m c) defs₀ 𝒱₀ () Set.univ := fun t => by
  obtain rfl := fin_N0 t
  rw [bigSep_W0, bigSep_W0, Φ_first, Φ_next]
  rw [body_call]
  iintro ⟨HΦ, HO, HW⟩
  ihave HO' := (owed_out (dat0 m c) _ (O₀ c) (owed_first m c)) $$ HO
  ihave HW' := (win_in m c) $$ HW
  icases HW' with ⟨Hw, Ho⟩
  iapply (wp_body (I₀ m) c _)
  isplitl [HΦ Hw Ho HO']
  · isplitl [HΦ]; · iexact HΦ
    isplitl [Hw]; · iexact Hw
    isplitl [Ho]; · iexact Ho
    iexact HO'
  iintro ⟨HΦ, Hw, Ho, HO⟩
  isplitl [HΦ]; · iexact HΦ
  isplitl [HO]; · iapply (owed_in (dat0 m c) t0_0.succ 0 (owed_next m c) rfl); iexact HO
  iapply (win_out m c)
  isplitl [Hw] <;> iassumption

/-! ## The cells opened -/

/-- What a device has of the cells before its region is entered: all its cells but the barrier's still closed. -/
def Gd (c : Dev nD) : sProp 𝕄 :=
  iprop(Invs (I₀ m) ∗ bars ∗ (bigSep Finset.univ fun k : Tr ⊕ Tr => openTok ER (cell c (.inr k))) ∗ (bigSep Finset.univ fun t => Snd c t) ∗ Pos c (.inl ())
    ∗ (dutyTok ER (barCell (zpD c)) 0 (0 : Fin 3) ∗ dutyTok ER (barCell (xnD c)) 0 (1 : Fin 3) ∗ dutyTok ER (barCell (ynD c)) 0 (2 : Fin 3)) ∗ cr c)

theorem with_all {K : Type} [Fintype K] [DecidableEq K] {R : sProp 𝕄} [BI.Persistent R] {Φ Ψ : K → sProp 𝕄} (h : ∀ k, iprop(R ∗ Φ k) ⊢ Ψ k) :
    iprop(R ∗ bigSep Finset.univ Φ) ⊢ bigSep Finset.univ Ψ := by
  refine BIBase.Entails.trans (sep_mono_left (BI.bigSep_of_persistent (Finset.univ : Finset K) R)) ?_
  rw [← bigSep_sep']
  exact bigSep_mono fun k _ => h k

theorem open_one (c : Dev nD) (k : Tr ⊕ Tr) : iprop(Invs (I₀ m) ∗ openTok ER (cell c (.inr k)) ∗ Fin0 c (.inr k))
    ⊢ iprop(|={Set.univ}=> (Pos c (.inr k) ∗ reached ER (cell c (.inr k)) 0)) := by
  unfold Fin0 Pos
  iintro ⟨HI, HT, HS⟩
  ihave HC := (inv_at (I₀ m) c (.inr k)) $$ HI
  icases HC with ⟨%κ, HC⟩
  iapply (Rounds.cell_open ER (Rd (I₀ m)) (κ := κ) (g := cell c (.inr k)) (Set.mem_univ κ))
  isplitl [HC]; · iexact HC
  isplitl [HT] <;> iassumption

theorem open_all (c : Dev nD) : iprop(Invs (I₀ m) ∗ (bigSep Finset.univ fun k : Tr ⊕ Tr => openTok ER (cell c (.inr k))) ∗ bigSep Finset.univ fun k : Tr ⊕ Tr => Fin0 c (.inr k))
    ⊢ iprop(|={Set.univ}=> (((bigSep Finset.univ fun t => Pos c (.inr (.inl t))) ∗ bigSep Finset.univ fun t => Pos c (.inr (.inr t))) ∗ scs c ∗ rcs c)) := by
  have e : iprop(((bigSep Finset.univ fun t => Pos c (.inr (.inl t))) ∗ bigSep Finset.univ fun t => Pos c (.inr (.inr t))) ∗ scs c ∗ rcs c)
      = (bigSep Finset.univ fun k : Tr ⊕ Tr => iprop(Pos c (.inr k) ∗ reached ER (cell c (.inr k)) 0) : sProp 𝕄) := by
    rw [bigSep_sep', BI.bigSep_univ_sum (fun k : Tr ⊕ Tr => Pos c (.inr k)), BI.bigSep_univ_sum (fun k : Tr ⊕ Tr => reached ER (cell c (.inr k)) 0)]; rfl
  rw [e, ← bigSep_sep']
  exact (with_all fun k => open_one m c k).trans (bigSep_fupd _ _)

theorem sems_parts (c : Dev nD) : (Pipeline.ownSems0 (Ix := Unit) (Val := Elt F) (Name := ℕ) (U := UU) (Lvl := ℕ) osem c : sProp 𝕄)
    = iprop(lsems c ∗ bigSep Finset.univ fun k : Tr ⊕ Tr => Fin0 c (.inr k)) := by
  unfold Pipeline.ownSems0; rw [BI.bigSep_univ_sum]; rfl

theorem fin_parts (c : Dev nD) : iprop((bigSep Finset.univ fun t => Fin0 c (.inr (.inl t))) ∗ bigSep Finset.univ fun t => Fin0 c (.inr (.inr t)))
    ⊢ (bigSep Finset.univ fun k : Tr ⊕ Tr => Fin0 c (.inr k) : sProp 𝕄) := Entails.of_eq (BI.bigSep_univ_sum fun k : Tr ⊕ Tr => Fin0 c (.inr k)).symm

/-! ## The two segments -/

theorem arrays_is (c : Dev nD) (Fa) : ((pdats (F := F) m 0 c).arrays Fa : sProp 𝕄)
    = bigSep Finset.univ fun w : Fin 5 => (((c : Thread nD τ).loc (Pipeline.arrRef spec0 w)) ↦{fullShare} Fa w) := by
  unfold Dat.arrays
  exact bigSep_congr fun w _ => by
    rw [(arr_whole0 w).set_eq_univ, show (pdats (F := F) m 0 c).share w = fullShare by unfold Dat.share; split <;> rfl]

theorem none_sep (Φ : Fin 0 → sProp 𝕄) : bigSep Finset.univ Φ = (BI.emp : sProp 𝕄) := bigSep_univ_eq_bigSepL [] (by decide) (by decide) Φ
theorem no_tables (c : Dev nD) (q) (pf) : (Pipeline.prefHeld (Ix := Unit) (Name := ℕ) (U := UU) (Lvl := ℕ) (Val := Elt F) (pcfgs (F := F) 0).pre c q pf : sProp 𝕄) = BI.emp :=
  none_sep _

theorem bufs_split (c : Dev nD) : (StableHlo.held (c : Thread nD τ) (Pipeline.ucRefs τ sig) (StableHlo.after hostOps0 fun b => m (c, b)) : sProp 𝕄)
    = iprop((bigSep Finset.univ fun w : Fin 5 => (((c : Thread nD τ).loc (Pipeline.arrRef spec0 w)) ↦{fullShare} V m c (Pipeline.arrRef spec0 w)))
      ∗ Pipeline.unscopedRest spec0 c (V m c)) := by
  rw [← Pipeline.unscopedBufs_held]
  exact Pipeline.unscopedBufs_split cfgs 0 winFacts0.arr_unscoped winFacts0.arr_inj c (V m c)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

def H0 : ℍ := Pipeline.HostSeg.ofOps _ _ _ _ _ (Pipeline.ucRefs τ sig) hostOps0
  (fun op h => Pipeline.sub_ucRefs op (List.forall_iff_forall_mem.mp hostOps0_sub op h)) (fun op h => List.forall_iff_forall_mem.mp hostOps0_fresh op h)
  (fun c b => m (c, b)) fun c => iprop(Gd m c ∗ owesE c (O₀ c))

/-- What a device holds at the end. -/
def Tn (c : Dev nD) : sProp 𝕄 :=
  iprop((bigSep Finset.univ fun w : Fin 5 => (((c : Thread nD τ).loc (Pipeline.arrRef spec0 w)) ↦{fullShare} (dat0 m c).arrAt w cfg0.N))
    ∗ Pipeline.unscopedRest spec0 c (V m c) ∗ Fin0 c (.inl ()))

theorem entry (c : Dev nD) :
    iprop((StableHlo.held (c : Thread nD τ) (Pipeline.ucRefs τ sig) (StableHlo.after hostOps0 fun b => m (c, b)) ∗ Gd m c ∗ owesE c (O₀ c))
      ∗ Pipeline.ownSems0 osem c ∗ levAts L lv)
      ⊢ iprop(|={Set.univ}=> ((pdats m 0 c).arrays ((pdats m 0 c).arrAt · 0) ∗ Pipeline.prefHeld (pcfgs (F := F) 0).pre c (fun _ => fullShare) (adm (F := F) 0).1
        ∗ (pdats m 0 c).owesAt () 0 ∗ iprop(Rec0 (I₀ m) c ∗ gh c ∗ cr c ∗ inp (I₀ m) c ∗ lsems c) ∗ (((c : Thread nD τ).loc main_arg6) ↦{fullShare} V m c main_arg6))) := by
  rw [bufs_split, sems_parts, arrays_is, no_tables, unscopedRest0_eq]
  unfold Gd
  iintro ⟨⟨⟨HA, A0, A4, A5, A6, A7⟩, ⟨#HI, Hb, HT, HS, HP, HD, HC⟩, HO⟩, ⟨HL, HF⟩, -⟩
  imod (open_all m c) $$ [HT HF] with ⟨⟨P1, P2⟩, Hs, Hr⟩
  · isplitr; · iexact HI
    isplitl [HT] <;> iassumption
  imodintro
  isplitl [HA]; · iexact HA
  isplitr; · iempintro
  isplitl [HO]; · iapply (owed_in (pdats m 0 c) 0 (O₀ c) (owed_zero m c) rfl); iexact HO
  isplitr [A6]
  · unfold Rec0 gh inp
    isplitl [Hb Hs Hr]
    · isplitr; · iexact HI
      isplitl [Hb]; · iexact Hb
      isplitl [Hs] <;> iassumption
    isplitl [HS HP P1 P2 HD]
    · isplitl [HS]; · iexact HS
      isplitl [HP P1 P2]
      · isplitl [HP]; · iexact HP
        isplitl [P1] <;> iassumption
      iexact HD
    isplitl [HC]; · iexact HC
    isplitr [HL]
    · isplitl [A0]; · iexact A0
      isplitl [A4]; · iexact A4
      isplitl [A5]; · iexact A5
      iexact A7
    iexact HL
  · iexact A6

theorem some_whole {s : Shape} {e : EltTy} (c : Dev nD) (b : Memref sig .tc .vmem s e) (h : b.IsWhole) :
    (some' c b : sProp 𝕄) = iprop(∃ f : Buf (Elt F) (b.view.loc (c : Thread nD τ)), b.view.loc (c : Thread nD τ) ↦{fullShare} f) := by
  unfold some' pts; rw [h.set_eq_univ]
theorem sep_eq {A A' B B' : sProp 𝕄} (h : A = A') (h' : B = B') : iprop(A ∗ B) = iprop(A' ∗ B') := by rw [h, h']
theorem scr_in (c : Dev nD) : (Pipeline.scopedRest (Ix := Unit) (Name := ℕ) (U := UU) (Lvl := ℕ) (Val := Elt F) spec0 c : sProp 𝕄) = scr c := by
  rw [scopedRest0_eq]; unfold scr
  exact sep_eq (some_whole c x32M (Memref.isWhole_whole _)).symm <| sep_eq (some_whole c xbM (Memref.isWhole_whole _)).symm <| sep_eq (some_whole c clM (Memref.isWhole_whole _)).symm <| sep_eq (some_whole c crM (Memref.isWhole_whole _)).symm <| sep_eq (some_whole c uklM (Memref.isWhole_whole _)).symm <| sep_eq (some_whole c ukrM (Memref.isWhole_whole _)).symm <| sep_eq (some_whole c uvlM (Memref.isWhole_whole _)).symm <| sep_eq (some_whole c uvrM (Memref.isWhole_whole _)).symm <| sep_eq (some_whole c kM (Memref.isWhole_whole _)).symm <| sep_eq (some_whole c vM (Memref.isWhole_whole _)).symm <| sep_eq (some_whole c krM (Memref.isWhole_whole _)).symm <| sep_eq (some_whole c qM (Memref.isWhole_whole _)).symm <| sep_eq (some_whole c qrM (Memref.isWhole_whole _)).symm <| sep_eq (some_whole c oM (Memref.isWhole_whole _)).symm <| sep_eq (some_whole c sqM (Memref.isWhole_whole _)).symm <| sep_eq (some_whole c sqrM (Memref.isWhole_whole _)).symm <| (some_whole c swoM (Memref.isWhole_whole _)).symm

def R0 : ℝ𝕊 0 where
  win := winFacts0.to₀
  block_pos := block_pos0
  stage_whole := stage_whole0
  K := Ls ⊕ (Tr ⊕ Tr)
  osem := osem
  ho := ⟨osem_scoped, osem_inj, by
    have h : ∀ (k : Ls ⊕ (Tr ⊕ Tr)), 5 ≤ osemNo k := by decide +kernel
    have h' : ∀ (w : Fin 5) (s : Fin (spec0 w).nbuf), ((spec0 w).sem s).val < 5 := by decide +kernel
    intro k w s e
    have := congrArg semNo e
    rw [semNo_osem] at this
    have h1 := h k
    have h2 := h' w s
    have : osemNo k = ((spec0 w).sem s).val := this
    omega⟩
  hbody c := (body_ob m c).loose
  hwaits c := by
    have h' : ∀ (w : Fin 5) (s : Fin (spec0 w).nbuf), ((spec0 w).sem s).val < 5 := by decide +kernel
    refine Pipeline.cellsWaits_intro _ (pdats m) () 0 c fun w s t => ?_
    have hl : lv ((c : Thread nD τ), .dma ((spec0 w).sem s)) () = 0 := lv_stage c _ (h' w s)
    have ho : (pdats m 0 c).owed t = if t.val = 0 then O₀ c else 0 := rfl
    rw [ho]
    by_cases ht : t.val = 0
    · rw [if_pos ht]; exact mayWait_O₀ c _ hl
    · rw [if_neg ht, MayWait_zero]; exact BI.true_intro
  pre c := iprop(StableHlo.held (c : Thread nD τ) (Pipeline.ucRefs τ sig) (StableHlo.after hostOps0 fun b => m (c, b)) ∗ Gd m c ∗ owesE c (O₀ c))
  post c := iprop(Tn m c ∗ owesE c 0)
  X c := iprop(Rec0 (I₀ m) c ∗ gh c ∗ cr c ∗ inp (I₀ m) c ∗ lsems c)
  Y c := iprop(inp (I₀ m) c ∗ Fin0 c (.inl ()))
  Z c := ((c : Thread nD τ).loc main_arg6) ↦{fullShare} V m c main_arg6
  hentry c := entry m c
  hin c := by
    rw [Φ_zero, no_tables]
    unfold Φ₀
    rw [← scr_in]
    iintro ⟨⟨H1, H2, H3, H4, H5⟩, -, H6⟩
    isplitl [H1]; · iexact H1
    isplitl [H2]; · iexact H2
    isplitl [H3]; · iexact H3
    isplitl [H4]; · iexact H4
    isplitl [H5]; · iexact H5
    iexact H6
  hout c := by
    rw [Φ_last, sems_parts]
    unfold Φ₁
    rw [← scr_in]
    iintro ⟨H1, H2, ⟨H3, H4, H5⟩, H6⟩
    isplitl [H1 H3]; · isplitl [H1] <;> iassumption
    isplitr [H6]
    · isplitl [H2]; · iexact H2
      iapply (fin_parts c)
      isplitl [H4]; · iexact H4
      iexact H5
    iexact H6
  hexit c := by
    unfold Tn inp
    rw [arrays_is, unscopedRest0_eq]
    iintro ⟨HA, HO, ⟨⟨A0, A4, A5, A7⟩, HF⟩, A6⟩
    imodintro
    isplitr [HO]
    · isplitl [HA]; · iexact HA
      isplitr [HF]
      · isplitl [A0]; · iexact A0
        isplitl [A4]; · iexact A4
        isplitl [A5]; · iexact A5
        isplitl [A6]; · iexact A6
        iexact A7
      iexact HF
    iapply (owed_out (pdats m 0 c) _ 0 (owed_last m c)); iexact HO

def segs : List (Pipeline.Seg (pcfgs (F := F)) adm (pdats m) () defs₀ 𝒱₀ L lv) := [.host (H0 m), .region (R0 m)]

theorem main_eq (c : Dev nD) : main (F := F) c = Pipeline.Seg.run (segs m) :=
  main_segs adm (pdats m) () 𝒱₀ L lv (H0 m) (R0 m) rfl c

end Cert.K

end
-- ==== Proof.Run.lean ====
/-
The run of the program: the cells set up at the start, the segments one after the other, and what the memory holds at the end.
-/
module

public import proofs.«01_k».proof.Proof.Region

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem bfrom_bfrom : ∀ (d : Fin 3) (c : Dev nD), bfrom d (bfrom d c) = c := by decide +kernel

def barAt : Dev nD ↪ GSem nD τ sig := ⟨barCell, fun _ _ h => (cell_inj h).1⟩
def cellAt : Dev nD × (Tr ⊕ Tr) ↪ GSem nD τ sig :=
  ⟨fun p => cell p.1 (.inr p.2), fun p q h => Prod.ext (cell_inj h).1 (Sum.inr_injective (cell_inj h).2)⟩
/-- The tokens a device holds: for its signals at the barrier, its sends, and what its sends bring elsewhere. -/
abbrev Tk := Fin 3 ⊕ (Tr ⊕ Tr)
def tokOf (c : Dev nD) : Tk → GSem nD τ sig × ℕ × Fin 3
  | .inl d => (barCell (bfrom d c), 0, d)
  | .inr (.inl t) => (sendCell c t, 0, 0)
  | .inr (.inr t) => (recvCell (tgt t c) t, 0, 0)
theorem tokOf_inj : Function.Injective fun p : Dev nD × Tk => tokOf p.1 p.2 := by
  rintro ⟨c, k⟩ ⟨c', k'⟩ h
  have h1 : (tokOf c k).1 = (tokOf c' k').1 := congrArg Prod.fst h
  have h2 : (tokOf c k).2.2 = (tokOf c' k').2.2 := congrArg (fun x => x.2.2) h
  match k, k', h1, h2 with
  | .inl d, .inl d', h1, h2 =>
    obtain rfl : d = d' := h2
    have := (cell_inj h1).1
    rw [← bfrom_bfrom d c, this, bfrom_bfrom]
  | .inr (.inl t), .inr (.inl t'), h1, _ =>
    obtain ⟨rfl, hk⟩ := cell_inj h1
    rw [Sum.inl_injective (Sum.inr_injective hk)]
  | .inr (.inr t), .inr (.inr t'), h1, _ =>
    obtain ⟨hc, hk⟩ := cell_inj h1
    obtain rfl := Sum.inr_injective (Sum.inr_injective hk)
    rw [← tgt_tgt t c, hc, tgt_tgt]
  | .inl d, .inr (.inl t), h1, _ => exact nomatch (cell_inj h1).2
  | .inl d, .inr (.inr t), h1, _ => exact nomatch (cell_inj h1).2
  | .inr (.inl t), .inl d, h1, _ => exact nomatch (cell_inj h1).2
  | .inr (.inr t), .inl d, h1, _ => exact nomatch (cell_inj h1).2
  | .inr (.inl t), .inr (.inr t'), h1, _ => exact nomatch Sum.inr_injective (cell_inj h1).2
  | .inr (.inr t), .inr (.inl t'), h1, _ => exact nomatch Sum.inr_injective (cell_inj h1).2

def bCells : Finset (GSem nD τ sig) := Finset.univ.map barAt
def tCells : Finset (GSem nD τ sig) := Finset.univ.map cellAt
def toks : Finset (GSem nD τ sig × ℕ × Fin 3) := Finset.univ.map ⟨fun p : Dev nD × Tk => tokOf p.1 p.2, tokOf_inj⟩

theorem cells_disj : Disjoint bCells tCells := by
  rw [Finset.disjoint_left]
  intro g h h'
  obtain ⟨c, -, rfl⟩ := Finset.mem_map.mp h
  obtain ⟨p, -, hp⟩ := Finset.mem_map.mp h'
  exact nomatch (cell_inj (show cell p.1 (.inr p.2) = cell c (.inl ()) from hp)).2

theorem cell_mem (c : Dev nD) : ∀ k : Ck, cell c k ∈ bCells ∪ tCells
  | .inl () => Finset.mem_union_left _ (Finset.mem_map_of_mem barAt (Finset.mem_univ c))
  | .inr k => Finset.mem_union_right _ (Finset.mem_map_of_mem cellAt (Finset.mem_univ (c, k)))

def u₀ : UU :=
  (initOf (Pipeline.cells (Pipeline.pin (pcfgs (F := F)) adm) cellOf_inj) (Pipeline.launchToks (Pipeline.pin (pcfgs (F := F)) adm) cellOf_inj),
    (launchOf bCells tCells toks, 1))

/-- The shared cells' launch element, held by the first device. -/
def G₀ (c : Dev nD) : sProp 𝕄 := if c = 0 then BI.own (ER (launchOf bCells tCells toks)) else BI.emp
theorem G₀_all : bigSep Finset.univ (G₀ (F := F)) = (BI.own (ER (launchOf bCells tCells toks)) : sProp 𝕄) := by
  have e : (bigSep (Finset.univ.erase 0) (G₀ (F := F)) : sProp 𝕄) = BI.emp :=
    (bigSep_congr fun c hc => if_neg (Finset.ne_of_mem_erase hc)).trans (bigSep_emp_const _)
  rw [bigSep_univ_at _ (0 : Dev nD), e]
  refine BI.Entails.antisymm ?_ ?_
  · show iprop(BI.own (ER (launchOf bCells tCells toks)) ∗ BI.emp) ⊢ _
    iintro ⟨H, -⟩; iexact H
  · show _ ⊢ iprop(BI.own (ER (launchOf bCells tCells toks)) ∗ BI.emp)
    iintro H; isplitl [H]; · iexact H
    iempintro

/-! ## What the launch element gives -/

/-- A device's share: its cells but the barrier's closed, its tokens, its place at the barrier. -/
def own0 (c : Dev nD) : sProp 𝕄 :=
  iprop((bigSep Finset.univ fun k : Tr ⊕ Tr => openTok ER (cell c (.inr k))) ∗ (bigSep Finset.univ fun t => Snd c t) ∗ Pos c (.inl ())
    ∗ (dutyTok ER (barCell (zpD c)) 0 (0 : Fin 3) ∗ dutyTok ER (barCell (xnD c)) 0 (1 : Fin 3) ∗ dutyTok ER (barCell (ynD c)) 0 (2 : Fin 3)))

theorem toks_one (c : Dev nD) : (bigSep Finset.univ fun k : Tk => dutyTok ER (tokOf c k).1 (tokOf c k).2.1 (tokOf c k).2.2 : sProp 𝕄)
    = iprop((dutyTok ER (barCell (zpD c)) 0 (0 : Fin 3) ∗ dutyTok ER (barCell (xnD c)) 0 (1 : Fin 3) ∗ dutyTok ER (barCell (ynD c)) 0 (2 : Fin 3))
      ∗ bigSep Finset.univ fun t => Snd c t) := by
  rw [BI.bigSep_univ_sum, BI.bigSep_univ_sum]
  refine sep_eq (bigSep_univ_eq_bigSepL [(0 : Fin 3), 1, 2] (by decide) (by decide) _) ?_
  exact (bigSep_sep' _ _ _).symm

theorem own0_one (c : Dev nD) : iprop(Pos c (.inl ()) ∗ (bigSep Finset.univ fun k : Tr ⊕ Tr => openTok ER (cell c (.inr k)))
      ∗ (dutyTok ER (barCell (zpD c)) 0 (0 : Fin 3) ∗ dutyTok ER (barCell (xnD c)) 0 (1 : Fin 3) ∗ dutyTok ER (barCell (ynD c)) 0 (2 : Fin 3))
        ∗ bigSep Finset.univ fun t => Snd c t) ⊢ (own0 c : sProp 𝕄) := by
  unfold own0
  iintro ⟨HP, HT, HD, HS⟩
  isplitl [HT]; · iexact HT
  isplitl [HS]; · iexact HS
  isplitl [HP] <;> iassumption

theorem own0_all : iprop((bigSep bCells fun g => atPos ER g 0 (∅ : Finset (Fin 3)) 0) ∗ (bigSep tCells fun g => openTok ER g)
      ∗ bigSep toks fun x => dutyTok ER x.1 x.2.1 x.2.2)
    ⊢ (bigSep Finset.univ own0 : sProp 𝕄) := by
  have e1 : (bigSep bCells fun g => atPos ER g 0 (∅ : Finset (Fin 3)) 0 : sProp 𝕄) = bigSep Finset.univ fun c => Pos c (.inl ()) := by
    unfold bCells; rw [BI.bigSep_map]; rfl
  have e2 : (bigSep tCells fun g => openTok ER g : sProp 𝕄) = bigSep Finset.univ fun c : Dev nD => bigSep Finset.univ fun k : Tr ⊕ Tr => openTok ER (cell c (.inr k)) := by
    unfold tCells; rw [BI.bigSep_map, BI.bigSep_univ_prod]; rfl
  have e3 : (bigSep toks fun x => dutyTok ER x.1 x.2.1 x.2.2 : sProp 𝕄) = bigSep Finset.univ fun c : Dev nD =>
      iprop((dutyTok ER (barCell (zpD c)) 0 (0 : Fin 3) ∗ dutyTok ER (barCell (xnD c)) 0 (1 : Fin 3) ∗ dutyTok ER (barCell (ynD c)) 0 (2 : Fin 3))
        ∗ bigSep Finset.univ fun t => Snd c t) := by
    unfold toks; rw [BI.bigSep_map, BI.bigSep_univ_prod]; exact bigSep_congr fun c _ => toks_one c
  rw [e1, e2, e3, ← bigSep_sep', ← bigSep_sep']
  exact bigSep_mono fun c _ => own0_one c

theorem unscopedSems0_bar (c : Dev nD) : (unscopedSems0 c : sProp 𝕄) = Fin0 c (.inl ()) := by
  unfold unscopedSems0
  rw [bigSep_eq_bigSepL_of_eq [SemLoc.reg barS] (by decide) (by decide)]; rfl

theorem inv_cell (κ : GSem nD τ sig → ℕ) (p : Dev nD × Ck) :
    (bigSep (bCells ∪ tCells) fun g => cellInv ER (Rd (I₀ m)) (κ g) g) ⊢ (iprop(∃ κ : ℕ, cellInv ER (Rd (I₀ m)) κ (cell p.1 p.2)) : sProp 𝕄) := by
  refine BIBase.Entails.trans (bigSep_elim (cell_mem p.1 p.2)) ?_
  iintro H; iexists κ (cell p.1 p.2); iexact H

theorem invs_all (κ : GSem nD τ sig → ℕ) :
    iprop((bigSep (bCells ∪ tCells) fun g => cellInv ER (Rd (I₀ m)) (κ g) g) ∗ levAts L lv) ⊢ Invs (I₀ m) := by
  unfold Invs
  iintro ⟨#H, #HL⟩
  isplitr
  · iapply (BI.bigSep_intro_persistent (R := bigSep (bCells ∪ tCells) fun g => cellInv ER (Rd (I₀ m)) (κ g) g) fun p _ => inv_cell m κ p)
    iexact H
  iexact HL

theorem fund : iprop((bigSep Finset.univ fun c : Dev nD => Fin0 c (.inl ())) ∗ BI.own (ER (launchOf bCells tCells toks)) ∗ levAts L lv)
    ⊢ iprop(|={Set.univ}=> ((Invs (I₀ m) ∗ bars) ∗ bigSep Finset.univ own0) : sProp 𝕄) := by
  have e1 : (bigSep Finset.univ fun c : Dev nD => Fin0 c (.inl ()) : sProp 𝕄) = bigSep bCells fun g => semVal g 0 := by
    unfold bCells; rw [BI.bigSep_map]; rfl
  have e2 : (bigSep bCells fun g => reached ER g 0 : sProp 𝕄) = bars := by
    unfold bCells; rw [BI.bigSep_map]; rfl
  rw [e1, ← e2]
  iintro ⟨HS, HU, HL⟩
  imod (Rounds.fund_launch ER (Rd (I₀ m)) (Es := Set.univ) cells_disj (fun _ _ h => h) toks) $$ [HS HU] with ⟨%κ, -, HI, HR, HP, HT, HD⟩
  · isplitl [HS] <;> iassumption
  imodintro
  isplitl [HI HL HR]
  · isplitr [HR]
    · iapply (invs_all m κ)
      isplitl [HI] <;> iassumption
    iexact HR
  iapply own0_all
  isplitl [HP]; · iexact HP
  isplitl [HT] <;> iassumption

/-! ## The credits -/

theorem credits (c : Dev nD) : (Pipeline.launchCred O₀ c : sProp 𝕄) ⊢ cr c := by
  have e : (O₀ : Dev nD → CellTallies nD τ sig Unit) = fun d => (((∑ t : Tr, tallyAt (recvCell (tgt t d) t) () (amt t)) + tallyAt (barCell (ynD d)) () 1)
      + tallyAt (barCell (xnD d)) () 1) + tallyAt (barCell (zpD d)) () 1 := by
    funext d; unfold O₀ Ow; rw [Finset.filter_true_of_mem fun t _ => tm_ge t]
  rw [e, Pipeline.launchCred_add (fun d => ((∑ t : Tr, tallyAt (recvCell (tgt t d) t) () (amt t)) + tallyAt (barCell (ynD d)) () 1) + tallyAt (barCell (xnD d)) () 1) (fun d => tallyAt (barCell (zpD d)) () 1),
    Pipeline.launchCred_add (fun d => (∑ t : Tr, tallyAt (recvCell (tgt t d) t) () (amt t)) + tallyAt (barCell (ynD d)) () 1) (fun d => tallyAt (barCell (xnD d)) () 1),
    Pipeline.launchCred_add (fun d => ∑ t : Tr, tallyAt (recvCell (tgt t d) t) () (amt t)) (fun d => tallyAt (barCell (ynD d)) () 1),
    Pipeline.launchCred_sum Finset.univ (fun (t : Tr) (d : Dev nD) => tallyAt (recvCell (tgt t d) t) () (amt t))]
  have hz : (Pipeline.launchCred (fun d => tallyAt (barCell (zpD d)) () 1) c : sProp 𝕄) ⊢ cred (tallyAt (barCell c) () 1) :=
    Pipeline.launchCred_tallyAt (.reg barS) zpD zpD zz zz () 1 c
  have hx : (Pipeline.launchCred (fun d => tallyAt (barCell (xnD d)) () 1) c : sProp 𝕄) ⊢ cred (tallyAt (barCell c) () 1) :=
    Pipeline.launchCred_tallyAt (.reg barS) xnD xnD xx xx () 1 c
  have hy : (Pipeline.launchCred (fun d => tallyAt (barCell (ynD d)) () 1) c : sProp 𝕄) ⊢ cred (tallyAt (barCell c) () 1) :=
    Pipeline.launchCred_tallyAt (.reg barS) ynD ynD yy yy () 1 c
  have ht : (bigSep Finset.univ fun t : Tr => Pipeline.launchCred (fun d => tallyAt (recvCell (tgt t d) t) () (amt t)) c : sProp 𝕄)
      ⊢ bigSep Finset.univ fun t => Crd c (.inr (.inr t)) := bigSep_mono fun t _ =>
    Pipeline.launchCred_tallyAt (csem (.inr (.inr t))) (tgt t) (tgt t) (tgt_tgt t) (tgt_tgt t) () (amt t) c
  have h3 : (tallyAt (barCell c) () 3 : CellTallies nD τ sig Unit) = tallyAt (barCell c) () 1 + (tallyAt (barCell c) () 1 + tallyAt (barCell c) () 1) := by
    rw [show 3 = 1 + (1 + 1) from rfl, tallyAt_add, tallyAt_add]
  unfold cr
  rw [h3]
  iintro ⟨⟨⟨Ht, Hy⟩, Hx⟩, Hz⟩
  ihave Hz := hz $$ Hz
  ihave Hx := hx $$ Hx
  ihave Hy := hy $$ Hy
  ihave Ht := ht $$ Ht
  isplitr [Ht]
  · iapply (cred_add _ _).2
    isplitl [Hz]; · iexact Hz
    iapply (cred_add _ _).2
    isplitl [Hx] <;> iassumption
  iexact Ht

/-! ## The run -/

/-- What a device starts with. -/
abbrev T₀ (c : Dev nD) : sProp 𝕄 := iprop(StableHlo.held (c : Thread nD τ) (Pipeline.ucRefs τ sig) (fun b => m (c, b)) ∗ Gd m c ∗ owesE c (O₀ c))

def rest0 (c : Dev nD) : sProp 𝕄 :=
  iprop(StableHlo.held (c : Thread nD τ) (Pipeline.ucRefs τ sig) (fun b => m (c, b)) ∗ cr c ∗ owesE c (O₀ c))

theorem start_one (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G₀ c)
      ⊢ iprop(rest0 m c ∗ Fin0 c (.inl ()) ∗ G₀ c) := by
  rw [unscopedSems0_bar, show unscopedBufs c (fun b => m ((c : Thread nD τ).loc b)) = StableHlo.held (c : Thread nD τ) (Pipeline.ucRefs τ sig) (fun b => m (c, b)) from Pipeline.unscopedBufs_held c (fun b => m (c, b))]
  unfold rest0 owesE
  iintro ⟨HB, HS, HO, HC, -, HG⟩
  isplitl [HB HC HO]
  · isplitl [HB]; · iexact HB
    isplitl [HC]; · iapply (credits c); iexact HC
    iexists _; iexact HO
  isplitl [HS] <;> iassumption

theorem start_dev (c : Dev nD) : iprop((Invs (I₀ m) ∗ bars) ∗ rest0 m c ∗ own0 c) ⊢ T₀ m c := by
  unfold rest0 own0 T₀ Gd
  iintro ⟨⟨HI, Hb⟩, ⟨HB, HC, HO⟩, HT, HS, HP, HD⟩
  isplitl [HB]; · iexact HB
  isplitr [HO]
  · isplitl [HI]; · iexact HI
    isplitl [Hb]; · iexact Hb
    isplitl [HT]; · iexact HT
    isplitl [HS]; · iexact HS
    isplitl [HP]; · iexact HP
    isplitl [HD] <;> iassumption
  iexact HO

theorem start_all :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G₀ c)) ∗ levAts L lv)
      ⊢ (|={Set.univ}=> bigSep Finset.univ (T₀ m) : sProp 𝕄) := by
  have h : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G₀ c) : sProp 𝕄)
      ⊢ iprop((bigSep Finset.univ (rest0 m)) ∗ (bigSep Finset.univ fun c : Dev nD => Fin0 c (.inl ())) ∗ BI.own (ER (launchOf bCells tCells toks))) := by
    rw [← G₀_all, ← bigSep_sep', ← bigSep_sep']
    exact bigSep_mono fun c _ => start_one m ρ c
  have h' : iprop((Invs (I₀ m) ∗ bars) ∗ (bigSep Finset.univ (rest0 m)) ∗ bigSep Finset.univ own0) ⊢ (bigSep Finset.univ (T₀ m) : sProp 𝕄) := by
    rw [← bigSep_sep']
    exact with_all (R := iprop(Invs (I₀ m) ∗ bars)) fun c => start_dev m c
  iintro ⟨H, HL⟩
  ihave H := h $$ H
  icases H with ⟨HR, HS, HG⟩
  imod (fund m) $$ [HS HG HL] with ⟨HI, HO⟩
  · isplitl [HS]; · iexact HS
    isplitl [HG] <;> iassumption
  imodintro
  iapply h'
  isplitl [HI]; · iexact HI
  isplitl [HR] <;> iassumption

/-- The memory at the end: the windows' arrays after the region, all else as it was. -/
def Post (r : PUnit × MemSt nD τ sig (Elt F)) : Prop :=
  (∀ c : Dev nD, (∀ w : Fin 5, r.2.mem ((c : Thread nD τ).loc (Pipeline.arrRef spec0 w)) = (dat0 m c).arrAt w cfg0.N)
    ∧ ∀ b ∈ Pipeline.restRefs sig spec0, r.2.mem ((c : Thread nD τ).loc b) = V m c b) ∧ r.2.sem = fun _ => 0

set_option backward.isDefEq.respectTransparency.types false in
theorem run_main : θ_run defs (onTc (τ := τ) (main (F := F))) ⟨m, fun _ => 0, ρ⟩ (Post m) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G₀) (u₀ := u₀ (F := F))
    (hu₀ := by
      rw [G₀_all]
      unfold u₀
      iintro Hu
      ihave H := (ownU_pair _ _) $$ Hu
      icases H with ⟨HP, HX⟩
      imodintro
      isplitl [HP]; · iexact HP
      iexact HX)
    (T₀ := T₀ m) (Tₙ := Tn m)
    (hch := by
      refine ⟨fun c => .rfl, fun c => .rfl, fun c => .rfl⟩)
    (hinit := start_all m ρ)
    (QY := fun c s => ((∀ w : Fin 5, s.mem ((c : Thread nD τ).loc (Pipeline.arrRef spec0 w)) = (dat0 m c).arrAt w cfg0.N)
      ∧ ∀ b ∈ Pipeline.restRefs sig spec0, s.mem ((c : Thread nD τ).loc b) = V m c b) ∧ s.sem (barCell c) = 0)
    (hfin := fun c s' => by
      unfold Tn Fin0 Pipeline.unscopedRest
      iintro ⟨⟨HA, HR, HS⟩, HSI⟩
      icombine HSI HS gives %hs
      ihave HA' := (pointsTo_read_all Finset.univ (fun w : Fin 5 => (c : Thread nD τ).loc (Pipeline.arrRef spec0 w)) (fun w => (dat0 m c).arrAt w cfg0.N) s') $$ [HA HSI]
      · isplitl [HA] <;> iassumption
      icases HA' with ⟨%hA, HSI⟩
      ihave HR' := (pointsTo_read_all (Pipeline.restRefs sig spec0) (fun b => (c : Thread nD τ).loc b) (V m c) s') $$ [HR HSI]
      · isplitl [HR] <;> iassumption
      icases HR' with ⟨%hR, HSI⟩
      imodintro
      isplitr
      · ipureintro
        exact ⟨⟨fun w => hA w (Finset.mem_univ w), hR⟩, by simpa using hs⟩
      iexact HSI)
    (hQ := fun s h hs => ⟨fun c => (h c).1, sem_eq_zero hs fun c sm hsm => by
      obtain rfl : sm = SemLoc.reg barS := by revert sm; decide +kernel
      exact (h c).2⟩)

end Cert.K

end
-- ==== Proof.Frames.lean ====
/-
What the run leaves of the arguments: every argument array as it was, every counter at zero.
-/
module

public import proofs.«01_k».proof.Defs
public import proofs.«01_k».proof.Proof.Gen.Kernel
public import proofs.«01_k».proof.Proof.Run

@[expose] public section

noncomputable section

namespace Cert.K

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-- The argument arrays of device `c` are as they were. -/
def Kept (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)
  ∧ s.mem ((c : Thread nD τ).loc main_arg7) = m ((c : Thread nD τ).loc main_arg7)

variable {m}

theorem Post.kept {r : PUnit × MemSt nD τ sig (Elt F)} (h : Post m r) (c : Dev nD) : Kept m c r.2 := by
  have rest : ∀ b, b ∈ Pipeline.restRefs sig spec0 → V m c b = m ((c : Thread nD τ).loc b) →
      r.2.mem ((c : Thread nD τ).loc b) = m ((c : Thread nD τ).loc b) := fun b hb hV => ((h.1 c).2 b hb).trans hV
  exact ⟨rest main_arg0 (Pipeline.mem_restRefs_of _ (by decide) (by decide)) (V_main_arg0 m c),
    ((h.1 c).1 0).trans (((dat0 m c).arrAt_in 0 rfl _).trans (V_main_arg1 m c)),
    ((h.1 c).1 1).trans (((dat0 m c).arrAt_in 1 rfl _).trans (V_main_arg2 m c)),
    ((h.1 c).1 2).trans (((dat0 m c).arrAt_in 2 rfl _).trans (V_main_arg3 m c)),
    rest main_arg4 (Pipeline.mem_restRefs_of _ (by decide) (by decide)) (V_main_arg4 m c),
    rest main_arg5 (Pipeline.mem_restRefs_of _ (by decide) (by decide)) (V_main_arg5 m c),
    rest main_arg6 (Pipeline.mem_restRefs_of _ (by decide) (by decide)) (V_main_arg6 m c),
    rest main_arg7 (Pipeline.mem_restRefs_of _ (by decide) (by decide)) (V_main_arg7 m c)⟩

theorem frame_ideal : Cert.quiescent_KernelIdeal (hKernelIdeal := Cert.KernelIdeal.Gen.facts) := fun m ρ _ =>
  (θ_run defs _ _).mono (fun _ h => ⟨fun c => h.kept c, h.2⟩) (run_main (F := Ideal) m ρ)

/-! ## The other program has the same text -/

theorem defs₀_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

theorem defs_same : Cert.Kernel.defs (F := F) = Cert.KernelIdeal.defs (F := F) :=
  congrArg (Pipeline.defs Cert.KernelIdeal.pcfgs) defs₀_same

theorem frame_kernel : Cert.quiescent_Kernel (hKernel := Cert.Kernel.Gen.facts) := fun m ρ _ => by
  have h := (θ_run Cert.KernelIdeal.defs _ _).mono (fun _ h => ⟨fun c => h.kept c, h.2⟩ : ∀ r, Post m r → (∀ c, Kept m c r.2) ∧ r.2.sem = fun _ => 0)
    (run_main (F := Bits) m ρ)
  rw [← defs_same] at h
  exact h

end Cert.K

end
-- ==== Proof.Math.lean ====
/-
The attention block of one batch as arithmetic on extended reals: products of matrices, scores, normalised rows, heads.
-/
module

public import Idealize.ShloMosaic.Lib.Pointwise

@[expose] public section

noncomputable section

namespace Cert.K.Spec

open Idealize.ShloMosaic

/-- A matrix of extended reals. -/
abbrev Mat (a b : ℕ) := Fin a → Fin b → EReal

/-- The product of two matrices. -/
def mm {a k b : ℕ} (A : Mat a k) (B : Mat k b) : Mat a b := fun i j => ∑ e, A i e * B e j

/-- The columns of head `h`, of width `w`. -/
def cols {a n w : ℕ} (A : Mat a n) (h : ℕ) (hb : h * w + w ≤ n) : Mat a w := fun i d => A i ⟨h * w + d.val, by have := d.isLt; omega⟩

/-- The scores of one head. -/
def score (q k : Mat 256 128) (qr kr : Mat 256 64) : Mat 256 256 := fun s t =>
  (∑ d, q s d * k t d + ∑ d, qr s d * kr t d) * Ideal.ofBits .f32 0x3D93CD3A#32

/-- Each row's exponentials, relative to the row's greatest. -/
def expo (sc : Mat 256 256) : Mat 256 256 := fun s t => Ideal.exp (sc s t - Finset.univ.fold max (Ideal.ofBits .f32 0xFF800000#32) (sc s))

/-- Each row over its sum. -/
def prob (e : Mat 256 256) : Mat 256 256 := fun s t => Ideal.div (e s t) (∑ u, e s u)

/-- One head's output. -/
def head (q k v : Mat 256 128) (qr kr : Mat 256 64) : Mat 256 128 := mm (prob (expo (score q k qr kr))) v

/-- All heads' outputs, side by side. -/
def heads (Q K V : Mat 256 4096) (QR : Mat 256 2048) (KR : Mat 256 64) : Mat 256 4096 := fun s n =>
  head (cols Q (n.val / 128) (by omega)) (cols K (n.val / 128) (by omega)) (cols V (n.val / 128) (by omega))
    (cols QR (n.val / 128) (by omega)) KR s ⟨n.val % 128, Nat.mod_lt _ (by decide)⟩

/-- The block's output for one batch. -/
def block (X : Mat 256 4096) (Wd : Mat 4096 256) (Wuk Wuv : Mat 256 4096) (Wq : Mat 4096 4096) (Wqr : Mat 4096 2048) (Wkr : Mat 4096 64)
    (Wo : Mat 4096 4096) : Mat 256 4096 :=
  mm (heads (mm X Wq) (mm (mm X Wd) Wuk) (mm (mm X Wd) Wuv) (mm X Wqr) (mm X Wkr)) Wo

end Cert.K.Spec

end
-- ==== Proof.BlockValue.lean ====
/-
What each block computes, at an index.
-/
module

public import proofs.«01_k».proof.Proof.Struct
public import proofs.«01_k».proof.Proof.Math

@[expose] public section

noncomputable section

namespace Cert.K

open Cert.KernelIdeal Cert.KernelIdeal.Gen
open Idealize.ShloMosaic
open Idealize.ShloMosaic.Pointwise
open Cert.K.Spec

/-- An array, as a matrix. -/
def mt {φ : FTy} {n w : ℕ} (x : FVec Ideal ⟨2, ![n, w]⟩ φ) : Mat n w := fun s e => x (ix2 s e)
/-- An array with one leading coordinate, as a matrix. -/
def mt1 {φ : FTy} {n w : ℕ} (x : FVec Ideal ⟨3, ![1, n, w]⟩ φ) : Mat n w := fun s e => x (ix3 0 s e)

theorem pay1_at (x : Vec Ideal S256x4096 .f32) : k0_pay1 (F := Ideal) x = x := by
  funext j; pointwise [k0_pay1]

theorem pay3_at (x : Vec Ideal S128x2048 .f32) : k0_pay3 (F := Ideal) x = x := by
  funext j; pointwise [k0_pay3]

theorem pay2_at (x : Vec Ideal S256x4096 .bf16) (w : Vec Ideal S4096x128 .f32) : mt (φ := .bf16) (k0_pay2 x w) = mm (mt (φ := .bf16) x) (mt (φ := .f32) w) := by
  funext s r; unfold mt mm; pointwise [k0_pay2]

theorem pay6_at (x : Vec Ideal S256x4096 .bf16) (w : Vec Ideal S64x4096 .f32) :
    mt (φ := .bf16) (k0_pay6 x w) = mm (mt (φ := .bf16) x) (fun e d => mt (φ := .f32) w d e) := by
  funext s r; unfold mt mm; pointwise [k0_pay6]

theorem payQ_at (x : Vec Ideal S256x4096 .bf16) (w : Vec Ideal S1x4096x256 .f32) :
    mt (φ := .bf16) (payQ x w) = mm (mt (φ := .bf16) x) (mt1 (φ := .f32) w) := by
  funext s r; unfold mt mt1 mm payQ; pointwise [k0_pay10]

theorem payQr_at (x : Vec Ideal S256x4096 .bf16) (w : Vec Ideal S1x4096x128 .f32) :
    mt (φ := .bf16) (payQr x w) = mm (mt (φ := .bf16) x) (mt1 (φ := .f32) w) := by
  funext s r; unfold mt mt1 mm payQr; pointwise [k0_pay9]

theorem pay24_at (c : Vec Ideal S256x128 .bf16) (w : Vec Ideal S128x2048 .f32) (c' : Vec Ideal S256x128 .bf16) (w' : Vec Ideal S128x2048 .bf16) (s : Fin 256) (n : Fin 2048) :
    mt (φ := .bf16) (k0_pay24 c w c' w') s n = mm (mt (φ := .bf16) c) (mt (φ := .f32) w) s n + mm (mt (φ := .bf16) c') (mt (φ := .bf16) w') s n := by
  unfold mt mm; pointwise [k0_pay24]

theorem scores_at (krt : FVec Ideal S64x256 .bf16) (qr : FVec Ideal S256x64 .bf16) (q k : Vec Ideal S256x128 .bf16) :
    mt (scores krt qr q k) = score (mt (φ := .bf16) q) (mt (φ := .bf16) k) (mt qr) (fun t d => mt krt d t) := by
  funext s t; unfold mt score; pointwise [scores]

theorem expRows_at (s : FVec Ideal S256x256 .f32) : mt (expRows s) = expo (mt s) := by
  funext i t; unfold mt expo; pointwise [expRows]

theorem normRows_at (e : FVec Ideal S256x256 .f32) : mt (normRows e) = prob (mt e) := by
  funext i t; unfold mt prob; pointwise [normRows]

theorem headO_at (krt : FVec Ideal S64x256 .bf16) (qr : FVec Ideal S256x64 .bf16) (q k v : Vec Ideal S256x128 .bf16) :
    mt (headO krt qr q k v) = head (mt (φ := .bf16) q) (mt (φ := .bf16) k) (mt (φ := .bf16) v) (mt qr) (fun t d => mt krt d t) := by
  unfold head
  rw [← scores_at, ← expRows_at, ← normRows_at]
  funext s d
  unfold mt mm
  pointwise [headO]

theorem payO_at (kr : Vec Ideal S256x64 .bf16) (qr : Vec Ideal S256x128 .bf16) (q k v : Fin 2 → Vec Ideal S256x128 .bf16) (s : Fin 256) (n : Fin 256)
    (e : Fin 2) (d : Fin 128) (hn : n.val = e.val * 128 + d.val) :
    payO kr qr (q 0) (k 0) (v 0) (q 1) (k 1) (v 1) (ix2 s n)
      = head (mt (φ := .bf16) (q e)) (mt (φ := .bf16) (k e)) (mt (φ := .bf16) (v e)) (cols (mt (φ := .bf16) qr) e.val (w := 64) (by omega)) (mt (φ := .bf16) kr) s d := by
  have hk : (fun t d => mt (k0_pay28 kr) d t) = mt (φ := .bf16) kr := by funext t d; unfold mt; pointwise [k0_pay28]
  have h0 : mt (φ := .bf16) (extractStridedSlice S256x64 ![0, 0] qr slices_S256x128_o0_0_S256x64) = cols (mt (φ := .bf16) qr) 0 (w := 64) (by omega) := by
    funext t d; unfold mt cols; pointwise
  have h1 : mt (φ := .bf16) (extractStridedSlice S256x64 ![0, 64] qr slices_S256x128_o0_64_S256x64) = cols (mt (φ := .bf16) qr) 1 (w := 64) (by omega) := by
    funext t d; unfold mt cols; pointwise
  pointwise [payO]
  match e, hn with
  | ⟨0, _⟩, hn =>
    have hd : n.val = d.val := by rw [hn]; show 0 * 128 + _ = _; omega
    refine (dif_pos (by omega)).trans ?_
    refine Eq.trans ?_ ((congrFun (congrFun (headO_at (k0_pay28 kr) (extractStridedSlice S256x64 ![0, 0] qr slices_S256x128_o0_0_S256x64) (q 0) (k 0) (v 0)) s) d).trans ?_)
    · exact congrArg _ (congrArg (ix2 s) (Fin.ext hd))
    · rw [hk, h0]; rfl
  | ⟨1, _⟩, hn =>
    have hd : n.val = 128 + d.val := by rw [hn]; show 1 * 128 + _ = _; omega
    refine (dif_neg (by omega)).trans ?_
    refine Eq.trans ?_ ((congrFun (congrFun (headO_at (k0_pay28 kr) (extractStridedSlice S256x64 ![0, 64] qr slices_S256x128_o0_64_S256x64) (q 1) (k 1) (v 1)) s) d).trans ?_)
    · exact congrArg _ (congrArg (ix2 s) (Fin.ext (by show n.val - 128 = d.val; omega)))
    · rw [hk, h1]; rfl

theorem payW_at (o : Vec Ideal S256x4096 .bf16) (w : Vec Ideal S1x4096x256 .f32) :
    mt1 (payW o w) = mm (mt (φ := .bf16) o) (mt1 (φ := .f32) w) := by
  funext s r; unfold mt mt1 mm payW; pointwise [k0_pay53]

end Cert.K

end
-- ==== Proof.KernelValue.lean ====
/-
What every buffer holds, at an index, when the devices are given their parts of common arrays; the result in closed form.
-/
module

public import proofs.«01_k».proof.Proof.Contents
public import proofs.«01_k».proof.Proof.BlockValue

@[expose] public section

noncomputable section

namespace Cert.K

open Cert.KernelIdeal Cert.KernelIdeal.Gen
open Idealize.ShloMosaic
open Idealize.ShloMosaic.Pointwise
open Cert.K.Spec

/-! ## Places -/

theorem dev_lt (c : Dev nD) : c.val < 8 := c.isLt
/-- The batch of a device. -/
def bt (c : Dev nD) : Fin 4 := ⟨c.val / 2, by have := dev_lt c; omega⟩
/-- Place `k` in the half of `c`, of `2 n` places. -/
def half {n : ℕ} (c : Dev nD) (m : ℕ) (hm : m = 2 * n) (k : Fin n) : Fin m := ⟨n * (c.val % 2) + k.val, by
  have := k.isLt; rcases Nat.mod_two_eq_zero_or_one c.val with h | h <;> rw [h] <;> omega⟩

theorem zp_bt : ∀ c : Dev nD, bt (zpD c) = bt c := by decide +kernel

theorem off1_eq : ∀ (d : Dev nD) (k : Fin 8), k0_off1 d (BitVec.ofNat 32 (256 * k.val)) = ![0, 2048 * (d.val % 2) + 256 * k.val] := by decide +kernel
theorem off2_eq : ∀ (d : Dev nD) (k : Fin 8), k0_off2 d (BitVec.ofNat 32 (128 * k.val)) = ![0, 1024 * (d.val % 2) + 128 * k.val] := by decide +kernel
theorem off3_eq : ∀ d : Dev nD, k0_off3 d = ![d.val / 2, 0, 0] := by decide +kernel
theorem off4_eq : ∀ d : Dev nD, k0_off4 d = ![0, 2048 * (1 - d.val % 2)] := by decide +kernel
theorem off5_eq : ∀ d : Dev nD, k0_off5 d = ![0, 2048 * (d.val % 2)] := by decide +kernel

/-- A place in a block of a matrix. -/
theorem idx_ix2 {n w a b : ℕ} (o : Fin 2 → ℕ) (inb : ∀ i, o i + (⟨2, ![a, b]⟩ : Shape).size i ≤ (⟨2, ![n, w]⟩ : Shape).size i) (i : Fin a) (j : Fin b)
    (i' : Fin n) (j' : Fin w) (hi : i'.val = o 0 + i.val) (hj : j'.val = o 1 + j.val) :
    (Rect.unit (s := ⟨2, ![n, w]⟩) o (⟨2, ![a, b]⟩ : Shape).size inb).idx (ix2 i j) = ix2 i' j' := by
  funext t
  apply Fin.ext
  rw [LoadRect.idx_apply]
  match t with
  | ⟨0, _⟩ => show o 0 + 1 * i.val = i'.val; omega
  | ⟨1, _⟩ => show o 1 + 1 * j.val = j'.val; omega

/-- A place in a block of a stack of matrices. -/
theorem idx_ix3 {m n w l a b : ℕ} (o : Fin 3 → ℕ) (inb : ∀ i, o i + (⟨3, ![l, a, b]⟩ : Shape).size i ≤ (⟨3, ![m, n, w]⟩ : Shape).size i) (k : Fin l) (i : Fin a) (j : Fin b)
    (k' : Fin m) (i' : Fin n) (j' : Fin w) (hk : k'.val = o 0 + k.val) (hi : i'.val = o 1 + i.val) (hj : j'.val = o 2 + j.val) :
    (Rect.unit (s := ⟨3, ![m, n, w]⟩) o (⟨3, ![l, a, b]⟩ : Shape).size inb).idx (ix3 k i j) = ix3 k' i' j' := by
  funext t
  apply Fin.ext
  rw [LoadRect.idx_apply]
  match t with
  | ⟨0, _⟩ => show o 0 + 1 * k.val = k'.val; omega
  | ⟨1, _⟩ => show o 1 + 1 * i.val = i'.val; omega
  | ⟨2, _⟩ => show o 2 + 1 * j.val = j'.val; omega

/-! ## Sums in two halves -/

theorem sum_half (c : Dev nD) (f : Fin 256 → EReal) :
    ∑ r, f r = ∑ r : Fin 128, f (half c 256 rfl r) + ∑ r : Fin 128, f (half (zpD c) 256 rfl r) := by
  have h : ∑ r, f r = ∑ r : Fin 128, f ⟨r.val, by omega⟩ + ∑ r : Fin 128, f ⟨128 + r.val, by omega⟩ := Fin.sum_univ_add (a := 128) (b := 128) f
  rw [h]
  unfold half
  have hp : k0_dev1 c % 2 = 1 - c.val % 2 := zp_mod c
  rcases Nat.mod_two_eq_zero_or_one c.val with hz | hz
  · simp [hz, hp]
  · simp only [hz, hp]; rw [add_comm]; simp

theorem mm_congr {a k b a' b' : ℕ} {A : Mat a k} {A' : Mat a' k} {B : Mat k b} {B' : Mat k b'} {i : Fin a} {i' : Fin a'} {j : Fin b} {j' : Fin b'}
    (hA : ∀ e, A i e = A' i' e) (hB : ∀ e, B e j = B' e j') : mm A B i j = mm A' B' i' j' :=
  Finset.sum_congr rfl fun e _ => by rw [hA, hB]

/-! ## The devices' parts -/

/-- Every device is given its part of common arrays. -/
structure Agree (I : Inp Ideal) (X : Fin 4 → Mat 256 4096) (Wd : Mat 4096 256) (Wuk Wuv : Mat 256 4096) (Wq : Mat 4096 4096) (Wqr : Mat 4096 2048)
    (Wkr : Mat 4096 64) (Wo : Mat 4096 4096) : Prop where
  x : ∀ c b s e, I.x c (ix3 b s e) = X b s e
  wd : ∀ c e r, I.wd c (ix2 e r) = Wd e (half c 256 rfl r)
  wuk : ∀ c r n, I.wuk c (ix2 r n) = Wuk (half c 256 rfl r) n
  wuv : ∀ c r n, I.wuv c (ix2 r n) = Wuv (half c 256 rfl r) n
  wq : ∀ c e n, I.wq c (ix2 e n) = Wq e n
  wqr : ∀ c e n, I.wqr c (ix2 e n) = Wqr e n
  wkr : ∀ c d e, I.wkr c (ix2 d e) = Wkr e d
  wo : ∀ c e n, I.wo c (ix2 e n) = Wo e n

section
variable {I : Inp Ideal} {X : Fin 4 → Mat 256 4096} {Wd : Mat 4096 256} {Wuk Wuv : Mat 256 4096} {Wq : Mat 4096 4096} {Wqr : Mat 4096 2048}
  {Wkr : Mat 4096 64} {Wo : Mat 4096 4096} (A : Agree I X Wd Wuk Wuv Wq Wqr Wkr Wo)
include A

theorem XQ_at (c : Dev nD) (s : Fin 256) (e : Fin 4096) : XQ I c (ix2 s e) = X (bt c) s e := by
  rw [← A.x c]
  unfold XQ
  rw [View.read_apply, cast_eq]
  refine congrArg (I.x c) ?_
  show (Rect.unit (s := S4x256x4096) (k0_off3 c) S1x256x4096.size (k0_off3_inb c)).idx (Shape.reshapeEquiv squeezes_S1x256x4096_S256x4096.numel_eq (ix2 s e)) = _
  have h : shapeCast S256x4096 (fun i : S1x256x4096.Idx => i) squeezes_S1x256x4096_S256x4096.numel_eq (ix2 s e) = ix3 (0 : Fin 1) s e := by pointwise
  exact (congrArg _ h).trans (idx_ix3 _ _ _ _ _ _ _ _ (by rw [off3_eq]; rfl) (by rw [off3_eq]; show s.val = 0 + s.val; omega) (by rw [off3_eq]; show e.val = 0 + e.val; omega))

theorem XB_at (c : Dev nD) : mt (φ := .bf16) (XB I c) = X (bt c) := by
  funext s e
  unfold XB
  rw [pay1_at]
  exact XQ_at A c s e

theorem CL_at (c : Dev nD) (s : Fin 256) (r : Fin 128) : mt (φ := .bf16) (CL I c) s r = mm (X (bt c)) Wd s (half c 256 rfl r) := by
  unfold CL
  rw [pay2_at, XB_at A]
  exact mm_congr (fun _ => rfl) fun e => A.wd c e r

theorem KR_at (c : Dev nD) : mt (φ := .bf16) (KR I c) = mm (X (bt c)) Wkr := by
  unfold KR
  rw [pay6_at, XB_at A]
  funext s d
  exact mm_congr (fun _ => rfl) fun e => A.wkr c d e

omit A in
/-- A half of the columns, as read on a device. -/
theorem u5_at (c : Dev nD) (w : Vec Ideal S128x4096 .f32) (r : Fin 128) (n : Fin 2048) :
    wukM.view.readAt (Elt Ideal) (rU5 c).toLoadRect w (ix2 r n) = w (ix2 r (half c 4096 rfl n)) :=
  congrArg w (idx_ix2 _ _ _ _ _ _ (by rw [off5_eq]; show r.val = 0 + r.val; omega) (by rw [off5_eq]; rfl))

omit A in
theorem u4_at (c : Dev nD) (w : Vec Ideal S128x4096 .f32) (r : Fin 128) (n : Fin 2048) :
    wukM.view.readAt (Elt Ideal) (rU4 c).toLoadRect w (ix2 r n) = w (ix2 r (half (zpD c) 4096 rfl n)) :=
  congrArg w (idx_ix2 _ _ _ _ _ _ (by rw [off4_eq]; show r.val = 0 + r.val; omega) (by rw [off4_eq]; show 2048 * ((zpD c).val % 2) + n.val = _; rw [zp_mod]; rfl))

theorem KK_at (c : Dev nD) (s : Fin 256) (n : Fin 2048) : mt (φ := .bf16) (KK I c) s n = mm (mm (X (bt c)) Wd) Wuk s (half c 4096 rfl n) := by
  unfold KK
  rw [pay24_at]
  refine (congrArg₂ (· + ·) ?_ ?_).trans (sum_half c _).symm
  · exact mm_congr (B' := fun r n => Wuk (half c 256 rfl r) n) (A' := fun s r => mm (X (bt c)) Wd s (half c 256 rfl r))
      (fun r => CL_at A c s r) fun r => (u5_at c _ r n).trans (A.wuk c r _)
  · refine mm_congr (B' := fun r n => Wuk (half (zpD c) 256 rfl r) n) (A' := fun s r => mm (X (bt c)) Wd s (half (zpD c) 256 rfl r))
      (fun r => (CL_at A (zpD c) s r).trans (by rw [zp_bt])) fun r => ?_
    unfold UKL
    rw [pay3_at]
    exact ((u4_at (zpD c) _ r n).trans (A.wuk (zpD c) r _)).trans (by rw [zz])

theorem VV_at (c : Dev nD) (s : Fin 256) (n : Fin 2048) : mt (φ := .bf16) (VV I c) s n = mm (mm (X (bt c)) Wd) Wuv s (half c 4096 rfl n) := by
  unfold VV payV
  rw [pay24_at]
  refine (congrArg₂ (· + ·) ?_ ?_).trans (sum_half c _).symm
  · exact mm_congr (B' := fun r n => Wuv (half c 256 rfl r) n) (A' := fun s r => mm (X (bt c)) Wd s (half c 256 rfl r))
      (fun r => CL_at A c s r) fun r => (u5_at c _ r n).trans (A.wuv c r _)
  · refine mm_congr (B' := fun r n => Wuv (half (zpD c) 256 rfl r) n) (A' := fun s r => mm (X (bt c)) Wd s (half (zpD c) 256 rfl r))
      (fun r => (CL_at A (zpD c) s r).trans (by rw [zp_bt])) fun r => ?_
    unfold UVL
    rw [pay3_at]
    exact ((u4_at (zpD c) _ r n).trans (A.wuv (zpD c) r _)).trans (by rw [zz])

/-! ## Queries -/

theorem WQB_at (c : Dev nD) (k : Fin 8) (e : Fin 4096) (j : Fin 256) (n : Fin 4096) (hn : n.val = 2048 * (c.val % 2) + 256 * k.val + j.val) :
    mt1 (φ := .f32) (WQB I c k) e j = Wq e n := by
  rw [← A.wq c]
  have h : unsq256 (F := Ideal) ((wqB c k).view.read (Elt Ideal) (I.wq c)) = shapeCast S1x4096x256 ((wqB c k).view.read (Elt Ideal) (I.wq c)) squeezes_S1x4096x256_S4096x256.numel_eq.symm := rfl
  unfold WQB mt1
  rw [h]
  pointwise
  exact congrArg (I.wq c) (idx_ix2 _ _ _ _ _ _ (by rw [off1_eq]; show e.val = 0 + e.val; omega) (by rw [off1_eq]; exact hn))

theorem WQRB_at (c : Dev nD) (k : Fin 8) (e : Fin 4096) (j : Fin 128) (n : Fin 2048) (hn : n.val = 1024 * (c.val % 2) + 128 * k.val + j.val) :
    mt1 (φ := .f32) (WQRB I c k) e j = Wqr e n := by
  rw [← A.wqr c]
  have h : unsq128 (F := Ideal) ((wqrB c k).view.read (Elt Ideal) (I.wqr c)) = shapeCast S1x4096x128 ((wqrB c k).view.read (Elt Ideal) (I.wqr c)) squeezes_S1x4096x128_S4096x128.numel_eq.symm := rfl
  unfold WQRB mt1
  rw [h]
  pointwise
  exact congrArg (I.wqr c) (idx_ix2 _ _ _ _ _ _ (by rw [off2_eq]; show e.val = 0 + e.val; omega) (by rw [off2_eq]; exact hn))

theorem WOB_at (c : Dev nD) (k : Fin 16) (e : Fin 4096) (j : Fin 256) (n : Fin 4096) (hn : n.val = 256 * k.val + j.val) :
    mt1 (φ := .f32) (WOB I c k) e j = Wo e n := by
  rw [← A.wo c]
  have h : unsq256 (F := Ideal) ((woB k).view.read (Elt Ideal) (I.wo c)) = shapeCast S1x4096x256 ((woB k).view.read (Elt Ideal) (I.wo c)) squeezes_S1x4096x256_S4096x256.numel_eq.symm := rfl
  unfold WOB mt1
  rw [h]
  pointwise
  exact congrArg (I.wo c) (idx_ix2 _ _ _ _ _ _ (by show e.val = 0 + e.val; omega) hn)

theorem QA_at (c : Dev nD) (s : Fin 256) (n : Fin 2048) : mt (φ := .bf16) (QA I c) s n = mm (X (bt c)) Wq s (half c 4096 rfl n) := by
  show mt (φ := .bf16) (payQ (XB I c) (WQB I c ⟨n.val / 256, _⟩)) s ⟨n.val % 256, _⟩ = _
  rw [payQ_at, XB_at A]
  exact mm_congr (fun _ => rfl) fun e => WQB_at A c _ e _ _ (by show 2048 * (c.val % 2) + n.val = 2048 * (c.val % 2) + 256 * (n.val / 256) + n.val % 256; omega)

theorem QRA_at (c : Dev nD) (s : Fin 256) (n : Fin 1024) : mt (φ := .bf16) (QRA I c) s n = mm (X (bt c)) Wqr s (half c 2048 rfl n) := by
  show mt (φ := .bf16) (payQr (XB I c) (WQRB I c ⟨n.val / 128, _⟩)) s ⟨n.val % 128, _⟩ = _
  rw [payQr_at, XB_at A]
  exact mm_congr (fun _ => rfl) fun e => WQRB_at A c _ e _ _ (by show 1024 * (c.val % 2) + n.val = 1024 * (c.val % 2) + 128 * (n.val / 128) + n.val % 128; omega)

/-! ## The attention output -/

omit A in
/-- A head's columns of an array of one device's half of the columns. -/
theorem rH_at (c : Dev nD) (w : Vec Ideal S256x2048 .bf16) (M : Mat 256 4096) (hw : ∀ s n, mt (φ := .bf16) w s n = M s (half c 4096 rfl n)) (h : Fin 16)
    (H : ℕ) (hb : H * 128 + 128 ≤ 4096) (hH : H = 16 * (c.val % 2) + h.val) :
    mt (φ := .bf16) (qM.view.readAt (Elt Ideal) (rH h).toLoadRect w) = cols M H hb := by
  funext s d
  have hd := d.isLt
  have hh := h.isLt
  refine (congrArg w (idx_ix2 _ _ s d s ⟨128 * h.val + d.val, by omega⟩ (by show s.val = 0 + s.val; omega) rfl)).trans ((hw s _).trans ?_)
  exact congrArg (M s) (Fin.ext (by show 2048 * (c.val % 2) + (128 * h.val + d.val) = H * 128 + d.val; omega))

theorem rQr_at (c : Dev nD) (k : Fin 8) (e : Fin 2) (he : e.val * 64 + 64 ≤ 128) (H : ℕ) (hb : H * 64 + 64 ≤ 2048) (hH : H = 16 * (c.val % 2) + 2 * k.val + e.val) :
    cols (mt (φ := .bf16) (qrM.view.readAt (Elt Ideal) (rQr k).toLoadRect (QRA I c))) e.val (w := 64) he = cols (mm (X (bt c)) Wqr) H hb := by
  funext s d
  have hd := d.isLt
  have hk := k.isLt
  refine (congrArg (QRA I c) (idx_ix2 _ _ s _ s ⟨128 * k.val + (e.val * 64 + d.val), by omega⟩ (by show s.val = 0 + s.val; omega) rfl)).trans ((QRA_at A c s _).trans ?_)
  exact congrArg (mm (X (bt c)) Wqr s) (Fin.ext (by show 1024 * (c.val % 2) + (128 * k.val + (e.val * 64 + d.val)) = H * 64 + d.val; omega))

/-- The heads' outputs of one batch. -/
theorem OBk_at (c : Dev nD) (k : Fin 8) (s n : Fin 256) (N : Fin 4096) (hN : N.val = 2048 * (c.val % 2) + 256 * k.val + n.val) :
    OBk I c k (ix2 s n) = heads (mm (X (bt c)) Wq) (mm (mm (X (bt c)) Wd) Wuk) (mm (mm (X (bt c)) Wd) Wuv) (mm (X (bt c)) Wqr) (mm (X (bt c)) Wkr) s N := by
  have hk := k.isLt
  have hn := n.isLt
  let e : Fin 2 := ⟨n.val / 128, by omega⟩
  let g : Vec Ideal S256x2048 .bf16 → Fin 2 → Vec Ideal S256x128 .bf16 := fun w e => qM.view.readAt (Elt Ideal) (rH ⟨2 * k.val + e.val, by omega⟩).toLoadRect w
  have hH : N.val / 128 = 16 * (c.val % 2) + (2 * k.val + n.val / 128) := by omega
  refine (payO_at (KR I c) (qrM.view.readAt (Elt Ideal) (rQr k).toLoadRect (QRA I c)) (g (QA I c)) (g (KK I c)) (g (VV I c)) s n e ⟨n.val % 128, Nat.mod_lt _ (by decide)⟩
    (by show n.val = n.val / 128 * 128 + n.val % 128; omega)).trans ?_
  unfold heads
  rw [rH_at c _ _ (QA_at A c) ⟨2 * k.val + e.val, by omega⟩ (N.val / 128) (by omega) hH, rH_at c _ _ (KK_at A c) ⟨2 * k.val + e.val, by omega⟩ (N.val / 128) (by omega) hH,
    rH_at c _ _ (VV_at A c) ⟨2 * k.val + e.val, by omega⟩ (N.val / 128) (by omega) hH, rQr_at A c k e _ (N.val / 128) (by omega) (by show _ = _ + n.val / 128; omega), KR_at A]
  exact congrArg _ (Fin.ext (by show n.val % 128 = N.val % 128; omega))

omit A in
theorem own_bt (c : Dev nD) (n : ℕ) : bt (own c n) = bt c := by
  unfold own
  split
  · rfl
  · exact zp_bt c

omit A in
theorem own_mod (c : Dev nD) (n : ℕ) (hn : n < 4096) : (own c n).val % 2 = n / 2048 := by
  unfold own
  split
  · omega
  · rw [zp_mod]; omega

theorem OA_at (c : Dev nD) : mt (φ := .bf16) (OA I c)
    = heads (mm (X (bt c)) Wq) (mm (mm (X (bt c)) Wd) Wuk) (mm (mm (X (bt c)) Wd) Wuv) (mm (X (bt c)) Wqr) (mm (X (bt c)) Wkr) := by
  funext s N
  have hN := N.isLt
  refine (OBk_at A (own c N.val) ⟨N.val % 2048 / 256, by omega⟩ s ⟨N.val % 256, Nat.mod_lt _ (by decide)⟩ N ?_).trans (by rw [own_bt])
  rw [own_mod c _ hN]
  show N.val = 2048 * (N.val / 2048) + 256 * (N.val % 2048 / 256) + N.val % 256
  omega

/-! ## The result -/

omit A in
theorem lay_bt (c : Dev nD) (b : Fin 4) : bt (lay c b) = b := Fin.ext (by show (2 * b.val + c.val % 2) / 2 = b.val; omega)

/-- The result, batch by batch. -/
theorem OUT_at (c : Dev nD) (b : Fin 4) (s : Fin 256) (n : Fin 4096) :
    OUT I c (ix3 b s n) = block (X b) Wd Wuk Wuv Wq Wqr Wkr Wo s n := by
  show mt1 (payW (OA I (lay c b)) (WOB I (lay c b) ⟨n.val / 256, _⟩)) s ⟨n.val % 256, _⟩ = _
  rw [payW_at, OA_at A, lay_bt]
  exact mm_congr (fun _ => rfl) fun e => WOB_at A _ _ e _ _ (by show n.val = 256 * (n.val / 256) + n.val % 256; omega)

end

end Cert.K

end
-- ==== Proof.RefValue.lean ====
/-
What the reference computes, at an index.
-/
module

public import proofs.«01_k».proof.Proof.Gen.ReferenceIdeal.Run
public import proofs.«01_k».proof.Proof.Math

@[expose] public section

noncomputable section

namespace Cert.K.Ref

open Cert.ReferenceIdeal Cert.ReferenceIdeal.Gen
open Idealize.ShloMosaic Idealize.ShloMosaic.TcCoe
open Idealize.ShloMosaic.Pointwise
open Cert.K.Spec

/-- One batch of an array, as a matrix. -/
def bat {n w : ℕ} (x : FVec Ideal ⟨3, ![4, n, w]⟩ .f32) (b : Fin 4) : Mat n w := fun s e => x (ix3 b s e)
/-- An array, as a matrix. -/
def mat {n w : ℕ} (x : FVec Ideal ⟨2, ![n, w]⟩ .f32) : Mat n w := fun s e => x (ix2 s e)

/-! ## The reference in stages -/

def dK (c : FVec Ideal S4x256x256 .f32) (w : FVec Ideal S256x4096 .f32) : FVec Ideal S4x256x32x128 .f32 :=
  shapeCast _ (Host.dotGeneral dot_S4x256x256_S256x4096_S4x256x4096_2_0_01_1_n_n none c w) shapeCasts_S4x256x4096_S4x256x32x128
def dQ (x : FVec Ideal S4x256x4096 .f32) (w : FVec Ideal S4096x4096 .f32) : FVec Ideal S4x256x32x128 .f32 :=
  shapeCast _ (Host.dotGeneral dot_S4x256x4096_S4096x4096_S4x256x4096_2_0_01_1_n_n none x w) shapeCasts_S4x256x4096_S4x256x32x128
def dQR (x : FVec Ideal S4x256x4096 .f32) (w : FVec Ideal S4096x2048 .f32) : FVec Ideal S4x256x32x64 .f32 :=
  shapeCast _ (Host.dotGeneral dot_S4x256x4096_S4096x2048_S4x256x2048_2_0_01_1_n_n none x w) shapeCasts_S4x256x2048_S4x256x32x64
def dKR (x : FVec Ideal S4x256x4096 .f32) (w : FVec Ideal S4096x64 .f32) : FVec Ideal S4x256x32x64 .f32 :=
  broadcastInDim S4x256x32x64 ![0, 1, 2, 3] bcast_S4x256x1x64_S4x256x32x64_0_1_2_3
    (shapeCast S4x256x1x64 (Host.dotGeneral dot_S4x256x4096_S4096x64_S4x256x64_2_0_01_1_n_n none x w) shapeCasts_S4x256x64_S4x256x1x64)
def dC (x : FVec Ideal S4x256x4096 .f32) (w : FVec Ideal S4096x256 .f32) : FVec Ideal S4x256x256 .f32 :=
  Host.dotGeneral dot_S4x256x4096_S4096x256_S4x256x256_2_0_01_1_n_n none x w
def dS (q k : FVec Ideal S4x256x32x128 .f32) (qr kr : FVec Ideal S4x256x32x64 .f32) : FVec Ideal S4x32x256x256 .f32 :=
  mulf (addf (Host.dotGeneral dot_S4x256x32x128_S4x256x32x128_S4x32x256x256_3_3_1_1_02_02 none q k)
    (Host.dotGeneral dot_S4x256x32x64_S4x256x32x64_S4x32x256x256_3_3_1_1_02_02 none qr kr))
    (broadcastInDim S4x32x256x256 ![] bcast_S_S4x32x256x256 (constant S_ .f32 0x3D93CD3A#32))
def dE (s : FVec Ideal S4x32x256x256 .f32) : FVec Ideal S4x32x256x256 .f32 :=
  Host.exp (subf s (broadcastInDim S4x32x256x256 ![0, 1, 2, 3] bcast_S4x32x256x1_S4x32x256x256_0_1_2_3
    (broadcastInDim S4x32x256x1 ![0, 1, 2] bcast_S4x32x256_S4x32x256x1_0_1_2
      (Host.reduce FloatOps.maximumf s (constant (F := Ideal) S_ .f32 0xFF800000#32) reducesTo_S4x32x256x256_S4x32x256_d3 h_S_))))
def dN (e : FVec Ideal S4x32x256x256 .f32) : FVec Ideal S4x32x256x256 .f32 :=
  Host.divf e (broadcastInDim S4x32x256x256 ![0, 1, 2, 3] bcast_S4x32x256x1_S4x32x256x256_0_1_2_3
    (broadcastInDim S4x32x256x1 ![0, 1, 2] bcast_S4x32x256_S4x32x256x1_0_1_2
      (Host.reduceAdd e (constant (F := Ideal) S_ .f32 0x00000000#32) reducesTo_S4x32x256x256_S4x32x256_d3 h_S_)))
def dO (v : FVec Ideal S4x256x32x128 .f32) (p : FVec Ideal S4x32x256x256 .f32) : FVec Ideal S4x256x4096 .f32 :=
  shapeCast S4x256x4096 (transpose S4x256x32x128 [0, 3, 1, 2]
    (Host.dotGeneral dot_S4x256x32x128_S4x32x256x256_S4x32x128x256_1_3_3_2_02_01 none v p) transposes_S4x32x128x256_S4x256x32x128_0_3_1_2)
    shapeCasts_S4x256x32x128_S4x256x4096
def dOut (o : FVec Ideal S4x256x4096 .f32) (w : FVec Ideal S4096x4096 .f32) : FVec Ideal S4x256x4096 .bf16 :=
  truncf .bf16 (Host.dotGeneral dot_S4x256x4096_S4096x4096_S4x256x4096_2_0_01_1_n_n none o w) bitsLt_bf16_f32

def dAll (x : FVec Ideal S4x256x4096 .f32) (wd : FVec Ideal S4096x256 .f32) (wuk wuv : FVec Ideal S256x4096 .f32) (wq : FVec Ideal S4096x4096 .f32)
    (wqr : FVec Ideal S4096x2048 .f32) (wkr : FVec Ideal S4096x64 .f32) (wo : FVec Ideal S4096x4096 .f32) : FVec Ideal S4x256x4096 .bf16 :=
  dOut (dO (dK (dC x wd) wuv) (dN (dE (dS (dQ x wq) (dK (dC x wd) wuk) (dQR x wqr) (dKR x wkr))))) wo

theorem res_eq (m : (ℓ : Loc nD τ sig) → Buf (Elt Ideal) ℓ) (c : Dev nD) :
    Value.res_out0 m c = dAll (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

/-! ## The stages at an index -/

theorem dC_at (x : FVec Ideal S4x256x4096 .f32) (w : FVec Ideal S4096x256 .f32) (b : Fin 4) : bat (dC x w) b = mm (bat x b) (mat w) := by
  funext s r; unfold bat mat mm; pointwise [dC]

theorem dK_at (c : FVec Ideal S4x256x256 .f32) (w : FVec Ideal S256x4096 .f32) (b : Fin 4) (s : Fin 256) (h : Fin 32) (d : Fin 128) :
    dK c w (ix4 b s h d) = cols (mm (bat c b) (mat w)) h.val (w := 128) (by omega) s d := by
  unfold bat mat mm cols; pointwise [dK]

theorem dQ_at (x : FVec Ideal S4x256x4096 .f32) (w : FVec Ideal S4096x4096 .f32) (b : Fin 4) (s : Fin 256) (h : Fin 32) (d : Fin 128) :
    dQ x w (ix4 b s h d) = cols (mm (bat x b) (mat w)) h.val (w := 128) (by omega) s d := by
  unfold bat mat mm cols; pointwise [dQ]

theorem dQR_at (x : FVec Ideal S4x256x4096 .f32) (w : FVec Ideal S4096x2048 .f32) (b : Fin 4) (s : Fin 256) (h : Fin 32) (d : Fin 64) :
    dQR x w (ix4 b s h d) = cols (mm (bat x b) (mat w)) h.val (w := 64) (by omega) s d := by
  unfold bat mat mm cols; pointwise [dQR]

theorem dKR_at (x : FVec Ideal S4x256x4096 .f32) (w : FVec Ideal S4096x64 .f32) (b : Fin 4) (s : Fin 256) (h : Fin 32) (d : Fin 64) :
    dKR x w (ix4 b s h d) = mm (bat x b) (mat w) s d := by
  unfold bat mat mm; pointwise [dKR]

theorem dS_at (q k : FVec Ideal S4x256x32x128 .f32) (qr kr : FVec Ideal S4x256x32x64 .f32) (b : Fin 4) (h : Fin 32) :
    (fun s t => dS q k qr kr (ix4 b h s t)) = score (fun s d => q (ix4 b s h d)) (fun s d => k (ix4 b s h d)) (fun s d => qr (ix4 b s h d)) (fun s d => kr (ix4 b s h d)) := by
  funext s t; unfold score; pointwise [dS]

theorem dE_at (s : FVec Ideal S4x32x256x256 .f32) (b : Fin 4) (h : Fin 32) :
    (fun i t => dE s (ix4 b h i t)) = expo (fun i t => s (ix4 b h i t)) := by
  funext i t; unfold expo; pointwise [dE]

theorem dN_at (e : FVec Ideal S4x32x256x256 .f32) (b : Fin 4) (h : Fin 32) :
    (fun i t => dN e (ix4 b h i t)) = prob (fun i t => e (ix4 b h i t)) := by
  funext i t; unfold prob; pointwise [dN]

theorem dO_at (v : FVec Ideal S4x256x32x128 .f32) (p : FVec Ideal S4x32x256x256 .f32) (b : Fin 4) (s : Fin 256) (n : Fin 4096) :
    dO v p (ix3 b s n) = mm (fun i t => p (ix4 b ⟨n.val / 128, by omega⟩ i t)) (fun t d => v (ix4 b t ⟨n.val / 128, by omega⟩ d)) s ⟨n.val % 128, Nat.mod_lt _ (by decide)⟩ := by
  unfold mm; pointwise [dO]; exact Finset.sum_congr rfl fun _ _ => mul_comm _ _

theorem dOut_at (o : FVec Ideal S4x256x4096 .f32) (w : FVec Ideal S4096x4096 .f32) (b : Fin 4) (s : Fin 256) (n : Fin 4096) :
    dOut o w (ix3 b s n) = mm (bat o b) (mat w) s n := by
  unfold bat mat mm; pointwise [dOut]

/-- The reference's result, batch by batch. -/
theorem dAll_at (x : FVec Ideal S4x256x4096 .f32) (wd : FVec Ideal S4096x256 .f32) (wuk wuv : FVec Ideal S256x4096 .f32) (wq : FVec Ideal S4096x4096 .f32)
    (wqr : FVec Ideal S4096x2048 .f32) (wkr : FVec Ideal S4096x64 .f32) (wo : FVec Ideal S4096x4096 .f32) (b : Fin 4) (s : Fin 256) (n : Fin 4096) :
    dAll x wd wuk wuv wq wqr wkr wo (ix3 b s n)
      = block (bat x b) (mat wd) (mat wuk) (mat wuv) (mat wq) (mat wqr) (mat wkr) (mat wo) s n := by
  unfold dAll block
  rw [dOut_at]
  congr 1
  funext i j
  show dO _ _ (ix3 b i j) = _
  rw [dO_at, dN_at, dE_at, dS_at]
  unfold heads head
  simp only [dQ_at, dK_at, dQR_at, dKR_at, dC_at]

end Cert.K.Ref

end
-- ==== Proof.Equation.lean ====
/-
The equation: every device's result is the reference's, when the devices are given their parts of the reference's arrays.
-/
module

public import proofs.«01_k».proof.Proof.Frames
public import proofs.«01_k».proof.Proof.KernelValue
public import proofs.«01_k».proof.Proof.RefValue
public import Idealize.ShloMosaic.Lib.Pipeline.ValueKit.Geometry

@[expose] public section

noncomputable section

namespace Cert.K

open Cert.KernelIdeal Cert.KernelIdeal.Gen
open Idealize.ShloMosaic Idealize.ShloMosaic.TcCoe
open Idealize.ShloMosaic.Pointwise
open Idealize.SL.Sem
open Cert.K.Spec

section
variable {F : FTy → Type} [FloatOps F] (m : (ℓ : Loc nD τ sig) → Buf (Elt F) ℓ)

/-- The result array at the end. -/
theorem arr_out (c : Dev nD) : (dat0 m c).arrAt 4 cfg0.N = OUT (I₀ m) c :=
  (dat0 m c).arrAt_eq_of_after_last 4 t0_0 (by decide +kernel) (OUT (I₀ m) c) (fun j => rfl)

/-- A window on the whole of an array reads the array. -/
theorem iblk_whole (w : Fin cfg0.W) (h : ∀ a, (cfg0.win w).index t0_0 a = 0) (j : ((cfg0.win w).xblock (cfg0.grid.coords t0_0)).Idx) (a : Fin (cfg0.win w).shape.rank) :
    (((cfg0.win w).rect t0_0).emb j a : ℕ) = j a := (cfg0.win w).rect_emb_val_of_index_zero t0_0 a (h a) j

theorem wd_eq (c : Dev nD) : (I₀ m).wd c = m ((c : Thread nD τ).loc main_arg1) := by
  rw [← V_main_arg1 m c]; funext j; exact congrArg (V m c main_arg1) (funext fun a => Fin.ext (iblk_whole 0 (by decide +kernel) j a))

theorem wuk_eq (c : Dev nD) : (I₀ m).wuk c = m ((c : Thread nD τ).loc main_arg2) := by
  rw [← V_main_arg2 m c]; funext j; exact congrArg (V m c main_arg2) (funext fun a => Fin.ext (iblk_whole 1 (by decide +kernel) j a))

theorem wuv_eq (c : Dev nD) : (I₀ m).wuv c = m ((c : Thread nD τ).loc main_arg3) := by
  rw [← V_main_arg3 m c]; funext j; exact congrArg (V m c main_arg3) (funext fun a => Fin.ext (iblk_whole 2 (by decide +kernel) j a))

theorem V_main_v1 (c : Dev nD) : V m c main_v1 = transpose S64x4096 [1, 0] (m ((c : Thread nD τ).loc main_arg6)) transposes_S4096x64_S64x4096_1_0 := by
  show StableHlo.after hostOps0 (fun b => m (c, b)) main_v1 = _
  unfold hostOps0
  simp only [List.flatten_cons, List.flatten_nil, List.append_nil]
  after_results_simp <;> rfl

theorem wkr_eq (c : Dev nD) : (I₀ m).wkr c = V m c main_v1 := by
  funext j; exact congrArg (V m c main_v1) (funext fun a => Fin.ext (iblk_whole 3 (by decide +kernel) j a))
end

/-! ## Parts of the reference's arrays -/

theorem cut1_0 : ∀ c : Dev nD, (Layout.meshBlock [2, 2, 2] ![[], [2]] c (by decide) 0).val = 0 := by decide +kernel
theorem cut1_1 : ∀ c : Dev nD, (Layout.meshBlock [2, 2, 2] ![[], [2]] c (by decide) 1).val = c.val % 2 := by decide +kernel
theorem cut0_0 : ∀ c : Dev nD, (Layout.meshBlock [2, 2, 2] ![[2], []] c (by decide) 0).val = c.val % 2 := by decide +kernel
theorem cut0_1 : ∀ c : Dev nD, (Layout.meshBlock [2, 2, 2] ![[2], []] c (by decide) 1).val = 0 := by decide +kernel

/-- A device's columns. -/
theorem colsPart (c : Dev nD) (w : FVec Ideal ⟨2, ![4096, 256]⟩ .f32) (e : Fin 4096) (r : Fin 128) :
    Layout.blockN ⟨2, ![4096, 128]⟩ ⟨2, ![4096, 256]⟩ (Layout.meshBlock [2, 2, 2] ![[], [2]] c) w (by decide) (ix2 e r) = w (ix2 e (half c 256 rfl r)) := by
  rw [Layout.blockN_apply]
  refine congrArg w (funext fun a => Fin.ext ?_)
  match a with
  | ⟨0, _⟩ => exact (Layout.TilesN.idx_val _ _ _ _).trans (by show (Layout.meshBlock [2, 2, 2] ![[], [2]] c (by decide) 0).val * 4096 + e.val = e.val; rw [cut1_0]; omega)
  | ⟨1, _⟩ => exact (Layout.TilesN.idx_val _ _ _ _).trans (by show (Layout.meshBlock [2, 2, 2] ![[], [2]] c (by decide) 1).val * 128 + r.val = 128 * (c.val % 2) + r.val; rw [cut1_1]; omega)

/-- A device's rows. -/
theorem rowsPart (c : Dev nD) (w : FVec Ideal ⟨2, ![256, 4096]⟩ .f32) (r : Fin 128) (n : Fin 4096) :
    Layout.blockN ⟨2, ![128, 4096]⟩ ⟨2, ![256, 4096]⟩ (Layout.meshBlock [2, 2, 2] ![[2], []] c) w (by decide) (ix2 r n) = w (ix2 (half c 256 rfl r) n) := by
  rw [Layout.blockN_apply]
  refine congrArg w (funext fun a => Fin.ext ?_)
  match a with
  | ⟨0, _⟩ => exact (Layout.TilesN.idx_val _ _ _ _).trans (by show (Layout.meshBlock [2, 2, 2] ![[2], []] c (by decide) 0).val * 128 + r.val = 128 * (c.val % 2) + r.val; rw [cut0_0]; omega)
  | ⟨1, _⟩ => exact (Layout.TilesN.idx_val _ _ _ _).trans (by show (Layout.meshBlock [2, 2, 2] ![[2], []] c (by decide) 1).val * 4096 + n.val = n.val; rw [cut0_1]; omega)

/-! ## The claim -/

theorem algebraic : Cert.algebraic_KernelIdeal_ReferenceIdeal (hKernelIdeal := Cert.KernelIdeal.Gen.facts) (hReferenceIdeal := Cert.ReferenceIdeal.Gen.facts) := by
  intro m g m' g' _ h
  have A : Agree (I₀ m) (Ref.bat (m' (((0 : Dev Cert.ReferenceIdeal.nD) : Thread Cert.ReferenceIdeal.nD Cert.ReferenceIdeal.τ).loc Cert.ReferenceIdeal.main_arg0)))
      (Ref.mat (m' (((0 : Dev Cert.ReferenceIdeal.nD) : Thread Cert.ReferenceIdeal.nD Cert.ReferenceIdeal.τ).loc Cert.ReferenceIdeal.main_arg1)))
      (Ref.mat (m' (((0 : Dev Cert.ReferenceIdeal.nD) : Thread Cert.ReferenceIdeal.nD Cert.ReferenceIdeal.τ).loc Cert.ReferenceIdeal.main_arg2)))
      (Ref.mat (m' (((0 : Dev Cert.ReferenceIdeal.nD) : Thread Cert.ReferenceIdeal.nD Cert.ReferenceIdeal.τ).loc Cert.ReferenceIdeal.main_arg3)))
      (Ref.mat (m' (((0 : Dev Cert.ReferenceIdeal.nD) : Thread Cert.ReferenceIdeal.nD Cert.ReferenceIdeal.τ).loc Cert.ReferenceIdeal.main_arg4)))
      (Ref.mat (m' (((0 : Dev Cert.ReferenceIdeal.nD) : Thread Cert.ReferenceIdeal.nD Cert.ReferenceIdeal.τ).loc Cert.ReferenceIdeal.main_arg5)))
      (Ref.mat (m' (((0 : Dev Cert.ReferenceIdeal.nD) : Thread Cert.ReferenceIdeal.nD Cert.ReferenceIdeal.τ).loc Cert.ReferenceIdeal.main_arg6)))
      (Ref.mat (m' (((0 : Dev Cert.ReferenceIdeal.nD) : Thread Cert.ReferenceIdeal.nD Cert.ReferenceIdeal.τ).loc Cert.ReferenceIdeal.main_arg7))) := by
    constructor
    · intro c b s e; exact congrFun ((V_main_arg0 m c).trans (h c).1) _
    · intro c e r; exact (congrFun ((wd_eq m c).trans (h c).2.1) _).trans (colsPart c _ e r)
    · intro c r n; exact (congrFun ((wuk_eq m c).trans (h c).2.2.1) _).trans (rowsPart c _ r n)
    · intro c r n; exact (congrFun ((wuv_eq m c).trans (h c).2.2.2.1) _).trans (rowsPart c _ r n)
    · intro c e n; exact congrFun ((V_main_arg4 m c).trans (h c).2.2.2.2.1) _
    · intro c e n; exact congrFun ((V_main_arg5 m c).trans (h c).2.2.2.2.2.1) _
    · intro c d e
      refine (congrFun ((wkr_eq m c).trans (V_main_v1 m c)) _).trans ?_
      rw [(h c).2.2.2.2.2.2.1]
      unfold Ref.mat
      pointwise
    · intro c e n; exact congrFun ((V_main_arg7 m c).trans (h c).2.2.2.2.2.2.2) _
  refine ⟨Cert.ReferenceIdeal.Value.res_out0 m' 0, ?_, ?_⟩
  · refine (θ_run defs _ _).mono (fun r hr c => ⟨?_, hr.kept c⟩) (run_main (F := Ideal) m g)
    refine ((hr.1 c).1 4).trans ((arr_out m c).trans (funext fun i => ?_))
    obtain ⟨b, s, n, rfl⟩ : ∃ (b : Fin 4) (s : Fin 256) (n : Fin 4096), i = ix3 b s n := ⟨i 0, i 1, i 2, eq_ix3 i⟩
    exact (OUT_at A c b s n).trans ((congrFun (Ref.res_eq m' 0) _).trans (Ref.dAll_at ..)).symm
  · exact (θ_run Cert.ReferenceIdeal.defs _ _).mono (fun r hr => hr 0) (Cert.ReferenceIdeal.Value.run (F := Ideal) m' g')

end Cert.K

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.K.frame_kernel, Cert.K.frame_ideal, frame_reference, trivial, Cert.K.algebraic⟩

end Cert.Proof

end
